-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v33_0)) (v1 : (c : Dev Cert.ProjIdeal.nD) → Buf (Elt Ideal) ((c.tc : Thread Cert.ProjIdeal.nD Cert.ProjIdeal.τ).loc Cert.ProjIdeal.main_v33_1)) (v2 : (c : Dev Cert.ProjIdeal.nD) → Buf (Elt Ideal) ((c.tc : Thread Cert.ProjIdeal.nD Cert.ProjIdeal.τ).loc Cert.ProjIdeal.main_v33_2)) (v3 : (c : Dev Cert.ProjIdeal.nD) → Buf (Elt Ideal) ((c.tc : Thread Cert.ProjIdeal.nD Cert.ProjIdeal.τ).loc Cert.ProjIdeal.main_v33_3)) (v4 : (c : Dev Cert.ProjIdeal.nD) → Buf (Elt Ideal) ((c.tc : Thread Cert.ProjIdeal.nD Cert.ProjIdeal.τ).loc Cert.ProjIdeal.main_v33_4)) (v5 : (c : Dev Cert.ProjIdeal.nD) → Buf (Elt Ideal) ((c.tc : Thread Cert.ProjIdeal.nD Cert.ProjIdeal.τ).loc Cert.ProjIdeal.main_v33_5)) (v6 : (c : Dev Cert.ProjIdeal.nD) → Buf (Elt Ideal) ((c.tc : Thread Cert.ProjIdeal.nD Cert.ProjIdeal.τ).loc Cert.ProjIdeal.main_v33_6)) (v7 : (c : Dev Cert.ProjIdeal.nD) → Buf (Elt Ideal) ((c.tc : Thread Cert.ProjIdeal.nD Cert.ProjIdeal.τ).loc Cert.ProjIdeal.main_v33_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v33_0) = v0 c
          ∧ r.2.mem ((c.tc : Thread Cert.ProjIdeal.nD Cert.ProjIdeal.τ).loc Cert.ProjIdeal.main_v33_1) = v1 c
          ∧ r.2.mem ((c.tc : Thread Cert.ProjIdeal.nD Cert.ProjIdeal.τ).loc Cert.ProjIdeal.main_v33_2) = v2 c
          ∧ r.2.mem ((c.tc : Thread Cert.ProjIdeal.nD Cert.ProjIdeal.τ).loc Cert.ProjIdeal.main_v33_3) = v3 c
          ∧ r.2.mem ((c.tc : Thread Cert.ProjIdeal.nD Cert.ProjIdeal.τ).loc Cert.ProjIdeal.main_v33_4) = v4 c
          ∧ r.2.mem ((c.tc : Thread Cert.ProjIdeal.nD Cert.ProjIdeal.τ).loc Cert.ProjIdeal.main_v33_5) = v5 c
          ∧ r.2.mem ((c.tc : Thread Cert.ProjIdeal.nD Cert.ProjIdeal.τ).loc Cert.ProjIdeal.main_v33_6) = v6 c
          ∧ r.2.mem ((c.tc : Thread Cert.ProjIdeal.nD Cert.ProjIdeal.τ).loc Cert.ProjIdeal.main_v33_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v110) = v0 c
          ∧ r.2.mem ((c.tc : Thread Cert.ProjRefIdeal.nD Cert.ProjRefIdeal.τ).loc Cert.ProjRefIdeal.main_v112) = v1 c
          ∧ r.2.mem ((c.tc : Thread Cert.ProjRefIdeal.nD Cert.ProjRefIdeal.τ).loc Cert.ProjRefIdeal.main_v114) = v2 c
          ∧ r.2.mem ((c.tc : Thread Cert.ProjRefIdeal.nD Cert.ProjRefIdeal.τ).loc Cert.ProjRefIdeal.main_v116) = v3 c
          ∧ r.2.mem ((c.tc : Thread Cert.ProjRefIdeal.nD Cert.ProjRefIdeal.τ).loc Cert.ProjRefIdeal.main_v118) = v4 c
          ∧ r.2.mem ((c.tc : Thread Cert.ProjRefIdeal.nD Cert.ProjRefIdeal.τ).loc Cert.ProjRefIdeal.main_v122) = v5 c
          ∧ r.2.mem ((c.tc : Thread Cert.ProjRefIdeal.nD Cert.ProjRefIdeal.τ).loc Cert.ProjRefIdeal.main_v124) = v6 c
          ∧ r.2.mem ((c.tc : Thread Cert.ProjRefIdeal.nD Cert.ProjRefIdeal.τ).loc Cert.ProjRefIdeal.main_v125) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v18) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Compress_CompressIdeal : Prop :=
  True

def algebraic_CompressIdeal_CompressRefIdeal_on_there [hCompressIdeal : Cert.CompressIdeal.Facts] [hCompressRefIdeal : Cert.CompressRefIdeal.Facts] [hOn_there : Cert.On_there.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v53_0)) (v1 : (c : Dev Cert.CompressIdeal.nD) → Buf (Elt Ideal) ((c.tc : Thread Cert.CompressIdeal.nD Cert.CompressIdeal.τ).loc Cert.CompressIdeal.main_v53_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          (∀ i : (⟨3, ![16, 256, 128]⟩ : Shape).Idx, (Cert.On_there.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7))).1 i = 1#1 → r.2.mem ((c.tc : Thread Cert.CompressIdeal.nD Cert.CompressIdeal.τ).loc Cert.CompressIdeal.main_v53_0) i = v0 c i)
          ∧ (∀ i : (⟨3, ![16, 128, 256]⟩ : Shape).Idx, (Cert.On_there.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7))).2 i = 1#1 → r.2.mem ((c.tc : Thread Cert.CompressIdeal.nD Cert.CompressIdeal.τ).loc Cert.CompressIdeal.main_v53_1) i = v1 c i)
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          (∀ i : (⟨3, ![16, 256, 128]⟩ : Shape).Idx, (Cert.On_there.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7))).1 i = 1#1 → r.2.mem ((c.tc : Thread Cert.CompressRefIdeal.nD Cert.CompressRefIdeal.τ).loc Cert.CompressRefIdeal.main_v84) i = v0 c i)
          ∧ (∀ i : (⟨3, ![16, 128, 256]⟩ : Shape).Idx, (Cert.On_there.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6)) (m ((c.tc : Thread Cert.CompressIdeal.nD Cert.CompressIdeal.τ).loc Cert.CompressIdeal.main_arg7))).2 i = 1#1 → r.2.mem ((c.tc : Thread Cert.CompressRefIdeal.nD Cert.CompressRefIdeal.τ).loc Cert.CompressRefIdeal.main_v88) i = v1 c i)
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7))

def preserves_Attn_AttnIdeal : Prop :=
  True

def Claim : Prop :=
  ∃ (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hCompress : Cert.Compress.Facts) (hCompressIdeal : Cert.CompressIdeal.Facts) (hCompressRefIdeal : Cert.CompressRefIdeal.Facts) (hAttn : Cert.Attn.Facts) (hAttnIdeal : Cert.AttnIdeal.Facts) (hOn_there : Cert.On_there.Facts),
    quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Compress (hCompress := hCompress)
    ∧ quiescent_CompressIdeal (hCompressIdeal := hCompressIdeal)
    ∧ quiescent_CompressRefIdeal (hCompressRefIdeal := hCompressRefIdeal)
    ∧ quiescent_Attn (hAttn := hAttn)
    ∧ quiescent_AttnIdeal (hAttnIdeal := hAttnIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Compress_CompressIdeal
    ∧ algebraic_CompressIdeal_CompressRefIdeal_on_there (hCompressIdeal := hCompressIdeal) (hCompressRefIdeal := hCompressRefIdeal) (hOn_there := hOn_there)
    ∧ preserves_Attn_AttnIdeal
-- ==== On_there.lean ====
abbrev S16x256x2048 : Shape := ⟨3, ![16, 256, 2048]⟩
abbrev S1x2048x128 : Shape := ⟨3, ![1, 2048, 128]⟩
abbrev S1x128x64 : Shape := ⟨3, ![1, 128, 64]⟩
abbrev S1x32x64 : Shape := ⟨3, ![1, 32, 64]⟩
abbrev S16x256x128 : Shape := ⟨3, ![16, 256, 128]⟩
abbrev S_ : Shape := ⟨0, ![]⟩
abbrev S16x128x256 : Shape := ⟨3, ![16, 128, 256]⟩

class Facts : Prop where
  bcast_S_S16x256x128 : S_.BroadcastsInDim S16x256x128 (![] : Fin 0 → Fin S16x256x128.rank)
  bcast_S_S16x128x256 : S_.BroadcastsInDim S16x128x256 (![] : Fin 0 → Fin S16x128x256.rank)

variable [Facts]

def fn {F : FTy → Type} [FloatOps F] (main_arg0 : FVec F S16x256x2048 .bf16) (main_arg1 : FVec F S16x256x2048 .bf16) (main_arg2 : FVec F S1x2048x128 .f32) (main_arg3 : FVec F S1x128x64 .f32) (main_arg4 : FVec F S1x32x64 .f32) (main_arg5 : FVec F S1x2048x128 .f32) (main_arg6 : FVec F S1x128x64 .f32) (main_arg7 : FVec F S1x32x64 .f32) : IVec S16x256x128 1 × IVec S16x128x256 1 :=
  let main_v0 : IVec S16x256x128 32 := iotaInDim S16x256x128 32 1
  let main_c : IVec S_ 32 := constantI S_ 32 255#32
  let main_v1 : IVec S16x256x128 32 := broadcastInDim S16x256x128 ![] bcast_S_S16x256x128 main_c
  let main_v2 : IVec S16x256x128 1 := cmpi .slt main_v0 main_v1
  let main_v3 : IVec S16x128x256 32 := iotaInDim S16x128x256 32 2
  let main_c_0 : IVec S_ 32 := constantI S_ 32 255#32
  let main_v4 : IVec S16x128x256 32 := broadcastInDim S16x128x256 ![] bcast_S_S16x128x256 main_c_0
  let main_v5 : IVec S16x128x256 1 := cmpi .slt main_v3 main_v4
  (main_v2, main_v5)
-- ==== Proj.lean ====
abbrev S16x4096x1024 : Shape := ⟨3, ![16, 4096, 1024]⟩
abbrev S1x1024 : Shape := ⟨2, ![1, 1024]⟩
abbrev S1x1024x3352 : Shape := ⟨3, ![1, 1024, 3352]⟩
abbrev S1x8x64 : Shape := ⟨3, ![1, 8, 64]⟩
abbrev S1x8x128x128 : Shape := ⟨4, ![1, 8, 128, 128]⟩
abbrev S1x8x128 : Shape := ⟨3, ![1, 8, 128]⟩
abbrev S1024x3352 : Shape := ⟨2, ![1024, 3352]⟩
abbrev S1024x512 : Shape := ⟨2, ![1024, 512]⟩
abbrev S1024x128 : Shape := ⟨2, ![1024, 128]⟩
abbrev S1024x24 : Shape := ⟨2, ![1024, 24]⟩
abbrev S1024x1536 : Shape := ⟨2, ![1024, 1536]⟩
abbrev S1024x2x4x3 : Shape := ⟨4, ![1024, 2, 4, 3]⟩
abbrev S1024x2x3x4 : Shape := ⟨4, ![1024, 2, 3, 4]⟩
abbrev S1024x2x12 : Shape := ⟨3, ![1024, 2, 12]⟩
abbrev S_ : Shape := ⟨0, ![]⟩
abbrev S1024x2x16 : Shape := ⟨3, ![1024, 2, 16]⟩
abbrev S1024x32 : Shape := ⟨2, ![1024, 32]⟩
abbrev S1024x1824 : Shape := ⟨2, ![1024, 1824]⟩
abbrev S1824x1024 : Shape := ⟨2, ![1824, 1024]⟩
abbrev S8x64 : Shape := ⟨2, ![8, 64]⟩
abbrev S8x64x1 : Shape := ⟨3, ![8, 64, 1]⟩
abbrev S8x128x128 : Shape := ⟨3, ![8, 128, 128]⟩
abbrev S8x128 : Shape := ⟨2, ![8, 128]⟩
abbrev S8x1x128 : Shape := ⟨3, ![8, 1, 128]⟩
abbrev S1024 : Shape := ⟨1, ![1024]⟩
abbrev S16x4096x512 : Shape := ⟨3, ![16, 4096, 512]⟩
abbrev S16x256x2048 : Shape := ⟨3, ![16, 256, 2048]⟩
abbrev S16x4096x256 : Shape := ⟨3, ![16, 4096, 256]⟩
abbrev S16x32x256x128 : Shape := ⟨4, ![16, 32, 256, 128]⟩
abbrev S16x32x32x128 : Shape := ⟨4, ![16, 32, 32, 128]⟩
abbrev S1x1024x1024 : Shape := ⟨3, ![1, 1024, 1024]⟩
abbrev S1x1024x512 : Shape := ⟨3, ![1, 1024, 512]⟩
abbrev S1x64x2048 : Shape := ⟨3, ![1, 64, 2048]⟩
abbrev S1x1024x256 : Shape := ⟨3, ![1, 1024, 256]⟩
abbrev S1x8x256x128 : Shape := ⟨4, ![1, 8, 256, 128]⟩
abbrev S1x8x32x128 : Shape := ⟨4, ![1, 8, 32, 128]⟩
abbrev S2x1024x128 : Shape := ⟨3, ![2, 1024, 128]⟩
abbrev S1024x1024 : Shape := ⟨2, ![1024, 1024]⟩
abbrev S1024x1 : Shape := ⟨2, ![1024, 1]⟩
abbrev S288x1024 : Shape := ⟨2, ![288, 1024]⟩
abbrev S256x1024 : Shape := ⟨2, ![256, 1024]⟩
abbrev S32x1024 : Shape := ⟨2, ![32, 1024]⟩
abbrev S256x128 : Shape := ⟨2, ![256, 128]⟩
abbrev S1x1x256x128 : Shape := ⟨4, ![1, 1, 256, 128]⟩
abbrev S32x128 : Shape := ⟨2, ![32, 128]⟩
abbrev S1x1x32x128 : Shape := ⟨4, ![1, 1, 32, 128]⟩
abbrev S512x1024 : Shape := ⟨2, ![512, 1024]⟩
abbrev S8x64x1024 : Shape := ⟨3, ![8, 64, 1024]⟩
abbrev S8x1024 : Shape := ⟨2, ![8, 1024]⟩
abbrev S8x1x1024 : Shape := ⟨3, ![8, 1, 1024]⟩
abbrev S128x128 : Shape := ⟨2, ![128, 128]⟩
abbrev S1x64x1024 : Shape := ⟨3, ![1, 64, 1024]⟩
abbrev S64x1024 : Shape := ⟨2, ![64, 1024]⟩
abbrev S64x128 : Shape := ⟨2, ![64, 128]⟩
abbrev S512x128 : Shape := ⟨2, ![512, 128]⟩
abbrev S1x128x128 : Shape := ⟨3, ![1, 128, 128]⟩
abbrev S1x1x128 : Shape := ⟨3, ![1, 1, 128]⟩
abbrev S1x128 : Shape := ⟨2, ![1, 128]⟩
abbrev S1x1024x128 : Shape := ⟨3, ![1, 1024, 128]⟩
abbrev S1x64x128 : Shape := ⟨3, ![1, 64, 128]⟩
abbrev S1024x256 : Shape := ⟨2, ![1024, 256]⟩

abbrev nBuf : Space → Nat
  | .hbm => 50
  | .vmem => 26
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x3352, .f32⟩
  | .hbm, ⟨3, _⟩ => ⟨S1x8x64, .f32⟩
  | .hbm, ⟨4, _⟩ => ⟨S1x8x64, .f32⟩
  | .hbm, ⟨5, _⟩ => ⟨S1x8x128x128, .f32⟩
  | .hbm, ⟨6, _⟩ => ⟨S1x8x128, .f32⟩
  | .hbm, ⟨7, _⟩ => ⟨S1024x3352, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x24, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x1536, .f32⟩
  | .hbm, ⟨21, _⟩ => ⟨S1024x1536, .bf16⟩
  | .hbm, ⟨22, _⟩ => ⟨S1024x2x4x3, .f32⟩
  | .hbm, ⟨23, _⟩ => ⟨S1024x2x3x4, .f32⟩
  | .hbm, ⟨24, _⟩ => ⟨S1024x2x12, .f32⟩
  | .hbm, ⟨25, _⟩ => ⟨S_, .i32⟩
  | .hbm, ⟨26, _⟩ => ⟨S_, .f32⟩
  | .hbm, ⟨27, _⟩ => ⟨S1024x2x16, .f32⟩
  | .hbm, ⟨28, _⟩ => ⟨S1024x32, .f32⟩
  | .hbm, ⟨29, _⟩ => ⟨S1024x1824, .f32⟩
  | .hbm, ⟨30, _⟩ => ⟨S1824x1024, .f32⟩
  | .hbm, ⟨31, _⟩ => ⟨S1824x1024, .bf16⟩
  | .hbm, ⟨32, _⟩ => ⟨S8x64, .f32⟩
  | .hbm, ⟨33, _⟩ => ⟨S8x64x1, .f32⟩
  | .hbm, ⟨34, _⟩ => ⟨S8x64, .f32⟩
  | .hbm, ⟨35, _⟩ => ⟨S8x64x1, .f32⟩
  | .hbm, ⟨36, _⟩ => ⟨S8x128x128, .f32⟩
  | .hbm, ⟨37, _⟩ => ⟨S8x128x128, .f32⟩
  | .hbm, ⟨38, _⟩ => ⟨S8x128, .f32⟩
  | .hbm, ⟨39, _⟩ => ⟨S8x1x128, .f32⟩
  | .hbm, ⟨40, _⟩ => ⟨S1024, .f32⟩
  | .hbm, ⟨41, _⟩ => ⟨S1x1024, .f32⟩
  | .hbm, ⟨42, _⟩ => ⟨S16x4096x512, .bf16⟩
  | .hbm, ⟨43, _⟩ => ⟨S16x256x2048, .bf16⟩
  | .hbm, ⟨44, _⟩ => ⟨S16x256x2048, .bf16⟩
  | .hbm, ⟨45, _⟩ => ⟨S16x4096x256, .bf16⟩
  | .hbm, ⟨46, _⟩ => ⟨S16x4096x512, .bf16⟩
  | .hbm, ⟨47, _⟩ => ⟨S16x32x256x128, .bf16⟩
  | .hbm, ⟨48, _⟩ => ⟨S16x32x32x128, .f32⟩
  | .hbm, ⟨49, _⟩ => ⟨S16x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1536, .bf16⟩
  | .local _ .vmem, ⟨4, _⟩ => ⟨S1824x1024, .bf16⟩
  | .local _ .vmem, ⟨5, _⟩ => ⟨S8x64x1, .f32⟩
  | .local _ .vmem, ⟨6, _⟩ => ⟨S8x64x1, .f32⟩
  | .local _ .vmem, ⟨7, _⟩ => ⟨S8x128x128, .f32⟩
  | .local _ .vmem, ⟨8, _⟩ => ⟨S8x1x128, .f32⟩
  | .local _ .vmem, ⟨9, _⟩ => ⟨S1x1024x512, .bf16⟩
  | .local _ .vmem, ⟨10, _⟩ => ⟨S1x1024x512, .bf16⟩
  | .local _ .vmem, ⟨11, _⟩ => ⟨S1x64x2048, .bf16⟩
  | .local _ .vmem, ⟨12, _⟩ => ⟨S1x64x2048, .bf16⟩
  | .local _ .vmem, ⟨13, _⟩ => ⟨S1x64x2048, .bf16⟩
  | .local _ .vmem, ⟨14, _⟩ => ⟨S1x64x2048, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x8x256x128, .bf16⟩
  | .local _ .vmem, ⟨20, _⟩ => ⟨S1x8x256x128, .bf16⟩
  | .local _ .vmem, ⟨21, _⟩ => ⟨S1x8x32x128, .f32⟩
  | .local _ .vmem, ⟨22, _⟩ => ⟨S1x8x32x128, .f32⟩
  | .local _ .vmem, ⟨23, _⟩ => ⟨S1x1024x512, .bf16⟩
  | .local _ .vmem, ⟨24, _⟩ => ⟨S1x1024x512, .bf16⟩
  | .local _ .vmem, ⟨25, _⟩ => ⟨S2x1024x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev main_v33_6 : Ref sig .tc := ⟨.hbm, 48, rfl⟩
abbrev main_v33_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1824x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x32x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjRefIdeal.lean ====
abbrev S16x4096x1024 : Shape := ⟨3, ![16, 4096, 1024]⟩
abbrev S1x1024 : Shape := ⟨2, ![1, 1024]⟩
abbrev S1x1024x3352 : Shape := ⟨3, ![1, 1024, 3352]⟩
abbrev S1x8x64 : Shape := ⟨3, ![1, 8, 64]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x3352 : Shape := ⟨2, ![1024, 3352]⟩
abbrev S16x4096x3352 : Shape := ⟨3, ![16, 4096, 3352]⟩
abbrev S16x4096x512 : Shape := ⟨3, ![16, 4096, 512]⟩
abbrev S16x4096x128 : Shape := ⟨3, ![16, 4096, 128]⟩
abbrev S16x4096x24 : Shape := ⟨3, ![16, 4096, 24]⟩
abbrev S16x4096x2x4x3 : Shape := ⟨5, ![16, 4096, 2, 4, 3]⟩
abbrev S8x64 : Shape := ⟨2, ![8, 64]⟩
abbrev S8x128x128 : Shape := ⟨3, ![8, 128, 128]⟩
abbrev S8x128 : Shape := ⟨2, ![8, 128]⟩
abbrev S16x32x128x8x64 : Shape := ⟨5, ![16, 32, 128, 8, 64]⟩
abbrev S16x32x128x8 : Shape := ⟨4, ![16, 32, 128, 8]⟩
abbrev S16x32x128x8x1 : Shape := ⟨5, ![16, 32, 128, 8, 1]⟩
abbrev S1x1x1x8x64 : Shape := ⟨5, ![1, 1, 1, 8, 64]⟩
abbrev S128x128 : Shape := ⟨2, ![128, 128]⟩
abbrev S8x16x32x64x128 : Shape := ⟨5, ![8, 16, 32, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16x4096x2x3x4 : Shape := ⟨5, ![16, 4096, 2, 3, 4]⟩
abbrev S16x4096x2x12 : Shape := ⟨4, ![16, 4096, 2, 12]⟩
abbrev S16x4096x2x16 : Shape := ⟨4, ![16, 4096, 2, 16]⟩
abbrev S16x256x2048 : Shape := ⟨3, ![16, 256, 2048]⟩
abbrev S16x4096x256 : Shape := ⟨3, ![16, 4096, 256]⟩
abbrev S16x32x128x256 : Shape := ⟨4, ![16, 32, 128, 256]⟩
abbrev S16x32x256x128 : Shape := ⟨4, ![16, 32, 256, 128]⟩
abbrev S16x32x128x32 : Shape := ⟨4, ![16, 32, 128, 32]⟩
abbrev S16x32x32x128 : Shape := ⟨4, ![16, 32, 32, 128]⟩

abbrev nBuf : Space → Nat
  | .hbm => 183
  | .vmem => 0
  | .smem => 0
  | _ => 0

abbrev hbmTy0_0 (i : Nat) : BufTy := match i % 128 with
  | 0 => ⟨S16x4096x1024, .f32⟩
  | 1 => ⟨S1x1024, .f32⟩
  | 2 => ⟨S1x1024x3352, .f32⟩
  | 3 => ⟨S1x8x64, .f32⟩
  | 4 => ⟨S1x8x64, .f32⟩
  | 5 => ⟨S1x8x128x128, .f32⟩
  | 6 => ⟨S1x8x128, .f32⟩
  | 7 => ⟨S1024, .f32⟩
  | 8 => ⟨S16x4096x1024, .f32⟩
  | 9 => ⟨S_, .f32⟩
  | 10 => ⟨S16x4096, .f32⟩
  | 11 => ⟨S16x4096x1, .f32⟩
  | 12 => ⟨S_, .f32⟩
  | 13 => ⟨S16x4096x1, .f32⟩
  | 14 => ⟨S16x4096x1, .f32⟩
  | 15 => ⟨S_, .f32⟩
  | 16 => ⟨S16x4096x1, .f32⟩
  | 17 => ⟨S16x4096x1, .f32⟩
  | 18 => ⟨S16x4096x1, .f32⟩
  | 19 => ⟨S16x4096x1024, .f32⟩
  | 20 => ⟨S16x4096x1024, .f32⟩
  | 21 => ⟨S1x1x1024, .f32⟩
  | 22 => ⟨S16x4096x1024, .f32⟩
  | 23 => ⟨S16x4096x1024, .f32⟩
  | 24 => ⟨S1024x3352, .f32⟩
  | 25 => ⟨S16x4096x3352, .f32⟩
  | 26 => ⟨S16x4096x512, .f32⟩
  | 27 => ⟨S16x4096x128, .f32⟩
  | 28 => ⟨S16x4096x128, .f32⟩
  | 29 => ⟨S16x4096x128, .f32⟩
  | 30 => ⟨S16x4096x128, .f32⟩
  | 31 => ⟨S16x4096x128, .f32⟩
  | 32 => ⟨S16x4096x128, .f32⟩
  | 33 => ⟨S16x4096x24, .f32⟩
  | 34 => ⟨S16x4096x512, .f32⟩
  | 35 => ⟨S16x4096x512, .f32⟩
  | 36 => ⟨S16x4096x512, .f32⟩
  | 37 => ⟨S16x4096x512, .f32⟩
  | 38 => ⟨S16x4096x24, .f32⟩
  | 39 => ⟨S16x4096x24, .f32⟩
  | 40 => ⟨S_, .f32⟩
  | 41 => ⟨S16x4096x24, .f32⟩
  | 42 => ⟨S16x4096x24, .f32⟩
  | 43 => ⟨S_, .f32⟩
  | 44 => ⟨S16x4096x24, .f32⟩
  | 45 => ⟨S16x4096x24, .f32⟩
  | 46 => ⟨S16x4096x2x4x3, .f32⟩
  | 47 => ⟨S16x4096x512, .f32⟩
  | 48 => ⟨S16x4096x512, .f32⟩
  | 49 => ⟨S_, .f32⟩
  | 50 => ⟨S16x4096x512, .f32⟩
  | 51 => ⟨S16x4096x512, .f32⟩
  | 52 => ⟨S16x4096x512, .f32⟩
  | 53 => ⟨S_, .f32⟩
  | 54 => ⟨S16x4096x512, .f32⟩
  | 55 => ⟨S16x4096x512, .f32⟩
  | 56 => ⟨S16x4096x512, .f32⟩
  | 57 => ⟨S_, .f32⟩
  | 58 => ⟨S16x4096x512, .f32⟩
  | 59 => ⟨S16x4096x512, .f32⟩
  | 60 => ⟨S_, .f32⟩
  | 61 => ⟨S16x4096x512, .f32⟩
  | 62 => ⟨S16x4096x512, .f32⟩
  | 63 => ⟨S16x4096x512, .f32⟩
  | 64 => ⟨S16x4096x512, .f32⟩
  | 65 => ⟨S16x4096x512, .f32⟩
  | 66 => ⟨S_, .f32⟩
  | 67 => ⟨S16x4096x512, .f32⟩
  | 68 => ⟨S16x4096x512, .f32⟩
  | 69 => ⟨S16x4096x512, .f32⟩
  | 70 => ⟨S_, .f32⟩
  | 71 => ⟨S16x4096x512, .f32⟩
  | 72 => ⟨S16x4096x512, .f32⟩
  | 73 => ⟨S16x4096x512, .f32⟩
  | 74 => ⟨S_, .f32⟩
  | 75 => ⟨S16x4096x512, .f32⟩
  | 76 => ⟨S16x4096x512, .f32⟩
  | 77 => ⟨S_, .f32⟩
  | 78 => ⟨S16x4096x512, .f32⟩
  | 79 => ⟨S16x4096x512, .f32⟩
  | 80 => ⟨S16x4096x512, .f32⟩
  | 81 => ⟨S8x64, .f32⟩
  | 82 => ⟨S8x64, .f32⟩
  | 83 => ⟨S8x128x128, .f32⟩
  | 84 => ⟨S8x128, .f32⟩
  | 85 => ⟨S16x32x128x8x64, .f32⟩
  | 86 => ⟨S_, .f32⟩
  | 87 => ⟨S16x32x128x8, .f32⟩
  | 88 => ⟨S16x32x128x8x1, .f32⟩
  | 89 => ⟨S_, .f32⟩
  | 90 => ⟨S16x32x128x8x1, .f32⟩
  | 91 => ⟨S16x32x128x8x1, .f32⟩
  | 92 => ⟨S16x32x128x8x64, .f32⟩
  | 93 => ⟨S16x32x128x8x64, .f32⟩
  | 94 => ⟨S16x32x128x8x64, .f32⟩
  | 95 => ⟨S_, .f32⟩
  | 96 => ⟨S16x32x128x8, .f32⟩
  | 97 => ⟨S16x32x128x8x1, .f32⟩
  | 98 => ⟨S_, .f32⟩
  | 99 => ⟨S16x32x128x8x1, .f32⟩
  | 100 => ⟨S16x32x128x8x1, .f32⟩
  | 101 => ⟨S16x32x128x8x64, .f32⟩
  | 102 => ⟨S16x32x128x8x64, .f32⟩
  | 103 => ⟨S_, .f32⟩
  | 104 => ⟨S16x32x128x8x1, .f32⟩
  | 105 => ⟨S16x32x128x8x1, .f32⟩
  | 106 => ⟨S16x32x128x8x1, .f32⟩
  | 107 => ⟨S16x32x128x8x64, .f32⟩
  | 108 => ⟨S16x32x128x8x64, .f32⟩
  | 109 => ⟨S1x1x1x8x64, .f32⟩
  | 110 => ⟨S16x32x128x8x64, .f32⟩
  | 111 => ⟨S16x32x128x8x64, .f32⟩
  | 112 => ⟨S1x1x1x8x64, .f32⟩
  | 113 => ⟨S16x32x128x8x64, .f32⟩
  | 114 => ⟨S16x32x128x8x64, .f32⟩
  | 115 => ⟨S_, .i1⟩
  | 116 => ⟨S128x128, .i1⟩
  | 117 => ⟨S128x128, .i32⟩
  | 118 => ⟨S_, .i32⟩
  | 119 => ⟨S128x128, .i32⟩
  | 120 => ⟨S128x128, .i32⟩
  | 121 => ⟨S128x128, .i32⟩
  | 122 => ⟨S128x128, .i1⟩
  | 123 => ⟨S_, .i1⟩
  | 124 => ⟨S128x128, .i1⟩
  | 125 => ⟨S128x128, .i1⟩
  | 126 => ⟨S_, .f32⟩
  | 127 => ⟨S_, .f32⟩
  | _ => ⟨S16x4096x1024, .f32⟩

abbrev hbmTy0_1 (i : Nat) : BufTy := match i % 128 with
  | 0 => ⟨S8x128x128, .i1⟩
  | 1 => ⟨S8x128x128, .f32⟩
  | 2 => ⟨S8x128x128, .f32⟩
  | 3 => ⟨S8x16x32x64x128, .f32⟩
  | 4 => ⟨S16x32x128x8x64, .f32⟩
  | 5 => ⟨S128x8, .f32⟩
  | 6 => ⟨S128x8x1, .f32⟩
  | 7 => ⟨S1x1x128x8x1, .f32⟩
  | 8 => ⟨S16x32x128x8x64, .f32⟩
  | 9 => ⟨S16x32x128x8x64, .f32⟩
  | 10 => ⟨S16x32x128x8x64, .f32⟩
  | 11 => ⟨S16x32x128x8x64, .f32⟩
  | 12 => ⟨S16x4096x512, .f32⟩
  | 13 => ⟨S16x4096x512, .f32⟩
  | 14 => ⟨S16x4096x512, .f32⟩
  | 15 => ⟨S_, .f32⟩
  | 16 => ⟨S16x4096x512, .f32⟩
  | 17 => ⟨S16x4096x512, .f32⟩
  | 18 => ⟨S_, .f32⟩
  | 19 => ⟨S16x4096x512, .f32⟩
  | 20 => ⟨S16x4096x512, .f32⟩
  | 21 => ⟨S16x4096x512, .f32⟩
  | 22 => ⟨S16x4096x512, .f32⟩
  | 23 => ⟨S16x4096x2x3x4, .f32⟩
  | 24 => ⟨S16x4096x2x12, .f32⟩
  | 25 => ⟨S_, .f32⟩
  | 26 => ⟨S_, .f32⟩
  | 27 => ⟨S16x4096x2x16, .f32⟩
  | 28 => ⟨S_, .f32⟩
  | 29 => ⟨S16x4096x512, .f32⟩
  | 30 => ⟨S16x4096x512, .f32⟩
  | 31 => ⟨S16x4096x512, .bf16⟩
  | 32 => ⟨S16x4096x128, .bf16⟩
  | 33 => ⟨S16x256x2048, .bf16⟩
  | 34 => ⟨S16x4096x128, .bf16⟩
  | 35 => ⟨S16x256x2048, .bf16⟩
  | 36 => ⟨S16x4096x256, .f32⟩
  | 37 => ⟨S16x4096x256, .bf16⟩
  | 38 => ⟨S16x4096x512, .f32⟩
  | 39 => ⟨S16x4096x512, .f32⟩
  | 40 => ⟨S_, .f32⟩
  | 41 => ⟨S16x4096x512, .f32⟩
  | 42 => ⟨S16x4096x512, .f32⟩
  | 43 => ⟨S_, .f32⟩
  | 44 => ⟨S16x4096x512, .f32⟩
  | 45 => ⟨S16x4096x512, .f32⟩
  | 46 => ⟨S16x4096x512, .f32⟩
  | 47 => ⟨S16x4096x512, .bf16⟩
  | 48 => ⟨S16x4096x256, .f32⟩
  | 49 => ⟨S16x4096x256, .bf16⟩
  | 50 => ⟨S16x32x128x256, .bf16⟩
  | 51 => ⟨S16x32x256x128, .bf16⟩
  | 52 => ⟨S16x32x128x32, .f32⟩
  | 53 => ⟨S16x32x32x128, .f32⟩
  | 54 => ⟨S16x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_c : Ref sig .tc := ⟨.hbm, 115, rfl⟩
abbrev main_v90 : Ref sig .tc := ⟨.hbm, 116, rfl⟩
abbrev main_call0_v0 : Ref sig .tc := ⟨.hbm, 117, rfl⟩
abbrev main_call0_c : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_call0_c_0 : Ref sig .tc := ⟨.hbm, 123, rfl⟩
abbrev main_call0_v5 : Ref sig .tc := ⟨.hbm, 124, rfl⟩
abbrev main_v91 : Ref sig .tc := ⟨.hbm, 125, rfl⟩
abbrev main_cst_17 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call2_v0 : Ref sig .tc := ⟨.hbm, 141, rfl⟩
abbrev main_call2_v1 : Ref sig .tc := ⟨.hbm, 142, rfl⟩
abbrev main_call2_cst : Ref sig .tc := ⟨.hbm, 143, rfl⟩
abbrev main_call2_v2 : Ref sig .tc := ⟨.hbm, 144, rfl⟩
abbrev main_call2_v3 : Ref sig .tc := ⟨.hbm, 145, rfl⟩
abbrev main_call2_cst_0 : Ref sig .tc := ⟨.hbm, 146, rfl⟩
abbrev main_call2_v4 : Ref sig .tc := ⟨.hbm, 147, rfl⟩
abbrev main_call2_v5 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_18 : Ref sig .tc := ⟨.hbm, 153, rfl⟩
abbrev main_call3_v0 : Ref sig .tc := ⟨.hbm, 154, rfl⟩
abbrev main_v107 : Ref sig .tc := ⟨.hbm, 155, rfl⟩
abbrev main_cst_19 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_call4_v0 : Ref sig .tc := ⟨.hbm, 166, rfl⟩
abbrev main_call4_v1 : Ref sig .tc := ⟨.hbm, 167, rfl⟩
abbrev main_call4_cst : Ref sig .tc := ⟨.hbm, 168, rfl⟩
abbrev main_call4_v2 : Ref sig .tc := ⟨.hbm, 169, rfl⟩
abbrev main_call4_v3 : Ref sig .tc := ⟨.hbm, 170, rfl⟩
abbrev main_call4_cst_0 : Ref sig .tc := ⟨.hbm, 171, rfl⟩
abbrev main_call4_v4 : Ref sig .tc := ⟨.hbm, 172, rfl⟩
abbrev main_call4_v5 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩

abbrev nD : Nat := 1
abbrev τ : Topo := Topo.v7x

variable {F : FTy → Type} [FloatOps F]
-- ==== Out.lean ====
abbrev S16x4096x1024 : Shape := ⟨3, ![16, 4096, 1024]⟩
abbrev S16x4096x512 : Shape := ⟨3, ![16, 4096, 512]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S1x1024x512 : Shape := ⟨3, ![1, 1024, 512]⟩
abbrev S1024x512 : Shape := ⟨2, ![1024, 512]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S16x4096x1024 : Shape := ⟨3, ![16, 4096, 1024]⟩
abbrev S16x4096x512 : Shape := ⟨3, ![16, 4096, 512]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x1024, .f32⟩
  | .hbm, ⟨4, _⟩ => ⟨S1024, .f32⟩
  | .hbm, ⟨5, _⟩ => ⟨S16x4096x512, .f32⟩
  | .hbm, ⟨6, _⟩ => ⟨S16x4096x512, .f32⟩
  | .hbm, ⟨7, _⟩ => ⟨S16x4096x1024, .f32⟩
  | .hbm, ⟨8, _⟩ => ⟨S1024x1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S_, .f32⟩
  | .hbm, ⟨13, _⟩ => ⟨S16x4096, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S16x4096x1, .f32⟩
  | .hbm, ⟨22, _⟩ => ⟨S16x4096x1024, .f32⟩
  | .hbm, ⟨23, _⟩ => ⟨S16x4096x1024, .f32⟩
  | .hbm, ⟨24, _⟩ => ⟨S1x1x1024, .f32⟩
  | .hbm, ⟨25, _⟩ => ⟨S16x4096x1024, .f32⟩
  | .hbm, ⟨26, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Compress.lean ====
abbrev S16x256x2048 : Shape := ⟨3, ![16, 256, 2048]⟩
abbrev S1x2048x128 : Shape := ⟨3, ![1, 2048, 128]⟩
abbrev S1x128x64 : Shape := ⟨3, ![1, 128, 64]⟩
abbrev S1x32x64 : Shape := ⟨3, ![1, 32, 64]⟩
abbrev S32x64 : Shape := ⟨2, ![32, 64]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S2048x128 : Shape := ⟨2, ![2048, 128]⟩
abbrev S2x16x64x128 : Shape := ⟨4, ![2, 16, 64, 128]⟩
abbrev S2x2 : Shape := ⟨2, ![2, 2]⟩
abbrev S_ : Shape := ⟨0, ![]⟩
abbrev S16x64x2x128 : Shape := ⟨4, ![16, 64, 2, 128]⟩
abbrev S16x1x64x2x1x128 : Shape := ⟨6, ![16, 1, 64, 2, 1, 128]⟩
abbrev S1x2x1x1x2x1 : Shape := ⟨6, ![1, 2, 1, 1, 2, 1]⟩
abbrev S16x2x64x2x2x128 : Shape := ⟨6, ![16, 2, 64, 2, 2, 128]⟩
abbrev S2048x512 : Shape := ⟨2, ![2048, 512]⟩
abbrev S128x64 : Shape := ⟨2, ![128, 64]⟩
abbrev S128x128 : Shape := ⟨2, ![128, 128]⟩
abbrev S256x128 : Shape := ⟨2, ![256, 128]⟩
abbrev S128x256 : Shape := ⟨2, ![128, 256]⟩
abbrev S16x256x128 : Shape := ⟨3, ![16, 256, 128]⟩
abbrev S16x128x256 : Shape := ⟨3, ![16, 128, 256]⟩
abbrev S1x256x2048 : Shape := ⟨3, ![1, 256, 2048]⟩
abbrev S1x256x128 : Shape := ⟨3, ![1, 256, 128]⟩
abbrev S1x128x256 : Shape := ⟨3, ![1, 128, 256]⟩
abbrev S256x2048 : Shape := ⟨2, ![256, 2048]⟩
abbrev S1x2048 : Shape := ⟨2, ![1, 2048]⟩
abbrev S2048x256 : Shape := ⟨2, ![2048, 256]⟩
abbrev S256x256 : Shape := ⟨2, ![256, 256]⟩

abbrev nBuf : Space → Nat
  | .hbm => 67
  | .vmem => 14
  | .smem => 0
  | _ => 0

abbrev bufTy : (tb : Table) → Fin (tcTables nBuf tb) → BufTy
  | .hbm, ⟨0, _⟩ => ⟨S16x256x2048, .bf16⟩
  | .hbm, ⟨1, _⟩ => ⟨S16x256x2048, .bf16⟩
  | .hbm, ⟨2, _⟩ => ⟨S1x2048x128, .f32⟩
  | .hbm, ⟨3, _⟩ => ⟨S1x128x64, .f32⟩
  | .hbm, ⟨4, _⟩ => ⟨S1x32x64, .f32⟩
  | .hbm, ⟨5, _⟩ => ⟨S1x2048x128, .f32⟩
  | .hbm, ⟨6, _⟩ => ⟨S1x128x64, .f32⟩
  | .hbm, ⟨7, _⟩ => ⟨S1x32x64, .f32⟩
  | .hbm, ⟨8, _⟩ => ⟨S32x64, .f32⟩
  | .hbm, ⟨9, _⟩ => ⟨S2x16x1x64, .f32⟩
  | .hbm, ⟨10, _⟩ => ⟨S2x16x2x64, .f32⟩
  | .hbm, ⟨11, _⟩ => ⟨S2x2048, .f32⟩
  | .hbm, ⟨12, _⟩ => ⟨S32x64, .f32⟩
  | .hbm, ⟨13, _⟩ => ⟨S2x16x1x64, .f32⟩
  | .hbm, ⟨14, _⟩ => ⟨S2x16x2x64, .f32⟩
  | .hbm, ⟨15, _⟩ => ⟨S2x2048, .f32⟩
  | .hbm, ⟨16, _⟩ => ⟨S2048x128, .f32⟩
  | .hbm, ⟨17, _⟩ => ⟨S2x16x64x128, .f32⟩
  | .hbm, ⟨18, _⟩ => ⟨S2x2, .i32⟩
  | .hbm, ⟨19, _⟩ => ⟨S2x2, .i32⟩
  | .hbm, ⟨20, _⟩ => ⟨S_, .i32⟩
  | .hbm, ⟨21, _⟩ => ⟨S2x2, .i32⟩
  | .hbm, ⟨22, _⟩ => ⟨S2x2, .i32⟩
  | .hbm, ⟨23, _⟩ => ⟨S2x2, .i1⟩
  | .hbm, ⟨24, _⟩ => ⟨S2x2, .f32⟩
  | .hbm, ⟨25, _⟩ => ⟨S16x64x2x128, .f32⟩
  | .hbm, ⟨26, _⟩ => ⟨S16x1x64x2x1x128, .f32⟩
  | .hbm, ⟨27, _⟩ => ⟨S1x2x1x1x2x1, .f32⟩
  | .hbm, ⟨28, _⟩ => ⟨S16x2x64x2x2x128, .f32⟩
  | .hbm, ⟨29, _⟩ => ⟨S16x2x64x2x2x128, .f32⟩
  | .hbm, ⟨30, _⟩ => ⟨S16x2x64x2x2x128, .f32⟩
  | .hbm, ⟨31, _⟩ => ⟨S2048x512, .f32⟩
  | .hbm, ⟨32, _⟩ => ⟨S2048x512, .bf16⟩
  | .hbm, ⟨33, _⟩ => ⟨S2048x128, .f32⟩
  | .hbm, ⟨34, _⟩ => ⟨S2x16x64x128, .f32⟩
  | .hbm, ⟨35, _⟩ => ⟨S2x2, .i32⟩
  | .hbm, ⟨36, _⟩ => ⟨S2x2, .i32⟩
  | .hbm, ⟨37, _⟩ => ⟨S_, .i32⟩
  | .hbm, ⟨38, _⟩ => ⟨S2x2, .i32⟩
  | .hbm, ⟨39, _⟩ => ⟨S2x2, .i32⟩
  | .hbm, ⟨40, _⟩ => ⟨S2x2, .i1⟩
  | .hbm, ⟨41, _⟩ => ⟨S2x2, .f32⟩
  | .hbm, ⟨42, _⟩ => ⟨S16x64x2x128, .f32⟩
  | .hbm, ⟨43, _⟩ => ⟨S16x1x64x2x1x128, .f32⟩
  | .hbm, ⟨44, _⟩ => ⟨S1x2x1x1x2x1, .f32⟩
  | .hbm, ⟨45, _⟩ => ⟨S16x2x64x2x2x128, .f32⟩
  | .hbm, ⟨46, _⟩ => ⟨S16x2x64x2x2x128, .f32⟩
  | .hbm, ⟨47, _⟩ => ⟨S16x2x64x2x2x128, .f32⟩
  | .hbm, ⟨48, _⟩ => ⟨S2048x512, .f32⟩
  | .hbm, ⟨49, _⟩ => ⟨S2048x512, .bf16⟩
  | .hbm, ⟨50, _⟩ => ⟨S128x64, .f32⟩
  | .hbm, ⟨51, _⟩ => ⟨S_, .f32⟩
  | .hbm, ⟨52, _⟩ => ⟨S128x64, .f32⟩
  | .hbm, ⟨53, _⟩ => ⟨S128x128, .f32⟩
  | .hbm, ⟨54, _⟩ => ⟨S128x128, .f32⟩
  | .hbm, ⟨55, _⟩ => ⟨S256x128, .f32⟩
  | .hbm, ⟨56, _⟩ => ⟨S256x128, .bf16⟩
  | .hbm, ⟨57, _⟩ => ⟨S128x64, .f32⟩
  | .hbm, ⟨58, _⟩ => ⟨S_, .f32⟩
  | .hbm, ⟨59, _⟩ => ⟨S128x64, .f32⟩
  | .hbm, ⟨60, _⟩ => ⟨S128x128, .f32⟩
  | .hbm, ⟨61, _⟩ => ⟨S128x128, .f32⟩
  | .hbm, ⟨62, _⟩ => ⟨S256x128, .f32⟩
  | .hbm, ⟨63, _⟩ => ⟨S128x256, .f32⟩
  | .hbm, ⟨64, _⟩ => ⟨S128x256, .bf16⟩
  | .hbm, ⟨65, _⟩ => ⟨S16x256x128, .bf16⟩
  | .hbm, ⟨66, _⟩ => ⟨S16x128x256, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S2x2048, .f32⟩
  | .local _ .vmem, ⟨5, _⟩ => ⟨S2x2048, .f32⟩
  | .local _ .vmem, ⟨6, _⟩ => ⟨S2048x512, .bf16⟩
  | .local _ .vmem, ⟨7, _⟩ => ⟨S2048x512, .bf16⟩
  | .local _ .vmem, ⟨8, _⟩ => ⟨S256x128, .bf16⟩
  | .local _ .vmem, ⟨9, _⟩ => ⟨S128x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x128x256, .bf16⟩
  | .local _ .vmem, ⟨13, _⟩ => ⟨S1x128x256, .bf16⟩
  | _, _ => ⟨S16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_1 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53_0 : Ref sig .tc := ⟨.hbm, 65, rfl⟩
abbrev main_v53_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CompressRefIdeal.lean ====
abbrev S16x256x2048 : Shape := ⟨3, ![16, 256, 2048]⟩
abbrev S1x2048x128 : Shape := ⟨3, ![1, 2048, 128]⟩
abbrev S1x128x64 : Shape := ⟨3, ![1, 128, 64]⟩
abbrev S1x32x64 : Shape := ⟨3, ![1, 32, 64]⟩
abbrev S16x4096x2x64 : Shape := ⟨4, ![16, 4096, 2, 64]⟩
abbrev S2048x128 : Shape := ⟨2, ![2048, 128]⟩
abbrev S128x64 : Shape := ⟨2, ![128, 64]⟩
abbrev S32x64 : Shape := ⟨2, ![32, 64]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S16x255x32x2x64 : Shape := ⟨5, ![16, 255, 32, 2, 64]⟩
abbrev S32x1x64 : Shape := ⟨3, ![32, 1, 64]⟩
abbrev S1x1x32x1x64 : Shape := ⟨5, ![1, 1, 32, 1, 64]⟩
abbrev S32x64x128 : Shape := ⟨3, ![32, 64, 128]⟩
abbrev S16x255x2x128 : Shape := ⟨4, ![16, 255, 2, 128]⟩
abbrev S16x255x2x64 : Shape := ⟨4, ![16, 255, 2, 64]⟩
abbrev S16x255x128 : Shape := ⟨3, ![16, 255, 128]⟩
abbrev S16x256x128 : Shape := ⟨3, ![16, 256, 128]⟩
abbrev S16x128x256 : Shape := ⟨3, ![16, 128, 256]⟩

abbrev nBuf : Space → Nat
  | .hbm => 115
  | .vmem => 0
  | .smem => 0
  | _ => 0

abbrev bufTy : (tb : Table) → Fin (tcTables nBuf tb) → BufTy
  | .hbm, ⟨0, _⟩ => ⟨S16x256x2048, .bf16⟩
  | .hbm, ⟨1, _⟩ => ⟨S16x256x2048, .bf16⟩
  | .hbm, ⟨2, _⟩ => ⟨S1x2048x128, .f32⟩
  | .hbm, ⟨3, _⟩ => ⟨S1x128x64, .f32⟩
  | .hbm, ⟨4, _⟩ => ⟨S1x32x64, .f32⟩
  | .hbm, ⟨5, _⟩ => ⟨S1x2048x128, .f32⟩
  | .hbm, ⟨6, _⟩ => ⟨S1x128x64, .f32⟩
  | .hbm, ⟨7, _⟩ => ⟨S1x32x64, .f32⟩
  | .hbm, ⟨8, _⟩ => ⟨S16x256x2048, .f32⟩
  | .hbm, ⟨9, _⟩ => ⟨S16x4096x2x64, .f32⟩
  | .hbm, ⟨10, _⟩ => ⟨S16x256x2048, .f32⟩
  | .hbm, ⟨11, _⟩ => ⟨S16x4096x2x64, .f32⟩
  | .hbm, ⟨12, _⟩ => ⟨S2048x128, .f32⟩
  | .hbm, ⟨13, _⟩ => ⟨S128x64, .f32⟩
  | .hbm, ⟨14, _⟩ => ⟨S32x64, .f32⟩
  | .hbm, ⟨15, _⟩ => ⟨S255, .i32⟩
  | .hbm, ⟨16, _⟩ => ⟨S255x1, .i32⟩
  | .hbm, ⟨17, _⟩ => ⟨S_, .i32⟩
  | .hbm, ⟨18, _⟩ => ⟨S255x1, .i32⟩
  | .hbm, ⟨19, _⟩ => ⟨S255x1, .i32⟩
  | .hbm, ⟨20, _⟩ => ⟨S32, .i32⟩
  | .hbm, ⟨21, _⟩ => ⟨S1x32, .i32⟩
  | .hbm, ⟨22, _⟩ => ⟨S255x32, .i32⟩
  | .hbm, ⟨23, _⟩ => ⟨S255x32, .i32⟩
  | .hbm, ⟨24, _⟩ => ⟨S255x32, .i32⟩
  | .hbm, ⟨25, _⟩ => ⟨S_, .i32⟩
  | .hbm, ⟨26, _⟩ => ⟨S255x32, .i32⟩
  | .hbm, ⟨27, _⟩ => ⟨S255x32, .i1⟩
  | .hbm, ⟨28, _⟩ => ⟨S_, .i32⟩
  | .hbm, ⟨29, _⟩ => ⟨S255x32, .i32⟩
  | .hbm, ⟨30, _⟩ => ⟨S255x32, .i32⟩
  | .hbm, ⟨31, _⟩ => ⟨S255x32, .i32⟩
  | .hbm, ⟨32, _⟩ => ⟨S255x32x1, .i32⟩
  | .hbm, ⟨33, _⟩ => ⟨S16x255x32x2x64, .f32⟩
  | .hbm, ⟨34, _⟩ => ⟨S32x1x64, .f32⟩
  | .hbm, ⟨35, _⟩ => ⟨S1x1x32x1x64, .f32⟩
  | .hbm, ⟨36, _⟩ => ⟨S16x255x32x2x64, .f32⟩
  | .hbm, ⟨37, _⟩ => ⟨S16x255x32x2x64, .f32⟩
  | .hbm, ⟨38, _⟩ => ⟨S32x64x128, .f32⟩
  | .hbm, ⟨39, _⟩ => ⟨S16x255x2x128, .f32⟩
  | .hbm, ⟨40, _⟩ => ⟨S16x255x2x128, .f32⟩
  | .hbm, ⟨41, _⟩ => ⟨S16x255x2x128, .f32⟩
  | .hbm, ⟨42, _⟩ => ⟨S_, .f32⟩
  | .hbm, ⟨43, _⟩ => ⟨S16x255x2x128, .f32⟩
  | .hbm, ⟨44, _⟩ => ⟨S16x255x2x128, .f32⟩
  | .hbm, ⟨45, _⟩ => ⟨S16x255x2x128, .f32⟩
  | .hbm, ⟨46, _⟩ => ⟨S_, .f32⟩
  | .hbm, ⟨47, _⟩ => ⟨S16x255x2x128, .f32⟩
  | .hbm, ⟨48, _⟩ => ⟨S16x255x2x128, .f32⟩
  | .hbm, ⟨49, _⟩ => ⟨S16x255x2x128, .f32⟩
  | .hbm, ⟨50, _⟩ => ⟨S_, .f32⟩
  | .hbm, ⟨51, _⟩ => ⟨S16x255x2x128, .f32⟩
  | .hbm, ⟨52, _⟩ => ⟨S16x255x2x128, .f32⟩
  | .hbm, ⟨53, _⟩ => ⟨S_, .f32⟩
  | .hbm, ⟨54, _⟩ => ⟨S16x255x2x128, .f32⟩
  | .hbm, ⟨55, _⟩ => ⟨S16x255x2x128, .f32⟩
  | .hbm, ⟨56, _⟩ => ⟨S16x255x2x128, .f32⟩
  | .hbm, ⟨57, _⟩ => ⟨S16x255x2x64, .f32⟩
  | .hbm, ⟨58, _⟩ => ⟨S2048x128, .f32⟩
  | .hbm, ⟨59, _⟩ => ⟨S128x64, .f32⟩
  | .hbm, ⟨60, _⟩ => ⟨S32x64, .f32⟩
  | .hbm, ⟨61, _⟩ => ⟨S255, .i32⟩
  | .hbm, ⟨62, _⟩ => ⟨S255x1, .i32⟩
  | .hbm, ⟨63, _⟩ => ⟨S_, .i32⟩
  | .hbm, ⟨64, _⟩ => ⟨S255x1, .i32⟩
  | .hbm, ⟨65, _⟩ => ⟨S255x1, .i32⟩
  | .hbm, ⟨66, _⟩ => ⟨S32, .i32⟩
  | .hbm, ⟨67, _⟩ => ⟨S1x32, .i32⟩
  | .hbm, ⟨68, _⟩ => ⟨S255x32, .i32⟩
  | .hbm, ⟨69, _⟩ => ⟨S255x32, .i32⟩
  | .hbm, ⟨70, _⟩ => ⟨S255x32, .i32⟩
  | .hbm, ⟨71, _⟩ => ⟨S_, .i32⟩
  | .hbm, ⟨72, _⟩ => ⟨S255x32, .i32⟩
  | .hbm, ⟨73, _⟩ => ⟨S255x32, .i1⟩
  | .hbm, ⟨74, _⟩ => ⟨S_, .i32⟩
  | .hbm, ⟨75, _⟩ => ⟨S255x32, .i32⟩
  | .hbm, ⟨76, _⟩ => ⟨S255x32, .i32⟩
  | .hbm, ⟨77, _⟩ => ⟨S255x32, .i32⟩
  | .hbm, ⟨78, _⟩ => ⟨S255x32x1, .i32⟩
  | .hbm, ⟨79, _⟩ => ⟨S16x255x32x2x64, .f32⟩
  | .hbm, ⟨80, _⟩ => ⟨S32x1x64, .f32⟩
  | .hbm, ⟨81, _⟩ => ⟨S1x1x32x1x64, .f32⟩
  | .hbm, ⟨82, _⟩ => ⟨S16x255x32x2x64, .f32⟩
  | .hbm, ⟨83, _⟩ => ⟨S16x255x32x2x64, .f32⟩
  | .hbm, ⟨84, _⟩ => ⟨S32x64x128, .f32⟩
  | .hbm, ⟨85, _⟩ => ⟨S16x255x2x128, .f32⟩
  | .hbm, ⟨86, _⟩ => ⟨S16x255x2x128, .f32⟩
  | .hbm, ⟨87, _⟩ => ⟨S16x255x2x128, .f32⟩
  | .hbm, ⟨88, _⟩ => ⟨S_, .f32⟩
  | .hbm, ⟨89, _⟩ => ⟨S16x255x2x128, .f32⟩
  | .hbm, ⟨90, _⟩ => ⟨S16x255x2x128, .f32⟩
  | .hbm, ⟨91, _⟩ => ⟨S16x255x2x128, .f32⟩
  | .hbm, ⟨92, _⟩ => ⟨S_, .f32⟩
  | .hbm, ⟨93, _⟩ => ⟨S16x255x2x128, .f32⟩
  | .hbm, ⟨94, _⟩ => ⟨S16x255x2x128, .f32⟩
  | .hbm, ⟨95, _⟩ => ⟨S16x255x2x128, .f32⟩
  | .hbm, ⟨96, _⟩ => ⟨S_, .f32⟩
  | .hbm, ⟨97, _⟩ => ⟨S16x255x2x128, .f32⟩
  | .hbm, ⟨98, _⟩ => ⟨S16x255x2x128, .f32⟩
  | .hbm, ⟨99, _⟩ => ⟨S_, .f32⟩
  | .hbm, ⟨100, _⟩ => ⟨S16x255x2x128, .f32⟩
  | .hbm, ⟨101, _⟩ => ⟨S16x255x2x128, .f32⟩
  | .hbm, ⟨102, _⟩ => ⟨S16x255x2x128, .f32⟩
  | .hbm, ⟨103, _⟩ => ⟨S16x255x2x64, .f32⟩
  | .hbm, ⟨104, _⟩ => ⟨S16x255x2x64, .bf16⟩
  | .hbm, ⟨105, _⟩ => ⟨S16x255x128, .bf16⟩
  | .hbm, ⟨106, _⟩ => ⟨S_, .i32⟩
  | .hbm, ⟨107, _⟩ => ⟨S_, .bf16⟩
  | .hbm, ⟨108, _⟩ => ⟨S16x256x128, .bf16⟩
  | .hbm, ⟨109, _⟩ => ⟨S16x255x2x64, .bf16⟩
  | .hbm, ⟨110, _⟩ => ⟨S16x255x128, .bf16⟩
  | .hbm, ⟨111, _⟩ => ⟨S_, .i32⟩
  | .hbm, ⟨112, _⟩ => ⟨S_, .bf16⟩
  | .hbm, ⟨113, _⟩ => ⟨S16x256x128, .bf16⟩
  | .hbm, ⟨114, _⟩ => ⟨S16x128x256, .bf16⟩
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_6 : Ref sig .tc := ⟨.hbm, 71, rfl⟩
abbrev main_v55 : Ref sig .tc := ⟨.hbm, 72, rfl⟩
abbrev main_v56 : Ref sig .tc := ⟨.hbm, 73, rfl⟩
abbrev main_c_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_12 : Ref sig .tc := ⟨.hbm, 106, rfl⟩
abbrev main_call0_v0 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_13 : Ref sig .tc := ⟨.hbm, 111, rfl⟩
abbrev main_call1_v0 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Attn.lean ====
abbrev S16x4096x512 : Shape := ⟨3, ![16, 4096, 512]⟩
abbrev S16x256x128 : Shape := ⟨3, ![16, 256, 128]⟩
abbrev S16x128x256 : Shape := ⟨3, ![16, 128, 256]⟩
abbrev S16x4096x256 : Shape := ⟨3, ![16, 4096, 256]⟩
abbrev S16x32x256x128 : Shape := ⟨4, ![16, 32, 256, 128]⟩
abbrev S16x32x32x128 : Shape := ⟨4, ![16, 32, 32, 128]⟩
abbrev S1x4096x256 : Shape := ⟨3, ![1, 4096, 256]⟩
abbrev S1x256x128 : Shape := ⟨3, ![1, 256, 128]⟩
abbrev S1x64x256 : Shape := ⟨3, ![1, 64, 256]⟩
abbrev S1x4096x128 : Shape := ⟨3, ![1, 4096, 128]⟩
abbrev S1x32x64x128 : Shape := ⟨4, ![1, 32, 64, 128]⟩
abbrev S1x32x16x128 : Shape := ⟨4, ![1, 32, 16, 128]⟩
abbrev S4x128x512 : Shape := ⟨3, ![4, 128, 512]⟩
abbrev S4096x128 : Shape := ⟨2, ![4096, 128]⟩
abbrev S32x256x512 : Shape := ⟨3, ![32, 256, 512]⟩
abbrev S32x1x512 : Shape := ⟨3, ![32, 1, 512]⟩
abbrev S32x80x512 : Shape := ⟨3, ![32, 80, 512]⟩
abbrev S32x64x512 : Shape := ⟨3, ![32, 64, 512]⟩
abbrev S4x512x512 : Shape := ⟨3, ![4, 512, 512]⟩
abbrev S1024x512 : Shape := ⟨2, ![1024, 512]⟩
abbrev S2x1x512 : Shape := ⟨3, ![2, 1, 512]⟩
abbrev S1x512 : Shape := ⟨2, ![1, 512]⟩
abbrev S128x512 : Shape := ⟨2, ![128, 512]⟩
abbrev S1x128x512 : Shape := ⟨3, ![1, 128, 512]⟩
abbrev S256x128 : Shape := ⟨2, ![256, 128]⟩
abbrev S64x256 : Shape := ⟨2, ![64, 256]⟩
abbrev S16x256 : Shape := ⟨2, ![16, 256]⟩
abbrev S80x256 : Shape := ⟨2, ![80, 256]⟩
abbrev S256x512 : Shape := ⟨2, ![256, 512]⟩
abbrev S64x128 : Shape := ⟨2, ![64, 128]⟩
abbrev S1x128x256 : Shape := ⟨3, ![1, 128, 256]⟩
abbrev S128x256 : Shape := ⟨2, ![128, 256]⟩
abbrev S64x512 : Shape := ⟨2, ![64, 512]⟩
abbrev S512 : Shape := ⟨1, ![512]⟩
abbrev S1x1x512 : Shape := ⟨3, ![1, 1, 512]⟩
abbrev S1x640x128 : Shape := ⟨3, ![1, 640, 128]⟩
abbrev S640x128 : Shape := ⟨2, ![640, 128]⟩
abbrev S640x512 : Shape := ⟨2, ![640, 512]⟩
abbrev S1x128x128 : Shape := ⟨3, ![1, 128, 128]⟩
abbrev S128x128 : Shape := ⟨2, ![128, 128]⟩
abbrev S80x512 : Shape := ⟨2, ![80, 512]⟩
abbrev S1x64x512 : Shape := ⟨3, ![1, 64, 512]⟩
abbrev S1x1x64x128 : Shape := ⟨4, ![1, 1, 64, 128]⟩
abbrev S64x640 : Shape := ⟨2, ![64, 640]⟩
abbrev S16x640 : Shape := ⟨2, ![16, 640]⟩
abbrev S80x640 : Shape := ⟨2, ![80, 640]⟩
abbrev S16x128 : Shape := ⟨2, ![16, 128]⟩
abbrev S80x128 : Shape := ⟨2, ![80, 128]⟩
abbrev S1x80x512 : Shape := ⟨3, ![1, 80, 512]⟩
abbrev S1x1x16x128 : Shape := ⟨4, ![1, 1, 16, 128]⟩
abbrev S1x128 : Shape := ⟨2, ![1, 128]⟩
abbrev S8x128 : Shape := ⟨2, ![8, 128]⟩
abbrev S32x128 : Shape := ⟨2, ![32, 128]⟩
abbrev S1x512x128 : Shape := ⟨3, ![1, 512, 128]⟩
abbrev S512x128 : Shape := ⟨2, ![512, 128]⟩
abbrev S512x256 : Shape := ⟨2, ![512, 256]⟩
abbrev S1x256x512 : Shape := ⟨3, ![1, 256, 512]⟩
abbrev S512x512 : Shape := ⟨2, ![512, 512]⟩
abbrev S1x512x512 : Shape := ⟨3, ![1, 512, 512]⟩
abbrev S16x512 : Shape := ⟨2, ![16, 512]⟩

abbrev nBuf : Space → Nat
  | .hbm => 8
  | .vmem => 31
  | .smem => 0
  | _ => 0

abbrev bufTy : (tb : Table) → Fin (tcTables nBuf tb) → BufTy
  | .hbm, ⟨0, _⟩ => ⟨S16x4096x512, .bf16⟩
  | .hbm, ⟨1, _⟩ => ⟨S16x256x128, .bf16⟩
  | .hbm, ⟨2, _⟩ => ⟨S16x128x256, .bf16⟩
  | .hbm, ⟨3, _⟩ => ⟨S16x4096x256, .bf16⟩
  | .hbm, ⟨4, _⟩ => ⟨S16x32x256x128, .bf16⟩
  | .hbm, ⟨5, _⟩ => ⟨S16x32x32x128, .f32⟩
  | .hbm, ⟨6, _⟩ => ⟨S16x4096x512, .bf16⟩
  | .hbm, ⟨7, _⟩ => ⟨S16x4096x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x256x128, .bf16⟩
  | .local _ .vmem, ⟨3, _⟩ => ⟨S1x256x128, .bf16⟩
  | .local _ .vmem, ⟨4, _⟩ => ⟨S1x64x256, .bf16⟩
  | .local _ .vmem, ⟨5, _⟩ => ⟨S1x64x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x32x64x128, .bf16⟩
  | .local _ .vmem, ⟨11, _⟩ => ⟨S1x32x64x128, .bf16⟩
  | .local _ .vmem, ⟨12, _⟩ => ⟨S1x32x64x128, .bf16⟩
  | .local _ .vmem, ⟨13, _⟩ => ⟨S1x32x64x128, .bf16⟩
  | .local _ .vmem, ⟨14, _⟩ => ⟨S1x32x16x128, .f32⟩
  | .local _ .vmem, ⟨15, _⟩ => ⟨S1x32x16x128, .f32⟩
  | .local _ .vmem, ⟨16, _⟩ => ⟨S1x4096x256, .bf16⟩
  | .local _ .vmem, ⟨17, _⟩ => ⟨S1x4096x256, .bf16⟩
  | .local _ .vmem, ⟨18, _⟩ => ⟨S1x4096x256, .bf16⟩
  | .local _ .vmem, ⟨19, _⟩ => ⟨S1x4096x256, .bf16⟩
  | .local _ .vmem, ⟨20, _⟩ => ⟨S4x128x512, .f32⟩
  | .local _ .vmem, ⟨21, _⟩ => ⟨S4096x128, .bf16⟩
  | .local _ .vmem, ⟨22, _⟩ => ⟨S32x256x512, .bf16⟩
  | .local _ .vmem, ⟨23, _⟩ => ⟨S32x1x512, .f32⟩
  | .local _ .vmem, ⟨24, _⟩ => ⟨S32x80x512, .f32⟩
  | .local _ .vmem, ⟨25, _⟩ => ⟨S32x64x512, .f32⟩
  | .local _ .vmem, ⟨26, _⟩ => ⟨S4x512x512, .f32⟩
  | .local _ .vmem, ⟨27, _⟩ => ⟨S4x512x512, .bf16⟩
  | .local _ .vmem, ⟨28, _⟩ => ⟨S1024x512, .f32⟩
  | .local _ .vmem, ⟨29, _⟩ => ⟨S1024x512, .bf16⟩
  | .local _ .vmem, ⟨30, _⟩ => ⟨S2x1x512, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def k0_mult1 : BitVec 32 :=
  let c_m4_i32 : BitVec 32 := 4294967292#32
  let c0_i32_30 : BitVec 32 := 0#32
  let v78 : BitVec 32 := Scalar.maxsi c_m4_i32 c0_i32_30
  let c128_i32 : BitVec 32 := 128#32
  let v79 : BitVec 32 := Scalar.muli v78 c128_i32
  v79
def k0_off1 (c_m4_i32 : BitVec 32) : Fin 3 → Nat :=
  let c0_31 : Index := 0#32
  let c0_i32_30 : BitVec 32 := 0#32
  let v78 : BitVec 32 := Scalar.maxsi c_m4_i32 c0_i32_30
  let c128_i32 : BitVec 32 := 128#32
  let v79 : BitVec 32 := Scalar.muli v78 c128_i32
  let v80 : BitVec 32 := v79
  let v81 : Index := Scalar.indexCast v80
  let c0_32 : Index := 0#32
  ![0, v81.toNat, 0]
def k0_off2 (c_m4_i32 : BitVec 32) (c0_i32_34 : BitVec 32) (c0_i32_35 : BitVec 32) (c0_i32_36 : BitVec 32) (c_m4_i32_37 : BitVec 32) : Fin 3 → Nat :=
  let c0_i32_30 : BitVec 32 := 0#32
  let v78 : BitVec 32 := Scalar.maxsi c_m4_i32 c0_i32_30
  let v85 : BitVec 32 := Scalar.addi v78 c0_i32_34
  let v86 : BitVec 1 := Scalar.cmpi .eq v85 c0_i32_35
  let c0_i32_39 : BitVec 32 := 0#32
  let v87 : BitVec 1 := Scalar.cmpi .sgt v85 c0_i32_36
  let c3_i32 : BitVec 32 := 3#32
  let v88 : BitVec 1 := Scalar.cmpi .eq v85 c_m4_i32_37
  let c1_i32_38 : BitVec 32 := 1#32
  let c2_i32 : BitVec 32 := 2#32
  let v89 : BitVec 32 := Scalar.select v88 c1_i32_38 c2_i32
  let v90 : BitVec 32 := Scalar.select v87 c3_i32 v89
  let v91 : BitVec 32 := Scalar.select v86 c0_i32_39 v90
  let v93 : Index := Scalar.indexCast v91
  let c0_40 : Index := 0#32
  let c0_41 : Index := 0#32
  ![v93.toNat, 0, 0]
def k0_off2_at (r : Fin 10) : BitVec 32 × BitVec 32 × BitVec 32 × BitVec 32 × BitVec 32 :=
  if r.val < 5 then
    if r.val < 2 then
      if r.val < 1 then
        (4294967292#32, 0#32, 0#32, 0#32, 4294967292#32)
      else
        (4294967292#32, 1#32, 0#32, 0#32, 4294967292#32)
    else
      if r.val < 3 then
        (4294967292#32, 2#32, 0#32, 0#32, 4294967292#32)
      else
        if r.val < 4 then
          (4294967292#32, 3#32, 0#32, 0#32, 4294967292#32)
        else
          (4294967292#32, 4#32, 0#32, 0#32, 4294967292#32)
  else
    if r.val < 7 then
      if r.val < 6 then
        (4294967293#32, 0#32, 1#32, 1#32, 4294967293#32)
      else
        (4294967293#32, 1#32, 1#32, 1#32, 4294967293#32)
    else
      if r.val < 8 then
        (4294967293#32, 2#32, 1#32, 1#32, 4294967293#32)
      else
        if r.val < 9 then
          (4294967293#32, 3#32, 1#32, 1#32, 4294967293#32)
        else
          (4294967293#32, 4#32, 1#32, 1#32, 4294967293#32)
def k0_mult2 : BitVec 32 :=
  let c_m3_i32 : BitVec 32 := 4294967293#32
  let c0_i32_141 : BitVec 32 := 0#32
  let v254 : BitVec 32 := Scalar.maxsi c_m3_i32 c0_i32_141
  let c128_i32_142 : BitVec 32 := 128#32
  let v255 : BitVec 32 := Scalar.muli v254 c128_i32_142
  v255
@[reducible] def k0_t1_loop : Scf.Loop 32 :=
  let c0_i32_227 : BitVec 32 := 0#32
  let c8_i32 : BitVec 32 := 8#32
  let v367 : BitVec 32 := Scalar.addi c0_i32_227 c8_i32
  let c1_i32_228 : BitVec 32 := 1#32
  ⟨c0_i32_227, v367, c1_i32_228⟩
def k0_off3 (k0_t1 : Fin k0_t1_loop.trips) : Fin 3 → Nat :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let v7757 : Index := Scalar.indexCast v7733
  let c128_3227 : Index := 128#32
  let c0_3228 : Index := 0#32
  ![v7757.toNat, 128, 0]
def k0_off4 (k0_t1 : Fin k0_t1_loop.trips) (c0_i32_3231 : BitVec 32) : Fin 4 → Nat :=
  let c0_3232 : Index := 0#32
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c4_i32_3229 : BitVec 32 := 4#32
  let v7761 : BitVec 32 := Scalar.subi v7733 c4_i32_3229
  let c0_i32_3230 : BitVec 32 := 0#32
  let v7762 : BitVec 32 := Scalar.maxsi v7761 c0_i32_3230
  let v7763 : BitVec 32 := Scalar.addi v7762 c0_i32_3231
  let v7764 : Index := Scalar.indexCast v7763
  let c0_3233 : Index := 0#32
  let c0_3234 : Index := 0#32
  ![0, v7764.toNat, 0, 0]
def k0_off5 (k0_t1 : Fin k0_t1_loop.trips) : Fin 4 → Nat :=
  let c0_3255 : Index := 0#32
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let v7788 : Index := Scalar.indexCast v7733
  let c0_3256 : Index := 0#32
  let c0_3257 : Index := 0#32
  ![0, v7788.toNat, 0, 0]
def k0_off6 (k0_t1 : Fin k0_t1_loop.trips) : Fin 3 → Nat :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let v7795 : Index := Scalar.indexCast v7733
  let c0_3262 : Index := 0#32
  let c0_3263 : Index := 0#32
  ![v7795.toNat, 0, 0]
def k0_off7 (k0_t1 : Fin k0_t1_loop.trips) : Fin 4 → Nat :=
  let c0_3264 : Index := 0#32
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let v7799 : Index := Scalar.indexCast v7733
  let c0_3265 : Index := 0#32
  let c0_3266 : Index := 0#32
  ![0, v7799.toNat, 0, 0]
def k0_off8 (k0_t1 : Fin k0_t1_loop.trips) : Fin 3 → Nat :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let v7824 : Index := Scalar.indexCast v7733
  let c0_3270 : Index := 0#32
  let c0_3271 : Index := 0#32
  ![v7824.toNat, 0, 0]
def k0_off9 (k0_t1 : Fin k0_t1_loop.trips) (c1_i32_3272 : BitVec 32) : Fin 3 → Nat :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let v7828 : BitVec 32 := Scalar.addi v7733 c1_i32_3272
  let v7850 : Index := Scalar.indexCast v7828
  let c0_3289 : Index := 0#32
  let c0_3290 : Index := 0#32
  ![v7850.toNat, 0, 0]
def k0_mult3 (k0_t1 : Fin k0_t1_loop.trips) : BitVec 32 :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let c128_i32_3294 : BitVec 32 := 128#32
  let v7861 : BitVec 32 := Scalar.muli v7860 c128_i32_3294
  v7861
def k0_off10 (k0_t1 : Fin k0_t1_loop.trips) : Fin 3 → Nat :=
  let c0_3295 : Index := 0#32
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let c128_i32_3294 : BitVec 32 := 128#32
  let v7861 : BitVec 32 := Scalar.muli v7860 c128_i32_3294
  let v7862 : BitVec 32 := v7861
  let v7863 : Index := Scalar.indexCast v7862
  let c0_3296 : Index := 0#32
  ![0, v7863.toNat, 0]
def k0_off11 (k0_t1 : Fin k0_t1_loop.trips) : Fin 3 → Nat :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let v7879 : Index := Scalar.indexCast v7860
  let c0_3298 : Index := 0#32
  let c0_3299 : Index := 0#32
  ![v7879.toNat, 0, 0]
def k0_mult4 (k0_t1 : Fin k0_t1_loop.trips) : BitVec 32 :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let c4_i32_3308 : BitVec 32 := 4#32
  let v7898 : BitVec 32 := Scalar.subi v7860 c4_i32_3308
  let c0_i32_3309 : BitVec 32 := 0#32
  let v7899 : BitVec 32 := Scalar.maxsi v7898 c0_i32_3309
  let c128_i32_3310 : BitVec 32 := 128#32
  let v7900 : BitVec 32 := Scalar.muli v7899 c128_i32_3310
  v7900
def k0_off12 (k0_t1 : Fin k0_t1_loop.trips) : Fin 3 → Nat :=
  let c0_3311 : Index := 0#32
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let c4_i32_3308 : BitVec 32 := 4#32
  let v7898 : BitVec 32 := Scalar.subi v7860 c4_i32_3308
  let c0_i32_3309 : BitVec 32 := 0#32
  let v7899 : BitVec 32 := Scalar.maxsi v7898 c0_i32_3309
  let c128_i32_3310 : BitVec 32 := 128#32
  let v7900 : BitVec 32 := Scalar.muli v7899 c128_i32_3310
  let v7901 : BitVec 32 := v7900
  let v7902 : Index := Scalar.indexCast v7901
  let c0_3312 : Index := 0#32
  ![0, v7902.toNat, 0]
def k0_off13 (k0_t1 : Fin k0_t1_loop.trips) (c0_i32_3314 : BitVec 32) : Fin 3 → Nat :=
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let c4_i32_3308 : BitVec 32 := 4#32
  let v7898 : BitVec 32 := Scalar.subi v7860 c4_i32_3308
  let c0_i32_3309 : BitVec 32 := 0#32
  let v7899 : BitVec 32 := Scalar.maxsi v7898 c0_i32_3309
  let v7906 : BitVec 32 := Scalar.addi v7899 c0_i32_3314
  let v7907 : BitVec 1 := Scalar.cmpi .eq v7906 v7860
  let c0_i32_3319 : BitVec 32 := 0#32
  let v7908 : BitVec 1 := Scalar.cmpi .sgt v7906 v7860
  let c3_i32_3318 : BitVec 32 := 3#32
  let c4_i32_3315 : BitVec 32 := 4#32
  let v7909 : BitVec 32 := Scalar.subi v7860 c4_i32_3315
  let v7910 : BitVec 1 := Scalar.cmpi .eq v7906 v7909
  let c1_i32_3316 : BitVec 32 := 1#32
  let c2_i32_3317 : BitVec 32 := 2#32
  let v7911 : BitVec 32 := Scalar.select v7910 c1_i32_3316 c2_i32_3317
  let v7912 : BitVec 32 := Scalar.select v7908 c3_i32_3318 v7911
  let v7913 : BitVec 32 := Scalar.select v7907 c0_i32_3319 v7912
  let v7915 : Index := Scalar.indexCast v7913
  let c0_3320 : Index := 0#32
  let c0_3321 : Index := 0#32
  ![v7915.toNat, 0, 0]
def k0_off14 (k0_t1 : Fin k0_t1_loop.trips) : Fin 3 → Nat :=
  let c0_3372 : Index := 0#32
  let c0_i32_3216 : BitVec 32 := 0#32
  let c0_i32_227 : BitVec 32 := 0#32
  let c1_i32_228 : BitVec 32 := 1#32
  let arg23 : BitVec 32 := Scf.iv c0_i32_227 c1_i32_228 k0_t1
  let c1_i32_3215 : BitVec 32 := 1#32
  let v7732 : BitVec 32 := Scalar.muli arg23 c1_i32_3215
  let v7733 : BitVec 32 := Scalar.addi c0_i32_3216 v7732
  let c2_i32_3293 : BitVec 32 := 2#32
  let v7860 : BitVec 32 := Scalar.addi v7733 c2_i32_3293
  let c128_i32_3294 : BitVec 32 := 128#32
  let v7861 : BitVec 32 := Scalar.muli v7860 c128_i32_3294
  let v7862 : BitVec 32 := v7861
  let v8003 : Index := Scalar.indexCast v7862
  let c0_3373 : Index := 0#32
  ![0, v8003.toNat, 0]
@[reducible] def k0_t2_loop : Scf.Loop 32 :=
  let c0_i32_230 : BitVec 32 := 0#32
  let c8_i32_231 : BitVec 32 := 8#32
  let v368 : BitVec 32 := Scalar.addi c0_i32_230 c8_i32_231
  let c1_i32_232 : BitVec 32 := 1#32
  ⟨c0_i32_230, v368, c1_i32_232⟩
def k0_off15 (k0_t2 : Fin k0_t2_loop.trips) : Fin 3 → Nat :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let v8810 : Index := Scalar.indexCast v7733
  let c128_3620 : Index := 128#32
  let c0_3621 : Index := 0#32
  ![v8810.toNat, 128, 0]
def k0_off16 (k0_t2 : Fin k0_t2_loop.trips) (c0_i32_3624 : BitVec 32) : Fin 4 → Nat :=
  let c0_3625 : Index := 0#32
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c4_i32_3622 : BitVec 32 := 4#32
  let v8814 : BitVec 32 := Scalar.subi v7733 c4_i32_3622
  let c0_i32_3623 : BitVec 32 := 0#32
  let v8815 : BitVec 32 := Scalar.maxsi v8814 c0_i32_3623
  let v8816 : BitVec 32 := Scalar.addi v8815 c0_i32_3624
  let v8817 : Index := Scalar.indexCast v8816
  let c0_3626 : Index := 0#32
  let c0_3627 : Index := 0#32
  ![0, v8817.toNat, 0, 0]
def k0_off17 (k0_t2 : Fin k0_t2_loop.trips) : Fin 4 → Nat :=
  let c0_3648 : Index := 0#32
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let v8841 : Index := Scalar.indexCast v7733
  let c0_3649 : Index := 0#32
  let c0_3650 : Index := 0#32
  ![0, v8841.toNat, 0, 0]
def k0_off18 (k0_t2 : Fin k0_t2_loop.trips) : Fin 3 → Nat :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let v8848 : Index := Scalar.indexCast v7733
  let c0_3655 : Index := 0#32
  let c0_3656 : Index := 0#32
  ![v8848.toNat, 0, 0]
def k0_off19 (k0_t2 : Fin k0_t2_loop.trips) : Fin 4 → Nat :=
  let c0_3657 : Index := 0#32
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let v8852 : Index := Scalar.indexCast v7733
  let c0_3658 : Index := 0#32
  let c0_3659 : Index := 0#32
  ![0, v8852.toNat, 0, 0]
def k0_off20 (k0_t2 : Fin k0_t2_loop.trips) : Fin 3 → Nat :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let v8877 : Index := Scalar.indexCast v7733
  let c0_3663 : Index := 0#32
  let c0_3664 : Index := 0#32
  ![v8877.toNat, 0, 0]
def k0_off21 (k0_t2 : Fin k0_t2_loop.trips) (c1_i32_3665 : BitVec 32) : Fin 3 → Nat :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let v8881 : BitVec 32 := Scalar.addi v7733 c1_i32_3665
  let v8903 : Index := Scalar.indexCast v8881
  let c0_3682 : Index := 0#32
  let c0_3683 : Index := 0#32
  ![v8903.toNat, 0, 0]
def k0_mult5 (k0_t2 : Fin k0_t2_loop.trips) : BitVec 32 :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let c128_i32_3687 : BitVec 32 := 128#32
  let v8914 : BitVec 32 := Scalar.muli v8913 c128_i32_3687
  v8914
def k0_off22 (k0_t2 : Fin k0_t2_loop.trips) : Fin 3 → Nat :=
  let c0_3688 : Index := 0#32
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let c128_i32_3687 : BitVec 32 := 128#32
  let v8914 : BitVec 32 := Scalar.muli v8913 c128_i32_3687
  let v8915 : BitVec 32 := v8914
  let v8916 : Index := Scalar.indexCast v8915
  let c0_3689 : Index := 0#32
  ![0, v8916.toNat, 0]
def k0_off23 (k0_t2 : Fin k0_t2_loop.trips) : Fin 3 → Nat :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let v8932 : Index := Scalar.indexCast v8913
  let c0_3691 : Index := 0#32
  let c0_3692 : Index := 0#32
  ![v8932.toNat, 0, 0]
def k0_mult6 (k0_t2 : Fin k0_t2_loop.trips) : BitVec 32 :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let c4_i32_3701 : BitVec 32 := 4#32
  let v8951 : BitVec 32 := Scalar.subi v8913 c4_i32_3701
  let c0_i32_3702 : BitVec 32 := 0#32
  let v8952 : BitVec 32 := Scalar.maxsi v8951 c0_i32_3702
  let c128_i32_3703 : BitVec 32 := 128#32
  let v8953 : BitVec 32 := Scalar.muli v8952 c128_i32_3703
  v8953
def k0_off24 (k0_t2 : Fin k0_t2_loop.trips) : Fin 3 → Nat :=
  let c0_3704 : Index := 0#32
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let c4_i32_3701 : BitVec 32 := 4#32
  let v8951 : BitVec 32 := Scalar.subi v8913 c4_i32_3701
  let c0_i32_3702 : BitVec 32 := 0#32
  let v8952 : BitVec 32 := Scalar.maxsi v8951 c0_i32_3702
  let c128_i32_3703 : BitVec 32 := 128#32
  let v8953 : BitVec 32 := Scalar.muli v8952 c128_i32_3703
  let v8954 : BitVec 32 := v8953
  let v8955 : Index := Scalar.indexCast v8954
  let c0_3705 : Index := 0#32
  ![0, v8955.toNat, 0]
def k0_off25 (k0_t2 : Fin k0_t2_loop.trips) (c0_i32_3707 : BitVec 32) : Fin 3 → Nat :=
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let c4_i32_3701 : BitVec 32 := 4#32
  let v8951 : BitVec 32 := Scalar.subi v8913 c4_i32_3701
  let c0_i32_3702 : BitVec 32 := 0#32
  let v8952 : BitVec 32 := Scalar.maxsi v8951 c0_i32_3702
  let v8959 : BitVec 32 := Scalar.addi v8952 c0_i32_3707
  let v8960 : BitVec 1 := Scalar.cmpi .eq v8959 v8913
  let c0_i32_3712 : BitVec 32 := 0#32
  let v8961 : BitVec 1 := Scalar.cmpi .sgt v8959 v8913
  let c3_i32_3711 : BitVec 32 := 3#32
  let c4_i32_3708 : BitVec 32 := 4#32
  let v8962 : BitVec 32 := Scalar.subi v8913 c4_i32_3708
  let v8963 : BitVec 1 := Scalar.cmpi .eq v8959 v8962
  let c1_i32_3709 : BitVec 32 := 1#32
  let c2_i32_3710 : BitVec 32 := 2#32
  let v8964 : BitVec 32 := Scalar.select v8963 c1_i32_3709 c2_i32_3710
  let v8965 : BitVec 32 := Scalar.select v8961 c3_i32_3711 v8964
  let v8966 : BitVec 32 := Scalar.select v8960 c0_i32_3712 v8965
  let v8968 : Index := Scalar.indexCast v8966
  let c0_3713 : Index := 0#32
  let c0_3714 : Index := 0#32
  ![v8968.toNat, 0, 0]
def k0_off26 (k0_t2 : Fin k0_t2_loop.trips) : Fin 3 → Nat :=
  let c0_3765 : Index := 0#32
  let c8_i32_3216 : BitVec 32 := 8#32
  let c0_i32_230 : BitVec 32 := 0#32
  let c1_i32_232 : BitVec 32 := 1#32
  let arg23 : BitVec 32 := Scf.iv c0_i32_230 c1_i32_232 k0_t2
  let c1_i32_3215 : BitVec 32 := 1#32
  let v7732 : BitVec 32 := Scalar.muli arg23 c1_i32_3215
  let v7733 : BitVec 32 := Scalar.addi c8_i32_3216 v7732
  let c2_i32_3686 : BitVec 32 := 2#32
  let v8913 : BitVec 32 := Scalar.addi v7733 c2_i32_3686
  let c128_i32_3687 : BitVec 32 := 128#32
  let v8914 : BitVec 32 := Scalar.muli v8913 c128_i32_3687
  let v8915 : BitVec 32 := v8914
  let v9056 : Index := Scalar.indexCast v8915
  let c0_3766 : Index := 0#32
  ![0, v9056.toNat, 0]
@[reducible] def k0_t3_loop : Scf.Loop 32 :=
  let c0_i32_234 : BitVec 32 := 0#32
  let c8_i32_235 : BitVec 32 := 8#32
  let v369 : BitVec 32 := Scalar.addi c0_i32_234 c8_i32_235
  let c1_i32_236 : BitVec 32 := 1#32
  ⟨c0_i32_234, v369, c1_i32_236⟩
def k0_off27 (k0_t3 : Fin k0_t3_loop.trips) : Fin 3 → Nat :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let v9798 : Index := Scalar.indexCast v7733
  let c128_4004 : Index := 128#32
  let c0_4005 : Index := 0#32
  ![v9798.toNat, 128, 0]
def k0_off28 (k0_t3 : Fin k0_t3_loop.trips) (c0_i32_4008 : BitVec 32) : Fin 4 → Nat :=
  let c0_4009 : Index := 0#32
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c4_i32_4006 : BitVec 32 := 4#32
  let v9802 : BitVec 32 := Scalar.subi v7733 c4_i32_4006
  let c0_i32_4007 : BitVec 32 := 0#32
  let v9803 : BitVec 32 := Scalar.maxsi v9802 c0_i32_4007
  let v9804 : BitVec 32 := Scalar.addi v9803 c0_i32_4008
  let v9805 : Index := Scalar.indexCast v9804
  let c0_4010 : Index := 0#32
  let c0_4011 : Index := 0#32
  ![0, v9805.toNat, 0, 0]
def k0_off29 (k0_t3 : Fin k0_t3_loop.trips) : Fin 4 → Nat :=
  let c0_4032 : Index := 0#32
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let v9829 : Index := Scalar.indexCast v7733
  let c0_4033 : Index := 0#32
  let c0_4034 : Index := 0#32
  ![0, v9829.toNat, 0, 0]
def k0_off30 (k0_t3 : Fin k0_t3_loop.trips) : Fin 3 → Nat :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let v9836 : Index := Scalar.indexCast v7733
  let c0_4039 : Index := 0#32
  let c0_4040 : Index := 0#32
  ![v9836.toNat, 0, 0]
def k0_off31 (k0_t3 : Fin k0_t3_loop.trips) : Fin 4 → Nat :=
  let c0_4041 : Index := 0#32
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let v9840 : Index := Scalar.indexCast v7733
  let c0_4042 : Index := 0#32
  let c0_4043 : Index := 0#32
  ![0, v9840.toNat, 0, 0]
def k0_off32 (k0_t3 : Fin k0_t3_loop.trips) : Fin 3 → Nat :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let v9865 : Index := Scalar.indexCast v7733
  let c0_4047 : Index := 0#32
  let c0_4048 : Index := 0#32
  ![v9865.toNat, 0, 0]
def k0_off33 (k0_t3 : Fin k0_t3_loop.trips) (c1_i32_4049 : BitVec 32) : Fin 3 → Nat :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let v9869 : BitVec 32 := Scalar.addi v7733 c1_i32_4049
  let v9891 : Index := Scalar.indexCast v9869
  let c0_4066 : Index := 0#32
  let c0_4067 : Index := 0#32
  ![v9891.toNat, 0, 0]
def k0_mult7 (k0_t3 : Fin k0_t3_loop.trips) : BitVec 32 :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let c128_i32_4071 : BitVec 32 := 128#32
  let v9902 : BitVec 32 := Scalar.muli v9901 c128_i32_4071
  v9902
def k0_off34 (k0_t3 : Fin k0_t3_loop.trips) : Fin 3 → Nat :=
  let c0_4072 : Index := 0#32
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let c128_i32_4071 : BitVec 32 := 128#32
  let v9902 : BitVec 32 := Scalar.muli v9901 c128_i32_4071
  let v9903 : BitVec 32 := v9902
  let v9904 : Index := Scalar.indexCast v9903
  let c0_4073 : Index := 0#32
  ![0, v9904.toNat, 0]
def k0_off35 (k0_t3 : Fin k0_t3_loop.trips) : Fin 3 → Nat :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let v9920 : Index := Scalar.indexCast v9901
  let c0_4075 : Index := 0#32
  let c0_4076 : Index := 0#32
  ![v9920.toNat, 0, 0]
def k0_mult8 (k0_t3 : Fin k0_t3_loop.trips) : BitVec 32 :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let c4_i32_4085 : BitVec 32 := 4#32
  let v9939 : BitVec 32 := Scalar.subi v9901 c4_i32_4085
  let c0_i32_4086 : BitVec 32 := 0#32
  let v9940 : BitVec 32 := Scalar.maxsi v9939 c0_i32_4086
  let c128_i32_4087 : BitVec 32 := 128#32
  let v9941 : BitVec 32 := Scalar.muli v9940 c128_i32_4087
  v9941
def k0_off36 (k0_t3 : Fin k0_t3_loop.trips) : Fin 3 → Nat :=
  let c0_4088 : Index := 0#32
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let c4_i32_4085 : BitVec 32 := 4#32
  let v9939 : BitVec 32 := Scalar.subi v9901 c4_i32_4085
  let c0_i32_4086 : BitVec 32 := 0#32
  let v9940 : BitVec 32 := Scalar.maxsi v9939 c0_i32_4086
  let c128_i32_4087 : BitVec 32 := 128#32
  let v9941 : BitVec 32 := Scalar.muli v9940 c128_i32_4087
  let v9942 : BitVec 32 := v9941
  let v9943 : Index := Scalar.indexCast v9942
  let c0_4089 : Index := 0#32
  ![0, v9943.toNat, 0]
def k0_off37 (k0_t3 : Fin k0_t3_loop.trips) (c0_i32_4091 : BitVec 32) : Fin 3 → Nat :=
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let c4_i32_4085 : BitVec 32 := 4#32
  let v9939 : BitVec 32 := Scalar.subi v9901 c4_i32_4085
  let c0_i32_4086 : BitVec 32 := 0#32
  let v9940 : BitVec 32 := Scalar.maxsi v9939 c0_i32_4086
  let v9947 : BitVec 32 := Scalar.addi v9940 c0_i32_4091
  let v9948 : BitVec 1 := Scalar.cmpi .eq v9947 v9901
  let c0_i32_4096 : BitVec 32 := 0#32
  let v9949 : BitVec 1 := Scalar.cmpi .sgt v9947 v9901
  let c3_i32_4095 : BitVec 32 := 3#32
  let c4_i32_4092 : BitVec 32 := 4#32
  let v9950 : BitVec 32 := Scalar.subi v9901 c4_i32_4092
  let v9951 : BitVec 1 := Scalar.cmpi .eq v9947 v9950
  let c1_i32_4093 : BitVec 32 := 1#32
  let c2_i32_4094 : BitVec 32 := 2#32
  let v9952 : BitVec 32 := Scalar.select v9951 c1_i32_4093 c2_i32_4094
  let v9953 : BitVec 32 := Scalar.select v9949 c3_i32_4095 v9952
  let v9954 : BitVec 32 := Scalar.select v9948 c0_i32_4096 v9953
  let v9956 : Index := Scalar.indexCast v9954
  let c0_4097 : Index := 0#32
  let c0_4098 : Index := 0#32
  ![v9956.toNat, 0, 0]
def k0_off38 (k0_t3 : Fin k0_t3_loop.trips) : Fin 3 → Nat :=
  let c0_4149 : Index := 0#32
  let c16_i32_3216 : BitVec 32 := 16#32
  let c0_i32_234 : BitVec 32 := 0#32
  let c1_i32_236 : BitVec 32 := 1#32
  let arg23 : BitVec 32 := Scf.iv c0_i32_234 c1_i32_236 k0_t3
  let c1_i32_3215 : BitVec 32 := 1#32
  let v7732 : BitVec 32 := Scalar.muli arg23 c1_i32_3215
  let v7733 : BitVec 32 := Scalar.addi c16_i32_3216 v7732
  let c2_i32_4070 : BitVec 32 := 2#32
  let v9901 : BitVec 32 := Scalar.addi v7733 c2_i32_4070
  let c128_i32_4071 : BitVec 32 := 128#32
  let v9902 : BitVec 32 := Scalar.muli v9901 c128_i32_4071
  let v9903 : BitVec 32 := v9902
  let v10044 : Index := Scalar.indexCast v9903
  let c0_4150 : Index := 0#32
  ![0, v10044.toNat, 0]
@[reducible] def k0_t4_loop : Scf.Loop 32 :=
  let c0_i32_238 : BitVec 32 := 0#32
  let c6_i32_239 : BitVec 32 := 6#32
  let v370 : BitVec 32 := Scalar.addi c0_i32_238 c6_i32_239
  let c1_i32_240 : BitVec 32 := 1#32
  ⟨c0_i32_238, v370, c1_i32_240⟩
def k0_off39 (k0_t4 : Fin k0_t4_loop.trips) : Fin 3 → Nat :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let v11105 : Index := Scalar.indexCast v7733
  let c128_4515 : Index := 128#32
  let c0_4516 : Index := 0#32
  ![v11105.toNat, 128, 0]
def k0_off40 (k0_t4 : Fin k0_t4_loop.trips) (c0_i32_4519 : BitVec 32) : Fin 4 → Nat :=
  let c0_4520 : Index := 0#32
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c4_i32_4517 : BitVec 32 := 4#32
  let v11109 : BitVec 32 := Scalar.subi v7733 c4_i32_4517
  let c0_i32_4518 : BitVec 32 := 0#32
  let v11110 : BitVec 32 := Scalar.maxsi v11109 c0_i32_4518
  let v11111 : BitVec 32 := Scalar.addi v11110 c0_i32_4519
  let v11112 : Index := Scalar.indexCast v11111
  let c0_4521 : Index := 0#32
  let c0_4522 : Index := 0#32
  ![0, v11112.toNat, 0, 0]
def k0_off41 (k0_t4 : Fin k0_t4_loop.trips) : Fin 4 → Nat :=
  let c0_4543 : Index := 0#32
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let v11136 : Index := Scalar.indexCast v7733
  let c0_4544 : Index := 0#32
  let c0_4545 : Index := 0#32
  ![0, v11136.toNat, 0, 0]
def k0_off42 (k0_t4 : Fin k0_t4_loop.trips) : Fin 3 → Nat :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let v11143 : Index := Scalar.indexCast v7733
  let c0_4550 : Index := 0#32
  let c0_4551 : Index := 0#32
  ![v11143.toNat, 0, 0]
def k0_off43 (k0_t4 : Fin k0_t4_loop.trips) : Fin 4 → Nat :=
  let c0_4552 : Index := 0#32
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let v11147 : Index := Scalar.indexCast v7733
  let c0_4553 : Index := 0#32
  let c0_4554 : Index := 0#32
  ![0, v11147.toNat, 0, 0]
def k0_off44 (k0_t4 : Fin k0_t4_loop.trips) : Fin 3 → Nat :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let v11172 : Index := Scalar.indexCast v7733
  let c0_4558 : Index := 0#32
  let c0_4559 : Index := 0#32
  ![v11172.toNat, 0, 0]
def k0_off45 (k0_t4 : Fin k0_t4_loop.trips) (c1_i32_4560 : BitVec 32) : Fin 3 → Nat :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let v11176 : BitVec 32 := Scalar.addi v7733 c1_i32_4560
  let v11198 : Index := Scalar.indexCast v11176
  let c0_4577 : Index := 0#32
  let c0_4578 : Index := 0#32
  ![v11198.toNat, 0, 0]
def k0_mult9 (k0_t4 : Fin k0_t4_loop.trips) : BitVec 32 :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let c128_i32_4582 : BitVec 32 := 128#32
  let v11209 : BitVec 32 := Scalar.muli v11208 c128_i32_4582
  v11209
def k0_off46 (k0_t4 : Fin k0_t4_loop.trips) : Fin 3 → Nat :=
  let c0_4583 : Index := 0#32
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let c128_i32_4582 : BitVec 32 := 128#32
  let v11209 : BitVec 32 := Scalar.muli v11208 c128_i32_4582
  let v11210 : BitVec 32 := v11209
  let v11211 : Index := Scalar.indexCast v11210
  let c0_4584 : Index := 0#32
  ![0, v11211.toNat, 0]
def k0_off47 (k0_t4 : Fin k0_t4_loop.trips) : Fin 3 → Nat :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let v11227 : Index := Scalar.indexCast v11208
  let c0_4586 : Index := 0#32
  let c0_4587 : Index := 0#32
  ![v11227.toNat, 0, 0]
def k0_mult10 (k0_t4 : Fin k0_t4_loop.trips) : BitVec 32 :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let c4_i32_4596 : BitVec 32 := 4#32
  let v11246 : BitVec 32 := Scalar.subi v11208 c4_i32_4596
  let c0_i32_4597 : BitVec 32 := 0#32
  let v11247 : BitVec 32 := Scalar.maxsi v11246 c0_i32_4597
  let c128_i32_4598 : BitVec 32 := 128#32
  let v11248 : BitVec 32 := Scalar.muli v11247 c128_i32_4598
  v11248
def k0_off48 (k0_t4 : Fin k0_t4_loop.trips) : Fin 3 → Nat :=
  let c0_4599 : Index := 0#32
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let c4_i32_4596 : BitVec 32 := 4#32
  let v11246 : BitVec 32 := Scalar.subi v11208 c4_i32_4596
  let c0_i32_4597 : BitVec 32 := 0#32
  let v11247 : BitVec 32 := Scalar.maxsi v11246 c0_i32_4597
  let c128_i32_4598 : BitVec 32 := 128#32
  let v11248 : BitVec 32 := Scalar.muli v11247 c128_i32_4598
  let v11249 : BitVec 32 := v11248
  let v11250 : Index := Scalar.indexCast v11249
  let c0_4600 : Index := 0#32
  ![0, v11250.toNat, 0]
def k0_off49 (k0_t4 : Fin k0_t4_loop.trips) (c0_i32_4602 : BitVec 32) : Fin 3 → Nat :=
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let c4_i32_4596 : BitVec 32 := 4#32
  let v11246 : BitVec 32 := Scalar.subi v11208 c4_i32_4596
  let c0_i32_4597 : BitVec 32 := 0#32
  let v11247 : BitVec 32 := Scalar.maxsi v11246 c0_i32_4597
  let v11254 : BitVec 32 := Scalar.addi v11247 c0_i32_4602
  let v11255 : BitVec 1 := Scalar.cmpi .eq v11254 v11208
  let c0_i32_4607 : BitVec 32 := 0#32
  let v11256 : BitVec 1 := Scalar.cmpi .sgt v11254 v11208
  let c3_i32_4606 : BitVec 32 := 3#32
  let c4_i32_4603 : BitVec 32 := 4#32
  let v11257 : BitVec 32 := Scalar.subi v11208 c4_i32_4603
  let v11258 : BitVec 1 := Scalar.cmpi .eq v11254 v11257
  let c1_i32_4604 : BitVec 32 := 1#32
  let c2_i32_4605 : BitVec 32 := 2#32
  let v11259 : BitVec 32 := Scalar.select v11258 c1_i32_4604 c2_i32_4605
  let v11260 : BitVec 32 := Scalar.select v11256 c3_i32_4606 v11259
  let v11261 : BitVec 32 := Scalar.select v11255 c0_i32_4607 v11260
  let v11263 : Index := Scalar.indexCast v11261
  let c0_4608 : Index := 0#32
  let c0_4609 : Index := 0#32
  ![v11263.toNat, 0, 0]
def k0_off50 (k0_t4 : Fin k0_t4_loop.trips) : Fin 3 → Nat :=
  let c0_4660 : Index := 0#32
  let c24_i32_3216 : BitVec 32 := 24#32
  let c0_i32_238 : BitVec 32 := 0#32
  let c1_i32_240 : BitVec 32 := 1#32
  let arg23 : BitVec 32 := Scf.iv c0_i32_238 c1_i32_240 k0_t4
  let c1_i32_3215 : BitVec 32 := 1#32
  let v7732 : BitVec 32 := Scalar.muli arg23 c1_i32_3215
  let v7733 : BitVec 32 := Scalar.addi c24_i32_3216 v7732
  let c2_i32_4581 : BitVec 32 := 2#32
  let v11208 : BitVec 32 := Scalar.addi v7733 c2_i32_4581
  let c128_i32_4582 : BitVec 32 := 128#32
  let v11209 : BitVec 32 := Scalar.muli v11208 c128_i32_4582
  let v11210 : BitVec 32 := v11209
  let v11351 : Index := Scalar.indexCast v11210
  let c0_4661 : Index := 0#32
  ![0, v11351.toNat, 0]
def k0_off51 (c26_i32_1494 : BitVec 32) (c0_i32_1496 : BitVec 32) : Fin 4 → Nat :=
  let c0_1497 : Index := 0#32
  let c0_i32_1495 : BitVec 32 := 0#32
  let v3743 : BitVec 32 := Scalar.maxsi c26_i32_1494 c0_i32_1495
  let v3744 : BitVec 32 := Scalar.addi v3743 c0_i32_1496
  let v3745 : Index := Scalar.indexCast v3744
  let c0_1498 : Index := 0#32
  let c0_1499 : Index := 0#32
  ![0, v3745.toNat, 0, 0]
def k0_mult11 : BitVec 32 :=
  let c0_i32_2922 : BitVec 32 := 0#32
  let c512_i32 : BitVec 32 := 512#32
  let v7275 : BitVec 32 := Scalar.muli c0_i32_2922 c512_i32
  v7275
def k0_off52 : Fin 3 → Nat :=
  let c0_2923 : Index := 0#32
  let c0_i32_2922 : BitVec 32 := 0#32
  let c512_i32 : BitVec 32 := 512#32
  let v7275 : BitVec 32 := Scalar.muli c0_i32_2922 c512_i32
  let v7276 : BitVec 32 := v7275
  let v7277 : Index := Scalar.indexCast v7276
  let c0_2924 : Index := 0#32
  ![0, v7277.toNat, 0]
def k0_off53 : Fin 2 → Nat :=
  let c0_i32_2922 : BitVec 32 := 0#32
  let c512_i32 : BitVec 32 := 512#32
  let v7275 : BitVec 32 := Scalar.muli c0_i32_2922 c512_i32
  let v7276 : BitVec 32 := v7275
  let v7280 : Index := Scalar.indexCast v7276
  let c0_2925 : Index := 0#32
  ![v7280.toNat, 0]
def k0_off54 (c0_i32_2928 : BitVec 32) : Fin 3 → Nat :=
  let c0_i32_2926 : BitVec 32 := 0#32
  let c4_i32_2927 : BitVec 32 := 4#32
  let v7283 : BitVec 32 := Scalar.muli c0_i32_2926 c4_i32_2927
  let v7284 : BitVec 32 := Scalar.addi v7283 c0_i32_2928
  let v7285 : Index := Scalar.indexCast v7284
  let c0_2929 : Index := 0#32
  let c0_2930 : Index := 0#32
  ![v7285.toNat, 0, 0]
def k0_mult12 : BitVec 32 :=
  let c0_i32_2911 : BitVec 32 := 0#32
  let c1_i32_2912 : BitVec 32 := 1#32
  let v7267 : BitVec 32 := Scalar.addi c0_i32_2911 c1_i32_2912
  let c8_i32_2913 : BitVec 32 := 8#32
  let v7268 : BitVec 1 := Scalar.cmpi .eq v7267 c8_i32_2913
  let c0_i32_2914 : BitVec 32 := 0#32
  let c1_i32_2915 : BitVec 32 := 1#32
  let v7269 : BitVec 32 := Scalar.addi c0_i32_2914 c1_i32_2915
  let c0_i32_2916 : BitVec 32 := 0#32
  let v7270 : BitVec 32 := Scalar.select v7268 v7269 c0_i32_2916
  let c512_i32_2988 : BitVec 32 := 512#32
  let v7363 : BitVec 32 := Scalar.muli v7270 c512_i32_2988
  v7363
def k0_off55 : Fin 3 → Nat :=
  let c0_2989 : Index := 0#32
  let c0_i32_2911 : BitVec 32 := 0#32
  let c1_i32_2912 : BitVec 32 := 1#32
  let v7267 : BitVec 32 := Scalar.addi c0_i32_2911 c1_i32_2912
  let c8_i32_2913 : BitVec 32 := 8#32
  let v7268 : BitVec 1 := Scalar.cmpi .eq v7267 c8_i32_2913
  let c0_i32_2914 : BitVec 32 := 0#32
  let c1_i32_2915 : BitVec 32 := 1#32
  let v7269 : BitVec 32 := Scalar.addi c0_i32_2914 c1_i32_2915
  let c0_i32_2916 : BitVec 32 := 0#32
  let v7270 : BitVec 32 := Scalar.select v7268 v7269 c0_i32_2916
  let c512_i32_2988 : BitVec 32 := 512#32
  let v7363 : BitVec 32 := Scalar.muli v7270 c512_i32_2988
  let v7364 : BitVec 32 := v7363
  let v7365 : Index := Scalar.indexCast v7364
  let c0_2990 : Index := 0#32
  ![0, v7365.toNat, 0]
def k0_off56 : Fin 2 → Nat :=
  let c0_i32_2911 : BitVec 32 := 0#32
  let c1_i32_2912 : BitVec 32 := 1#32
  let v7267 : BitVec 32 := Scalar.addi c0_i32_2911 c1_i32_2912
  let c8_i32_2913 : BitVec 32 := 8#32
  let v7268 : BitVec 1 := Scalar.cmpi .eq v7267 c8_i32_2913
  let c0_i32_2914 : BitVec 32 := 0#32
  let c1_i32_2915 : BitVec 32 := 1#32
  let v7269 : BitVec 32 := Scalar.addi c0_i32_2914 c1_i32_2915
  let c0_i32_2916 : BitVec 32 := 0#32
  let v7270 : BitVec 32 := Scalar.select v7268 v7269 c0_i32_2916
  let c512_i32_2988 : BitVec 32 := 512#32
  let v7363 : BitVec 32 := Scalar.muli v7270 c512_i32_2988
  let v7364 : BitVec 32 := v7363
  let v7368 : Index := Scalar.indexCast v7364
  let c0_2991 : Index := 0#32
  ![v7368.toNat, 0]
def k0_off57 (c0_i32_2993 : BitVec 32) : Fin 3 → Nat :=
  let c0_i32_2911 : BitVec 32 := 0#32
  let c1_i32_2912 : BitVec 32 := 1#32
  let v7267 : BitVec 32 := Scalar.addi c0_i32_2911 c1_i32_2912
  let c8_i32_2913 : BitVec 32 := 8#32
  let v7268 : BitVec 1 := Scalar.cmpi .eq v7267 c8_i32_2913
  let c1_i32_2919 : BitVec 32 := 1#32
  let c0_i32_2917 : BitVec 32 := 0#32
  let c1_i32_2918 : BitVec 32 := 1#32
  let v7271 : BitVec 32 := Scalar.addi c0_i32_2917 c1_i32_2918
  let v7272 : BitVec 32 := Scalar.muli c1_i32_2919 v7271
  let c0_i32_2920 : BitVec 32 := 0#32
  let c1_i32_2921 : BitVec 32 := 1#32
  let v7273 : BitVec 32 := Scalar.addi c0_i32_2920 c1_i32_2921
  let v7274 : BitVec 32 := Scalar.select v7268 v7272 v7273
  let c4_i32_2992 : BitVec 32 := 4#32
  let v7371 : BitVec 32 := Scalar.muli v7274 c4_i32_2992
  let v7372 : BitVec 32 := Scalar.addi v7371 c0_i32_2993
  let v7373 : Index := Scalar.indexCast v7372
  let c0_2994 : Index := 0#32
  let c0_2995 : Index := 0#32
  ![v7373.toNat, 0, 0]
@[reducible] def k0_t5_loop : Scf.Loop 32 :=
  let c0_i32_3030 : BitVec 32 := 0#32
  let c34_i32_3031 : BitVec 32 := 34#32
  let v7415 : BitVec 32 := Scalar.addi c0_i32_3030 c34_i32_3031
  let c1_i32_3032 : BitVec 32 := 1#32
  ⟨c0_i32_3030, v7415, c1_i32_3032⟩
def k0_off58 (arg24 : BitVec 32) (c0_i32_3222 : BitVec 32) : Fin 4 → Nat :=
  let c0_3223 : Index := 0#32
  let c4_i32_3221 : BitVec 32 := 4#32
  let v7740 : BitVec 32 := Scalar.muli c4_i32_3221 arg24
  let v7741 : BitVec 32 := Scalar.addi v7740 c0_i32_3222
  let v7742 : Index := Scalar.indexCast v7741
  let c0_3224 : Index := 0#32
  let c0_3225 : Index := 0#32
  ![0, v7742.toNat, 0, 0]

def k0_chk1 (arg24 : BitVec 32) : Prop :=
  (∀ (r : Fin 4), ∀ a, (k0_off58 arg24 (BitVec.ofNat 32 r.val)) a + S1x1x64x128.size a ≤ S1x32x64x128.size a)
theorem k0_off58_inb : ∀ (arg24 : BitVec 32) (k0_hw1 : k0_chk1 arg24), ∀ (r : Fin 4), ∀ a, (k0_off58 arg24 (BitVec.ofNat 32 r.val)) a + S1x1x64x128.size a ≤ S1x32x64x128.size a := fun arg24 k0_hw1 r => k0_hw1 r

def k0_off59 (arg25 : BitVec 32) (c0_i32_3243 : BitVec 32) : Fin 3 → Nat :=
  let c4_i32_3242 : BitVec 32 := 4#32
  let v7763 : BitVec 32 := Scalar.muli arg25 c4_i32_3242
  let v7764 : BitVec 32 := Scalar.addi v7763 c0_i32_3243
  let v7768 : Index := Scalar.indexCast v7764
  let c0_3248 : Index := 0#32
  let c0_3249 : Index := 0#32
  ![v7768.toNat, 0, 0]

def k0_off60 (arg25 : BitVec 32) (c0_i32_3243 : BitVec 32) : Fin 3 → Nat :=
  let c4_i32_3242 : BitVec 32 := 4#32
  let v7763 : BitVec 32 := Scalar.muli arg25 c4_i32_3242
  let v7764 : BitVec 32 := Scalar.addi v7763 c0_i32_3243
  let v7774 : Index := Scalar.indexCast v7764
  let c0_3250 : Index := 0#32
  let c0_3251 : Index := 0#32
  ![v7774.toNat, 0, 0]

def k0_chk2 (arg25 : BitVec 32) : Prop :=
  (∀ (r : Fin 4), ∀ a, (k0_off59 arg25 (BitVec.ofNat 32 r.val)) a + S1x1x512.size a ≤ S32x1x512.size a) ∧
  (∀ (r : Fin 4), ∀ a, (k0_off60 arg25 (BitVec.ofNat 32 r.val)) a + S1x80x512.size a ≤ S32x80x512.size a)
theorem k0_off59_inb : ∀ (arg25 : BitVec 32) (k0_hw2 : k0_chk2 arg25), ∀ (r : Fin 4), ∀ a, (k0_off59 arg25 (BitVec.ofNat 32 r.val)) a + S1x1x512.size a ≤ S32x1x512.size a := fun arg25 k0_hw2 r => k0_hw2.1 r
theorem k0_off60_inb : ∀ (arg25 : BitVec 32) (k0_hw2 : k0_chk2 arg25), ∀ (r : Fin 4), ∀ a, (k0_off60 arg25 (BitVec.ofNat 32 r.val)) a + S1x80x512.size a ≤ S32x80x512.size a := fun arg25 k0_hw2 r => k0_hw2.2 r

def k0_mult13 (arg26 : BitVec 32) (arg27 : BitVec 32) : BitVec 32 :=
  let c1_i32_3215 : BitVec 32 := 1#32
  let v7732 : BitVec 32 := Scalar.addi arg27 c1_i32_3215
  let c8_i32_3216 : BitVec 32 := 8#32
  let v7733 : BitVec 1 := Scalar.cmpi .eq v7732 c8_i32_3216
  let c1_i32_3217 : BitVec 32 := 1#32
  let v7734 : BitVec 32 := Scalar.addi arg26 c1_i32_3217
  let v7735 : BitVec 32 := Scalar.select v7733 v7734 arg26
  let c512_i32_3322 : BitVec 32 := 512#32
  let v7915 : BitVec 32 := Scalar.muli v7735 c512_i32_3322
  v7915

def k0_off61 (arg26 : BitVec 32) (arg27 : BitVec 32) : Fin 3 → Nat :=
  let c0_3323 : Index := 0#32
  let c1_i32_3215 : BitVec 32 := 1#32
  let v7732 : BitVec 32 := Scalar.addi arg27 c1_i32_3215
  let c8_i32_3216 : BitVec 32 := 8#32
  let v7733 : BitVec 1 := Scalar.cmpi .eq v7732 c8_i32_3216
  let c1_i32_3217 : BitVec 32 := 1#32
  let v7734 : BitVec 32 := Scalar.addi arg26 c1_i32_3217
  let v7735 : BitVec 32 := Scalar.select v7733 v7734 arg26
  let c512_i32_3322 : BitVec 32 := 512#32
  let v7915 : BitVec 32 := Scalar.muli v7735 c512_i32_3322
  let v7916 : BitVec 32 := v7915
  let v7917 : Index := Scalar.indexCast v7916
  let c0_3324 : Index := 0#32
  ![0, v7917.toNat, 0]
def k0_off62 (arg26 : BitVec 32) (arg27 : BitVec 32) : Fin 2 → Nat :=
  let c1_i32_3215 : BitVec 32 := 1#32
  let v7732 : BitVec 32 := Scalar.addi arg27 c1_i32_3215
  let c8_i32_3216 : BitVec 32 := 8#32
  let v7733 : BitVec 1 := Scalar.cmpi .eq v7732 c8_i32_3216
  let c1_i32_3217 : BitVec 32 := 1#32
  let v7734 : BitVec 32 := Scalar.addi arg26 c1_i32_3217
  let v7735 : BitVec 32 := Scalar.select v7733 v7734 arg26
  let c512_i32_3322 : BitVec 32 := 512#32
  let v7915 : BitVec 32 := Scalar.muli v7735 c512_i32_3322
  let v7916 : BitVec 32 := v7915
  let v7920 : Index := Scalar.indexCast v7916
  let c0_3325 : Index := 0#32
  ![v7920.toNat, 0]
def k0_off63 (arg26 : BitVec 32) (arg27 : BitVec 32) (c0_i32_3327 : BitVec 32) : Fin 3 → Nat :=
  let c1_i32_3215 : BitVec 32 := 1#32
  let v7732 : BitVec 32 := Scalar.addi arg27 c1_i32_3215
  let c8_i32_3216 : BitVec 32 := 8#32
  let v7733 : BitVec 1 := Scalar.cmpi .eq v7732 c8_i32_3216
  let c1_i32_3219 : BitVec 32 := 1#32
  let c1_i32_3218 : BitVec 32 := 1#32
  let v7736 : BitVec 32 := Scalar.addi arg26 c1_i32_3218
  let v7737 : BitVec 32 := Scalar.muli c1_i32_3219 v7736
  let c1_i32_3220 : BitVec 32 := 1#32
  let v7738 : BitVec 32 := Scalar.addi arg27 c1_i32_3220
  let v7739 : BitVec 32 := Scalar.select v7733 v7737 v7738
  let c4_i32_3326 : BitVec 32 := 4#32
  let v7923 : BitVec 32 := Scalar.muli v7739 c4_i32_3326
  let v7924 : BitVec 32 := Scalar.addi v7923 c0_i32_3327
  let v7925 : Index := Scalar.indexCast v7924
  let c0_3328 : Index := 0#32
  let c0_3329 : Index := 0#32
  ![v7925.toNat, 0, 0]

def k0_chk3 (arg26 : BitVec 32) (arg27 : BitVec 32) : Prop :=
  (512 ∣ (k0_mult13 arg26 arg27).toNat) ∧
  (∀ a, (k0_off61 arg26 arg27) a + S1x512x128.size a ≤ S1x4096x128.size a) ∧
  (∀ a, (k0_off62 arg26 arg27) a + S512x128.size a ≤ S4096x128.size a) ∧
  (∀ (r : Fin 4), ∀ a, (k0_off63 arg26 arg27 (BitVec.ofNat 32 r.val)) a + S1x256x512.size a ≤ S32x256x512.size a)
theorem k0_mult13_dvd : ∀ (arg26 : BitVec 32) (arg27 : BitVec 32) (k0_hw3 : k0_chk3 arg26 arg27), 512 ∣ (k0_mult13 arg26 arg27).toNat := fun arg26 arg27 k0_hw3 => k0_hw3.1
theorem k0_off61_inb : ∀ (arg26 : BitVec 32) (arg27 : BitVec 32) (k0_hw3 : k0_chk3 arg26 arg27), ∀ a, (k0_off61 arg26 arg27) a + S1x512x128.size a ≤ S1x4096x128.size a := fun arg26 arg27 k0_hw3 => k0_hw3.2.1
theorem k0_off62_inb : ∀ (arg26 : BitVec 32) (arg27 : BitVec 32) (k0_hw3 : k0_chk3 arg26 arg27), ∀ a, (k0_off62 arg26 arg27) a + S512x128.size a ≤ S4096x128.size a := fun arg26 arg27 k0_hw3 => k0_hw3.2.2.1
theorem k0_off63_inb : ∀ (arg26 : BitVec 32) (arg27 : BitVec 32) (k0_hw3 : k0_chk3 arg26 arg27), ∀ (r : Fin 4), ∀ a, (k0_off63 arg26 arg27 (BitVec.ofNat 32 r.val)) a + S1x256x512.size a ≤ S32x256x512.size a := fun arg26 arg27 k0_hw3 r => k0_hw3.2.2.2 r

def k0_off64 (v7416_0 : BitVec 32) (c0_i32_3034 : BitVec 32) : Fin 4 → Nat :=
  let c0_3035 : Index := 0#32
  let c4_i32_3033 : BitVec 32 := 4#32
  let v7417 : BitVec 32 := Scalar.muli c4_i32_3033 v7416_0
  let v7418 : BitVec 32 := Scalar.addi v7417 c0_i32_3034
  let v7419 : Index := Scalar.indexCast v7418
  let c0_3036 : Index := 0#32
  let c0_3037 : Index := 0#32
  ![0, v7419.toNat, 0, 0]

def k0_chk4 (v7416_0 : BitVec 32) : Prop :=
  (∀ (r : Fin 4), ∀ a, (k0_off64 v7416_0 (BitVec.ofNat 32 r.val)) a + S1x1x64x128.size a ≤ S1x32x64x128.size a)
theorem k0_off64_inb : ∀ (v7416_0 : BitVec 32) (k0_hw4 : k0_chk4 v7416_0), ∀ (r : Fin 4), ∀ a, (k0_off64 v7416_0 (BitVec.ofNat 32 r.val)) a + S1x1x64x128.size a ≤ S1x32x64x128.size a := fun v7416_0 k0_hw4 r => k0_hw4 r

def k0_off65 (v7416_1 : BitVec 32) (c0_i32_3055 : BitVec 32) : Fin 3 → Nat :=
  let c4_i32_3054 : BitVec 32 := 4#32
  let v7440 : BitVec 32 := Scalar.muli v7416_1 c4_i32_3054
  let v7441 : BitVec 32 := Scalar.addi v7440 c0_i32_3055
  let v7445 : Index := Scalar.indexCast v7441
  let c0_3060 : Index := 0#32
  let c0_3061 : Index := 0#32
  ![v7445.toNat, 0, 0]

def k0_off66 (v7416_1 : BitVec 32) (c0_i32_3055 : BitVec 32) : Fin 3 → Nat :=
  let c4_i32_3054 : BitVec 32 := 4#32
  let v7440 : BitVec 32 := Scalar.muli v7416_1 c4_i32_3054
  let v7441 : BitVec 32 := Scalar.addi v7440 c0_i32_3055
  let v7451 : Index := Scalar.indexCast v7441
  let c0_3062 : Index := 0#32
  let c0_3063 : Index := 0#32
  ![v7451.toNat, 0, 0]

def k0_chk5 (v7416_1 : BitVec 32) : Prop :=
  (∀ (r : Fin 4), ∀ a, (k0_off65 v7416_1 (BitVec.ofNat 32 r.val)) a + S1x1x512.size a ≤ S32x1x512.size a) ∧
  (∀ (r : Fin 4), ∀ a, (k0_off66 v7416_1 (BitVec.ofNat 32 r.val)) a + S1x80x512.size a ≤ S32x80x512.size a)
theorem k0_off65_inb : ∀ (v7416_1 : BitVec 32) (k0_hw5 : k0_chk5 v7416_1), ∀ (r : Fin 4), ∀ a, (k0_off65 v7416_1 (BitVec.ofNat 32 r.val)) a + S1x1x512.size a ≤ S32x1x512.size a := fun v7416_1 k0_hw5 r => k0_hw5.1 r
theorem k0_off66_inb : ∀ (v7416_1 : BitVec 32) (k0_hw5 : k0_chk5 v7416_1), ∀ (r : Fin 4), ∀ a, (k0_off66 v7416_1 (BitVec.ofNat 32 r.val)) a + S1x80x512.size a ≤ S32x80x512.size a := fun v7416_1 k0_hw5 r => k0_hw5.2 r

def k0_off67 (v7416_2 : BitVec 32) (c0_i32_3135 : BitVec 32) : Fin 4 → Nat :=
  let c0_3136 : Index := 0#32
  let c4_i32_3134 : BitVec 32 := 4#32
  let v7592 : BitVec 32 := Scalar.muli c4_i32_3134 v7416_2
  let v7593 : BitVec 32 := Scalar.addi v7592 c0_i32_3135
  let v7594 : Index := Scalar.indexCast v7593
  let c0_3137 : Index := 0#32
  let c0_3138 : Index := 0#32
  ![0, v7594.toNat, 0, 0]

def k0_chk6 (v7416_2 : BitVec 32) : Prop :=
  (∀ (r : Fin 4), ∀ a, (k0_off67 v7416_2 (BitVec.ofNat 32 r.val)) a + S1x1x64x128.size a ≤ S1x32x64x128.size a)
theorem k0_off67_inb : ∀ (v7416_2 : BitVec 32) (k0_hw6 : k0_chk6 v7416_2), ∀ (r : Fin 4), ∀ a, (k0_off67 v7416_2 (BitVec.ofNat 32 r.val)) a + S1x1x64x128.size a ≤ S1x32x64x128.size a := fun v7416_2 k0_hw6 r => k0_hw6 r

def k0_off68 (v7416_3 : BitVec 32) (c0_i32_3156 : BitVec 32) : Fin 3 → Nat :=
  let c4_i32_3155 : BitVec 32 := 4#32
  let v7615 : BitVec 32 := Scalar.muli v7416_3 c4_i32_3155
  let v7616 : BitVec 32 := Scalar.addi v7615 c0_i32_3156
  let v7620 : Index := Scalar.indexCast v7616
  let c0_3161 : Index := 0#32
  let c0_3162 : Index := 0#32
  ![v7620.toNat, 0, 0]

def k0_off69 (v7416_3 : BitVec 32) (c0_i32_3156 : BitVec 32) : Fin 3 → Nat :=
  let c4_i32_3155 : BitVec 32 := 4#32
  let v7615 : BitVec 32 := Scalar.muli v7416_3 c4_i32_3155
  let v7616 : BitVec 32 := Scalar.addi v7615 c0_i32_3156
  let v7626 : Index := Scalar.indexCast v7616
  let c0_3163 : Index := 0#32
  let c0_3164 : Index := 0#32
  ![v7626.toNat, 0, 0]

def k0_chk7 (v7416_3 : BitVec 32) : Prop :=
  (∀ (r : Fin 4), ∀ a, (k0_off68 v7416_3 (BitVec.ofNat 32 r.val)) a + S1x1x512.size a ≤ S32x1x512.size a) ∧
  (∀ (r : Fin 4), ∀ a, (k0_off69 v7416_3 (BitVec.ofNat 32 r.val)) a + S1x80x512.size a ≤ S32x80x512.size a)
theorem k0_off68_inb : ∀ (v7416_3 : BitVec 32) (k0_hw7 : k0_chk7 v7416_3), ∀ (r : Fin 4), ∀ a, (k0_off68 v7416_3 (BitVec.ofNat 32 r.val)) a + S1x1x512.size a ≤ S32x1x512.size a := fun v7416_3 k0_hw7 r => k0_hw7.1 r
theorem k0_off69_inb : ∀ (v7416_3 : BitVec 32) (k0_hw7 : k0_chk7 v7416_3), ∀ (r : Fin 4), ∀ a, (k0_off69 v7416_3 (BitVec.ofNat 32 r.val)) a + S1x80x512.size a ≤ S32x80x512.size a := fun v7416_3 k0_hw7 r => k0_hw7.2 r

@[reducible] def k0_t6_loop : Scf.Loop 32 :=
  let c0_i32_3211 : BitVec 32 := 0#32
  let c32_i32_3212 : BitVec 32 := 32#32
  let v7731 : BitVec 32 := Scalar.addi c0_i32_3211 c32_i32_3212
  let c1_i32_3213 : BitVec 32 := 1#32
  ⟨c0_i32_3211, v7731, c1_i32_3213⟩
def k0_mult14 (k0_t6 : Fin k0_t6_loop.trips) : BitVec 32 :=
  let c0_i32_3216 : BitVec 32 := 0#32
  let c0_i32_3211 : BitVec 32 := 0#32
  let c1_i32_3213 : BitVec 32 := 1#32
  let arg23 : BitVec 32 := Scf.iv c0_i32_3211 c1_i32_3213 k0_t6
  let c1_i32_3215 : BitVec 32 := 1#32
  let v7732 : BitVec 32 := Scalar.muli arg23 c1_i32_3215
  let v7733 : BitVec 32 := Scalar.addi c0_i32_3216 v7732
  let c128_i32_3217 : BitVec 32 := 128#32
  let v7734 : BitVec 32 := Scalar.muli v7733 c128_i32_3217
  v7734
def k0_off70 (k0_t6 : Fin k0_t6_loop.trips) : Fin 3 → Nat :=
  let c0_i32_3216 : BitVec 32 := 0#32
  let c0_i32_3211 : BitVec 32 := 0#32
  let c1_i32_3213 : BitVec 32 := 1#32
  let arg23 : BitVec 32 := Scf.iv c0_i32_3211 c1_i32_3213 k0_t6
  let c1_i32_3215 : BitVec 32 := 1#32
  let v7732 : BitVec 32 := Scalar.muli arg23 c1_i32_3215
  let v7733 : BitVec 32 := Scalar.addi c0_i32_3216 v7732
  let v7736 : Index := Scalar.indexCast v7733
  let c0_3218 : Index := 0#32
  let c0_3219 : Index := 0#32
  ![v7736.toNat, 0, 0]
def k0_off71 (k0_t6 : Fin k0_t6_loop.trips) : Fin 4 → Nat :=
  let c0_3220 : Index := 0#32
  let c0_i32_3216 : BitVec 32 := 0#32
  let c0_i32_3211 : BitVec 32 := 0#32
  let c1_i32_3213 : BitVec 32 := 1#32
  let arg23 : BitVec 32 := Scf.iv c0_i32_3211 c1_i32_3213 k0_t6
  let c1_i32_3215 : BitVec 32 := 1#32
  let v7732 : BitVec 32 := Scalar.muli arg23 c1_i32_3215
  let v7733 : BitVec 32 := Scalar.addi c0_i32_3216 v7732
  let v7739 : Index := Scalar.indexCast v7733
  let c0_3221 : Index := 0#32
  let c0_3222 : Index := 0#32
  ![0, v7739.toNat, 0, 0]
def k0_off72 (k0_t6 : Fin k0_t6_loop.trips) : Fin 3 → Nat :=
  let c0_i32_3216 : BitVec 32 := 0#32
  let c0_i32_3211 : BitVec 32 := 0#32
  let c1_i32_3213 : BitVec 32 := 1#32
  let arg23 : BitVec 32 := Scf.iv c0_i32_3211 c1_i32_3213 k0_t6
  let c1_i32_3215 : BitVec 32 := 1#32
  let v7732 : BitVec 32 := Scalar.muli arg23 c1_i32_3215
  let v7733 : BitVec 32 := Scalar.addi c0_i32_3216 v7732
  let v7747 : Index := Scalar.indexCast v7733
  let c0_3223 : Index := 0#32
  let c0_3224 : Index := 0#32
  ![v7747.toNat, 0, 0]
def k0_off73 (k0_t6 : Fin k0_t6_loop.trips) : Fin 3 → Nat :=
  let c0_3225 : Index := 0#32
  let c0_i32_3216 : BitVec 32 := 0#32
  let c0_i32_3211 : BitVec 32 := 0#32
  let c1_i32_3213 : BitVec 32 := 1#32
  let arg23 : BitVec 32 := Scf.iv c0_i32_3211 c1_i32_3213 k0_t6
  let c1_i32_3215 : BitVec 32 := 1#32
  let v7732 : BitVec 32 := Scalar.muli arg23 c1_i32_3215
  let v7733 : BitVec 32 := Scalar.addi c0_i32_3216 v7732
  let c128_i32_3217 : BitVec 32 := 128#32
  let v7734 : BitVec 32 := Scalar.muli v7733 c128_i32_3217
  let v7735 : BitVec 32 := v7734
  let v7763 : Index := Scalar.indexCast v7735
  let c0_3226 : Index := 0#32
  ![0, v7763.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.OutBlock.lean ====
/- The output projection, row by row over the extended reals: what one grid point's store is worth at an index, and what
   the reference is worth at an index, both as the same function `outRow` of one row's entries. -/
module

public import proofs.«01_k».proof.Proof.Gen.OutIdeal.Value
public import proofs.«01_k».proof.Proof.Gen.OutRefIdeal.Read
public import Idealize.ShloMosaic.Lib.Pointwise

@[expose] public section

noncomputable section

namespace Cert.Proof.OutBlock

open Idealize.ShloMosaic Idealize.SL.Sem Cert.OutIdeal Cert.OutIdeal.Gen Idealize.ShloMosaic.TcCoe

/-- One row of the residual stream plus the projection of the two mixers' row: `x + [a, b] · w`, the first 512 rows of `w`
    facing `a` and the others facing `b`. -/
def mixRow (x : Fin 1024 → EReal) (a b : Fin 512 → EReal) (w : Fin 1024 → Fin 1024 → EReal) (j : Fin 1024) : EReal :=
  x j + (∑ k : Fin 512, a k * w ⟨k.val, by omega⟩ j + ∑ k : Fin 512, b k * w ⟨512 + k.val, by omega⟩ j)

/-- The row normalised by its root mean square and scaled by the gain `g`. -/
def outRow (x : Fin 1024 → EReal) (a b : Fin 512 → EReal) (w : Fin 1024 → Fin 1024 → EReal) (g : Fin 1024 → EReal)
    (j : Fin 1024) : EReal :=
  mixRow x a b w j * Ideal.rsqrt (Ideal.div (∑ k, mixRow x a b w k * mixRow x a b w k) (Ideal.ofBits FTy.f32 1149239296#32)
      + Ideal.ofBits FTy.f32 897988541#32) * g j

/-- The body's store at row `r`, column `j` of the block. -/
theorem pay_apply (v0 v2 : Vec Ideal S1x1024x512 .bf16) (v5 : Vec Ideal S1x1024x1024 .f32)
    (v7 : Vec Ideal S1024x1024 .bf16) (v21 : Vec Ideal S1x1024 .f32) (z : Fin 1) (r j : Fin 1024) :
    k0_pay1 (F := Ideal) v0 v2 v5 v7 v21 (ix3 z r j)
      = outRow (fun k => v5 (ix3 0 r k)) (fun k => v0 (ix3 0 r k)) (fun k => v2 (ix3 0 r k)) (fun k l => v7 (ix2 k l))
          (fun k => v21 (ix2 0 k)) j := by
  unfold outRow mixRow
  pointwise [k0_pay1, dot_S1024x1024_S1024x1024_S1024x1024_1_0_0_1_n_n]

open Cert.OutRefIdeal.Read in
theorem ref5_apply (x0 : (⟨S16x4096x1024, .f32⟩ : BufTy).Contents (Elt Ideal)) (x1 x2 : (⟨S16x4096x512, .bf16⟩ : BufTy).Contents (Elt Ideal))
    (x3 : (⟨S1x1024x1024, .f32⟩ : BufTy).Contents (Elt Ideal)) (b : Fin 16) (t : Fin 4096) (j : Fin 1024) :
    val_main_v5 (F := Ideal) x0 x1 x2 x3 (ix3 b t j)
      = mixRow (fun k => x0 (ix3 b t k)) (fun k => x1 (ix3 b t k)) (fun k => x2 (ix3 b t k)) (fun k l => x3 (ix3 0 k l)) j := by
  unfold mixRow
  pointwise [val_main_v5, val_main_v4, Cert.OutRefIdeal.dot_S16x4096x1024_S1024x1024_S16x4096x1024_2_0_01_1_n_n, val_main_v3, val_main_v2, val_main_v1, val_main_v0]

open Cert.OutRefIdeal.Read in
/-- The reference at batch `b`, token `t`, column `j`. -/
theorem ref_apply (x0 : (⟨S16x4096x1024, .f32⟩ : BufTy).Contents (Elt Ideal)) (x1 x2 : (⟨S16x4096x512, .bf16⟩ : BufTy).Contents (Elt Ideal))
    (x3 : (⟨S1x1024x1024, .f32⟩ : BufTy).Contents (Elt Ideal)) (x4 : (⟨S1024, .f32⟩ : BufTy).Contents (Elt Ideal))
    (b : Fin 16) (t : Fin 4096) (j : Fin 1024) :
    val_main_v18 (F := Ideal) x0 x1 x2 x3 x4 (ix3 b t j)
      = outRow (fun k => x0 (ix3 b t k)) (fun k => x1 (ix3 b t k)) (fun k => x2 (ix3 b t k)) (fun k l => x3 (ix3 0 k l))
          (fun k => x4 (ix1 k)) j := by
  unfold outRow
  simp only [← ref5_apply]
  pointwise [val_main_v18, val_main_v17, val_main_v16, val_main_v15, val_main_v14, val_main_v13, val_main_v12, val_main_v11, val_main_v10, val_main_v9, val_main_v8, val_main_v7, val_main_v6, val_main_cst, val_main_cst_0, val_main_cst_1]

end Cert.Proof.OutBlock

end
-- ==== Proof.OutArray.lean ====
module

public import proofs.«01_k».proof.Proof.OutBlock
public import Idealize.ShloMosaic.Lib.Pipeline.Value

@[expose] public section

noncomputable section

namespace Cert.Proof.OutArray

open Idealize.ShloMosaic Idealize.SL.Sem Cert.OutIdeal Cert.OutIdeal.Gen Idealize.ShloMosaic.TcCoe Cert.Proof.OutBlock

variable (m : (ℓ : Loc nD τ sig) → Buf (Elt Ideal) ℓ)

/-- The grid's point for batch `b` and tile `i`, read back from its number. -/
theorem idx_facts : ∀ t : Fin grid0.N,
    (win0_0.index t 0 = t.val / 4 ∧ win0_0.index t 1 = t.val % 4 ∧ win0_0.index t 2 = 0) ∧
    (win0_1.index t 0 = t.val / 4 ∧ win0_1.index t 1 = t.val % 4 ∧ win0_1.index t 2 = 0) ∧
    (win0_2.index t 0 = t.val / 4 ∧ win0_2.index t 1 = t.val % 4 ∧ win0_2.index t 2 = 0) ∧
    (win0_3.index t 0 = 0 ∧ win0_3.index t 1 = 0) ∧ (win0_4.index t 0 = 0 ∧ win0_4.index t 1 = 0) ∧
    (win0_5.index t 0 = t.val / 4 ∧ win0_5.index t 1 = t.val % 4 ∧ win0_5.index t 2 = 0) := by decide +kernel

theorem lt64 (t : Fin cfg0.N) : t.val < 64 := lt_of_lt_of_eq t.isLt N_0

/-- The batch of a grid point. -/
def bat (t : Fin cfg0.N) : Fin 16 := ⟨t.val / 4, by have := lt64 t; omega⟩

/-- The token of row `r` of a grid point's tile. -/
def tok (t : Fin cfg0.N) (r : Fin 1024) : Fin 4096 := ⟨t.val % 4 * 1024 + r.val, by omega⟩

/-- The block of the residual stream's window. -/
theorem blk0 (c : Dev nD) (t : Fin cfg0.N) (r j : Fin 1024) :
    iblk m c 0 t (ix3 0 r j : S1x1024x1024.Idx) = m ((c : Thread nD τ).loc main_arg0) (ix3 (bat t) (tok t r) j) := by
  obtain ⟨⟨h0, h1, h2⟩, -⟩ := idx_facts t
  refine Eq.trans (congrArg (V m c main_arg0) (funext fun a => Fin.ext ?_)) (congrFun (V_main_arg0 m c) _)
  match a with
  | ⟨0, _⟩ => show win0_0.index t 0 * 1 + 1 * 0 = t.val / 4; omega
  | ⟨1, _⟩ => show win0_0.index t 1 * 1024 + 1 * r.val = t.val % 4 * 1024 + r.val; omega
  | ⟨2, _⟩ => show win0_0.index t 2 * 1024 + 1 * j.val = j.val; omega

/-- The block of the first mixer's window. -/
theorem blk1 (c : Dev nD) (t : Fin cfg0.N) (r : Fin 1024) (j : Fin 512) :
    iblk m c 1 t (ix3 0 r j : S1x1024x512.Idx) = m ((c : Thread nD τ).loc main_arg1) (ix3 (bat t) (tok t r) j) := by
  obtain ⟨-, ⟨h0, h1, h2⟩, -⟩ := idx_facts t
  refine Eq.trans (congrArg (V m c main_arg1) (funext fun a => Fin.ext ?_)) (congrFun (V_main_arg1 m c) _)
  match a with
  | ⟨0, _⟩ => show win0_1.index t 0 * 1 + 1 * 0 = t.val / 4; omega
  | ⟨1, _⟩ => show win0_1.index t 1 * 1024 + 1 * r.val = t.val % 4 * 1024 + r.val; omega
  | ⟨2, _⟩ => show win0_1.index t 2 * 512 + 1 * j.val = j.val; omega

/-- The block of the second mixer's window. -/
theorem blk2 (c : Dev nD) (t : Fin cfg0.N) (r : Fin 1024) (j : Fin 512) :
    iblk m c 2 t (ix3 0 r j : S1x1024x512.Idx) = m ((c : Thread nD τ).loc main_arg2) (ix3 (bat t) (tok t r) j) := by
  obtain ⟨-, -, ⟨h0, h1, h2⟩, -⟩ := idx_facts t
  refine Eq.trans (congrArg (V m c main_arg2) (funext fun a => Fin.ext ?_)) (congrFun (V_main_arg2 m c) _)
  match a with
  | ⟨0, _⟩ => show win0_2.index t 0 * 1 + 1 * 0 = t.val / 4; omega
  | ⟨1, _⟩ => show win0_2.index t 1 * 1024 + 1 * r.val = t.val % 4 * 1024 + r.val; omega
  | ⟨2, _⟩ => show win0_2.index t 2 * 512 + 1 * j.val = j.val; omega

/-- The leading unit axis of the weights dropped. -/
theorem dropUnit_apply (x : S1x1024x1024.Idx → EReal) (k l : Fin 1024) :
    shapeCast S1024x1024 x shapeCasts_S1x1024x1024_S1024x1024 (ix2 k l) = x (ix3 0 k l) := by
  pointwise

/-- The weights' window holds the whole matrix, which the host casts. -/
theorem V_w (c : Dev nD) (k l : Fin 1024) : V m c main_v1 (ix2 k l) = m ((c : Thread nD τ).loc main_arg3) (ix3 0 k l) := by
  have e : V m c main_v1 = (truncf .bf16 (shapeCast S1024x1024 (m ((c : Thread nD τ).loc main_arg3)) shapeCasts_S1x1024x1024_S1024x1024) bitsLt_bf16_f32
      : FVec Ideal S1024x1024 .bf16) := by
    show StableHlo.after hostOps0 (fun b => m (c, b)) main_v1 = _
    after_results
    rfl
  rw [e]
  generalize m ((c : Thread nD τ).loc main_arg3) = x
  exact dropUnit_apply x k l

theorem blk3 (c : Dev nD) (t : Fin cfg0.N) (k l : Fin 1024) :
    iblk m c 3 t (ix2 k l : S1024x1024.Idx) = m ((c : Thread nD τ).loc main_arg3) (ix3 0 k l) := by
  obtain ⟨-, -, -, ⟨h0, h1⟩, -⟩ := idx_facts t
  refine Eq.trans (congrArg (V m c main_v1) (funext fun a => Fin.ext ?_)) (V_w m c k l)
  match a with
  | ⟨0, _⟩ => show win0_3.index t 0 * 1024 + 1 * k.val = k.val; omega
  | ⟨1, _⟩ => show win0_3.index t 1 * 1024 + 1 * l.val = l.val; omega

/-- The gain's window holds the whole gain. -/
theorem V_g (c : Dev nD) (l : Fin 1024) : V m c main_v2 (ix2 0 l) = m ((c : Thread nD τ).loc main_arg4) (ix1 l) := by
  have e : V m c main_v2 = (shapeCast S1x1024 (m ((c : Thread nD τ).loc main_arg4)) shapeCasts_S1024_S1x1024
      : FVec Ideal S1x1024 .f32) := by
    show StableHlo.after hostOps0 (fun b => m (c, b)) main_v2 = _
    after_results
    rfl
  rw [e]
  generalize m ((c : Thread nD τ).loc main_arg4) = x
  pointwise

theorem blk4 (c : Dev nD) (t : Fin cfg0.N) (l : Fin 1024) :
    iblk m c 4 t (ix2 0 l : S1x1024.Idx) = m ((c : Thread nD τ).loc main_arg4) (ix1 l) := by
  obtain ⟨-, -, -, -, ⟨h0, h1⟩, -⟩ := idx_facts t
  refine Eq.trans (congrArg (V m c main_v2) (funext fun a => Fin.ext ?_)) (V_g m c l)
  match a with
  | ⟨0, _⟩ => show win0_4.index t 0 * 1 + 1 * 0 = 0; omega
  | ⟨1, _⟩ => show win0_4.index t 1 * 1024 + 1 * l.val = l.val; omega

theorem hz3 : (![0, 0, 0] : Fin 3 → Nat) = fun _ => 0 := funext fun a => by fin_cases a <;> rfl
theorem hz2 : (![0, 0] : Fin 2 → Nat) = fun _ => 0 := funext fun a => by fin_cases a <;> rfl

/-- The reference's result of the arguments as launched: what the result array is shown to hold. -/
def G (c : Dev nD) : Vec Ideal S16x4096x1024 .f32 :=
  Cert.OutRefIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a grid point writes back, at an index of its block. -/
theorem flushed_apply (c : Dev nD) (t : Fin cfg0.N) (r j : Fin 1024) :
    out0_5 (iblk m c 0 t) (iblk m c 1 t) (iblk m c 2 t) (iblk m c 3 t) (iblk m c 4 t) (ix3 0 r j) = G m c (ix3 (bat t) (tok t r) j) := by
  unfold out0_5 G
  rw [View.canon_unit_zero hz3, View.ld_unit_zero hz3, View.ld_unit_zero hz3, View.ld_unit_zero hz3, View.ld_unit_zero hz2, View.ld_unit_zero hz2,
    pay_apply, ref_apply]
  simp only [blk0, blk1, blk2, blk3, blk4]

/-- A grid point writes back its block of the reference's result. -/
theorem flushed_eq (c : Dev nD) (t : Fin cfg0.N) :
    (dats m 0 c).flushed 5 t = (win0_5.blk t).view.read (Elt Ideal) (G m c) := by
  rw [Cert.OutIdeal.Value.flushed5]
  obtain ⟨-, -, -, -, -, h0, h1, h2⟩ := idx_facts t
  funext y
  have ey : (y : S1x1024x1024.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_5 (iblk m c 0 t) (iblk m c 1 t) (iblk m c 2 t) (iblk m c 3 t) (iblk m c 4 t)) ey)
    ((flushed_apply m c t (y 1) (y 2)).trans (congrArg (G m c) (funext fun a => Fin.ext ?_)))
  match a with
  | ⟨0, _⟩ => show t.val / 4 = win0_5.index t 0 * 1 + 1 * (y 0).val; have : (y 0).val < 1 := (y 0).isLt; omega
  | ⟨1, _⟩ => show t.val % 4 * 1024 + (y 1).val = win0_5.index t 1 * 1024 + 1 * (y 1).val; omega
  | ⟨2, _⟩ => show (y 2).val = win0_5.index t 2 * 1024 + 1 * (y 2).val; omega

/-- Every index of the result is in the block of its batch's and tile's point. -/
theorem cover (i : S16x4096x1024.Idx) :
    ∃ t : Fin cfg0.N, (cfg0.win 5).flush t = true ∧ i ∈ ((cfg0.win 5).blk t).view.set := by
  have l0 : (i 0 : Nat) < 16 := (i 0).isLt
  have l1 : (i 1 : Nat) < 4096 := (i 1).isLt
  have l2 : (i 2 : Nat) < 1024 := (i 2).isLt
  have hN : cfg0.N = 64 := N_0
  refine ⟨⟨(i 0).val * 4 + (i 1).val / 1024, by omega⟩, flush0_5 _, ?_⟩
  generalize ht : (⟨(i 0).val * 4 + (i 1).val / 1024, by omega⟩ : Fin cfg0.N) = t
  have hv : t.val = (i 0).val * 4 + (i 1).val / 1024 := by rw [← ht]
  obtain ⟨-, -, -, -, -, h0, h1, h2⟩ := idx_facts t
  show i ∈ ((View.whole main_v3).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1; omega
  | ⟨1, _⟩ => show win0_5.index t 1 * 1024 ≤ (i 1 : Nat) ∧ (i 1 : Nat) < win0_5.index t 1 * 1024 + 1024; omega
  | ⟨2, _⟩ => show win0_5.index t 2 * 1024 ≤ (i 2 : Nat) ∧ (i 2 : Nat) < win0_5.index t 2 * 1024 + 1024; omega

/-- So the result array ends holding the reference's result. -/
theorem final (c : Dev nD) : (dats m 0 c).arrAt 5 cfg0.N = G m c :=
  (dats m 0 c).arrAt_eq_of_cover 5 (G m c) (fun t _ => flushed_eq m c t) cover

end Cert.Proof.OutArray

end
-- ==== Proof.OutClaims.lean ====
/- The claims about the output projection: its frames, and its value against the reference over the extended reals. -/
module

public import proofs.«01_k».proof.Defs
public import proofs.«01_k».proof.Proof.OutArray
public import proofs.«01_k».proof.Proof.Gen.Out.Frame
public import proofs.«01_k».proof.Proof.Gen.OutRefIdeal.Run
public import Idealize.ShloMosaic.Lib.Quiescent

@[expose] public section

noncomputable section

namespace Cert.Proof.OutClaims

open Idealize.ShloMosaic Idealize.ShloMosaic.TcCoe Idealize.SL.Sem

theorem frame : Cert.quiescent_Out := fun m ρ _ => Cert.Out.Gen.frame m ρ
theorem frame_ideal : Cert.quiescent_OutIdeal := fun m ρ _ => Cert.OutIdeal.Gen.frame m ρ

/-- The reference runs on the host and declares no semaphore. -/
theorem frame_ref : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

theorem preserves : Cert.preserves_Out_OutIdeal := trivial

/-- Both runs end with the reference's last stage of arguments that agree. -/
theorem algebraic : Cert.algebraic_OutIdeal_OutRefIdeal := by
  intro m ρ m' ρ' _ hagree
  refine ⟨fun c => Cert.Proof.OutArray.G m c, ?_, ?_⟩
  · exact (θ_run Cert.OutIdeal.defs _ _).mono (fun _ h c => ⟨(h c).1.trans (Cert.Proof.OutArray.final m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    rw [Cert.OutRefIdeal.Read.val_main_v18_eq]
    unfold Cert.Proof.OutArray.G
    obtain ⟨e0, e1, e2, e3, e4⟩ := hagree c
    rw [e0, e1, e2, e3, e4]

end Cert.Proof.OutClaims

end
-- ==== Proof.ProjMix.lean ====
/- The spatial gating of the projection call: what one group's token mixing is worth at an index. -/
module

public import proofs.«01_k».proof.Proof.Gen.ProjIdeal.Value
public import Idealize.ShloMosaic.Lib.Pointwise

@[expose] public section

noncomputable section

namespace Cert.Proof.ProjMix

open Idealize.ShloMosaic Idealize.SL.Sem Cert.ProjIdeal Cert.ProjIdeal.Gen Idealize.ShloMosaic.TcCoe

/-- The eight chunks of a group's row of tokens, one below the other. -/
def down (a : FVec Ideal S64x1024 .bf16) : FVec Ideal S512x128 .bf16 :=
  concatenate S512x128 0
    [⟨S64x128, extractStridedSlice S64x128 ![0, 0] a slices_S64x1024_o0_0_S64x128⟩,
     ⟨S64x128, extractStridedSlice S64x128 ![0, 128] a slices_S64x1024_o0_128_S64x128⟩,
     ⟨S64x128, extractStridedSlice S64x128 ![0, 256] a slices_S64x1024_o0_256_S64x128⟩,
     ⟨S64x128, extractStridedSlice S64x128 ![0, 384] a slices_S64x1024_o0_384_S64x128⟩,
     ⟨S64x128, extractStridedSlice S64x128 ![0, 512] a slices_S64x1024_o0_512_S64x128⟩,
     ⟨S64x128, extractStridedSlice S64x128 ![0, 640] a slices_S64x1024_o0_640_S64x128⟩,
     ⟨S64x128, extractStridedSlice S64x128 ![0, 768] a slices_S64x1024_o0_768_S64x128⟩,
     ⟨S64x128, extractStridedSlice S64x128 ![0, 896] a slices_S64x1024_o0_896_S64x128⟩]
    concatenates_S64x128_S64x128_S64x128_S64x128_S64x128_S64x128_S64x128_S64x128_S512x128_d0

/-- The chunks side by side again. -/
def across (r : FVec Ideal S512x128 .f32) : FVec Ideal S64x1024 .f32 :=
  concatenate S64x1024 1
    [⟨S64x128, extractStridedSlice S64x128 ![0, 0] r slices_S512x128_o0_0_S64x128⟩,
     ⟨S64x128, extractStridedSlice S64x128 ![64, 0] r slices_S512x128_o64_0_S64x128⟩,
     ⟨S64x128, extractStridedSlice S64x128 ![128, 0] r slices_S512x128_o128_0_S64x128⟩,
     ⟨S64x128, extractStridedSlice S64x128 ![192, 0] r slices_S512x128_o192_0_S64x128⟩,
     ⟨S64x128, extractStridedSlice S64x128 ![256, 0] r slices_S512x128_o256_0_S64x128⟩,
     ⟨S64x128, extractStridedSlice S64x128 ![320, 0] r slices_S512x128_o320_0_S64x128⟩,
     ⟨S64x128, extractStridedSlice S64x128 ![384, 0] r slices_S512x128_o384_0_S64x128⟩,
     ⟨S64x128, extractStridedSlice S64x128 ![448, 0] r slices_S512x128_o448_0_S64x128⟩]
    concatenates_S64x128_S64x128_S64x128_S64x128_S64x128_S64x128_S64x128_S64x128_S64x1024_d1

set_option maxHeartbeats 2000000 in
theorem down_apply (a : FVec Ideal S64x1024 .bf16) (p : Fin 512) (s : Fin 128) :
    down a (ix2 p s) = a (ix2 ⟨p.val % 64, by omega⟩ ⟨p.val / 64 * 128 + s.val, by omega⟩) := by
  pointwise [down]
  split_ifs <;> refine congrArg₂ (fun i j => a (ix2 i j)) (Fin.ext ?_) (Fin.ext ?_) <;> dsimp only <;> omega

theorem across_apply (r : FVec Ideal S512x128 .f32) (d : Fin 64) (t : Fin 1024) :
    across r (ix2 d t) = r (ix2 ⟨t.val / 128 * 64 + d.val, by omega⟩ ⟨t.val % 128, by omega⟩) := by
  pointwise [across]
  split_ifs <;> refine congrArg₂ (fun i j => r (ix2 i j)) (Fin.ext ?_) (Fin.ext ?_) <;> dsimp only <;> omega

/-- The causal mask as a condition on the two tokens. -/
theorem select_le {n : Nat} (hn : n ≤ 128) (s t : Fin n) (x y : EReal) :
    Scalar.select (IntOp.cmpi CmpIPredicate.sle (BitVec.ofNat 32 s.val) (BitVec.ofNat 32 t.val)) x y = if s.val ≤ t.val then x else y := by
  have hs : s.val < 2 ^ (32 - 1) := by omega
  have ht : t.val < 2 ^ (32 - 1) := by omega
  rw [WordCmp.cmpi_sle_ofNat hs ht]
  by_cases h : s.val ≤ t.val <;> simp [h, Scalar.select]

/-- One group's mixing: the causal weights applied within each chunk of 128 tokens, and the bias of the token. -/
def mix (a : FVec Ideal S64x1024 .bf16) (w : Vec Ideal S1x128x128 .f32) (b : Vec Ideal S1x1x128 .f32) : FVec Ideal S64x1024 .f32 :=
  across (addf
    (matmul dot_S512x128_S128x128_S512x128_1_0_0_1_n_n none (down a)
      (truncf .bf16 (select k0_pay28 (shapeCast S128x128 w shapeCasts_S1x128x128_S128x128) (broadcast S128x128 (Scalar.ofBits .f32 0x00000000#32))) bitsLt_bf16_f32)
      (constant S512x128 .f32 0x00000000#32))
    (broadcastTo S512x128 (shapeCast S1x128 b shapeCasts_S1x1x128_S1x128) broadcasts_S1x128_S512x128))

theorem mix_apply (a : FVec Ideal S64x1024 .bf16) (w : Vec Ideal S1x128x128 .f32) (b : Vec Ideal S1x1x128 .f32) (d : Fin 64) (t : Fin 1024) :
    mix a w b (ix2 d t) = ∑ s : Fin 128,
        (if s.val ≤ t.val % 128 then a (ix2 d ⟨t.val / 128 * 128 + s.val, by omega⟩) * w (ix3 0 s ⟨t.val % 128, by omega⟩) else 0)
      + b (ix3 0 0 ⟨t.val % 128, by omega⟩) := by
  unfold mix
  rw [across_apply]
  pointwise [dot_S512x128_S128x128_S512x128_1_0_0_1_n_n, k0_pay28]
  simp only [down_apply]
  refine congrArg₂ (· + ·) (Finset.sum_congr rfl fun s _ => ?_) rfl
  rw [select_le le_rfl s (⟨t.val % 128, by omega⟩ : Fin 128)]
  refine if_congr Iff.rfl (congrArg₂ (· * ·) (congrArg₂ (fun i j => a (ix2 i j)) (Fin.ext ?_) (Fin.ext ?_)) rfl) rfl <;> dsimp only <;> omega

/-- Group `o` of the normalised values. -/
def slab (o : Nat) (v : FVec Ideal S8x64x1024 .f32) (h : S8x64x1024.Slices ![o, 0, 0] S1x64x1024) : FVec Ideal S64x1024 .bf16 :=
  truncf .bf16 (shapeCast S64x1024 (extractStridedSlice S1x64x1024 ![o, 0, 0] v h) shapeCasts_S1x64x1024_S64x1024) bitsLt_bf16_f32

/-- The eight groups, one below the other. -/
def stack (g : Fin 8 → FVec Ideal S64x1024 .f32) : FVec Ideal S512x1024 .f32 :=
  concatenate S512x1024 0
    [⟨S64x1024, g 0⟩, ⟨S64x1024, g 1⟩, ⟨S64x1024, g 2⟩, ⟨S64x1024, g 3⟩, ⟨S64x1024, g 4⟩, ⟨S64x1024, g 5⟩, ⟨S64x1024, g 6⟩, ⟨S64x1024, g 7⟩]
    concatenates_S64x1024_S64x1024_S64x1024_S64x1024_S64x1024_S64x1024_S64x1024_S64x1024_S512x1024_d0

theorem stack_apply (g : Fin 8 → FVec Ideal S64x1024 .f32) (a : Fin 8) (d : Fin 64) (t : Fin 1024) :
    stack g (ix2 ⟨a.val * 64 + d.val, by omega⟩ t) = g a (ix2 d t) := by
  pointwise [stack]
  split_ifs <;> refine congrArg₂ (fun (i : Fin 8) j => g i (ix2 j t)) (Fin.ext ?_) (Fin.ext ?_) <;> first | omega | (dsimp only; omega) | (exfalso; simp at *; done) | (simp at *; omega)

section
variable (gu : FVec Ideal S512x1024 .f32) (v : FVec Ideal S8x64x1024 .f32) (w0 w1 w2 w3 w4 w5 w6 w7 : Vec Ideal S1x128x128 .f32)
  (b0 b1 b2 b3 b4 b5 b6 b7 : Vec Ideal S1x1x128 .f32) (y : FVec Ideal S8x64x1024 .f32) (l m : Vec Ideal S8x64x1 .f32)

theorem pay32_eq : k0_pay32 k0_pay28 (k0_pay29 y l m) (k0_pay30 w0) k0_pay31 b0
    = mix (slab 0 (k0_pay27 y l m) slices_S8x64x1024_o0_0_0_S1x64x1024) w0 b0 := rfl
theorem pay33_eq : k0_pay33 v k0_pay28 w1 b1 = mix (slab 1 v slices_S8x64x1024_o1_0_0_S1x64x1024) w1 b1 := rfl
theorem pay35_eq : k0_pay35 k0_pay28 (k0_pay34 v) w2 b2 = mix (slab 2 v slices_S8x64x1024_o2_0_0_S1x64x1024) w2 b2 := rfl
theorem pay38_eq : k0_pay38 (k0_pay36 v) (k0_pay37 k0_pay28 w3) (constant S512x128 FTy.f32 0#32) b3
    = mix (slab 3 v slices_S8x64x1024_o3_0_0_S1x64x1024) w3 b3 := rfl
theorem pay39_eq : k0_pay39 v k0_pay28 w4 b4 = mix (slab 4 v slices_S8x64x1024_o4_0_0_S1x64x1024) w4 b4 := rfl
theorem pay42_eq : k0_pay42 k0_pay28 (k0_pay40 v) (k0_pay41 v) w5 b5 = mix (slab 5 v slices_S8x64x1024_o5_0_0_S1x64x1024) w5 b5 := rfl
theorem pay44_eq (g : Fin 6 → FVec Ideal S64x1024 .f32) :
    k0_pay44 gu v k0_pay28 (g 0) (g 1) (g 2) (g 3) (g 4) (g 5) (k0_pay43 v k0_pay28 w6) b6 w7 b7
    = mulf gu (stack ![g 0, g 1, g 2, g 3, g 4, g 5, mix (slab 6 v slices_S8x64x1024_o6_0_0_S1x64x1024) w6 b6,
        mix (slab 7 v slices_S8x64x1024_o7_0_0_S1x64x1024) w7 b7]) := rfl
end

end Cert.Proof.ProjMix

end
-- ==== Proof.ProjRow.lean ====
/- The projection call, row by row over the extended reals: the plain functions of one row's entries that the body's
   stores and the reference's results are both worth, and the body's stores at an index. -/
module

public import proofs.«01_k».proof.Proof.ProjMix

@[expose] public section

noncomputable section

namespace Cert.Proof.ProjRow

open Idealize.ShloMosaic Idealize.SL.Sem Cert.ProjIdeal Cert.ProjIdeal.Gen Idealize.ShloMosaic.TcCoe

/-- A row normalised by its root mean square and scaled by the gain `g`. -/
def hnRow (x g : Fin 1024 → EReal) (k : Fin 1024) : EReal :=
  x k * Ideal.rsqrt (Ideal.div (∑ l, x l * x l) (Ideal.ofBits FTy.f32 0x44800000#32) + Ideal.ofBits FTy.f32 0x358637BD#32) * g k

/-- The logistic function. -/
def sigm (x : EReal) : EReal :=
  Ideal.div (Ideal.ofBits FTy.f32 0x3F800000#32) (Ideal.ofBits FTy.f32 0x3F800000#32 + Ideal.exp (-x))

/-- The gaussian error unit in its form with the hyperbolic tangent. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * x * x)))))

/-- The mean of a group's 64 values. -/
def mean (v : Fin 64 → EReal) : EReal := Ideal.div (∑ d, v d) (Ideal.ofBits FTy.f32 0x42800000#32)

/-- A group's 64 values normalised, scaled by `g` and moved by `b`. -/
def vnorm (v g b : Fin 64 → EReal) (d : Fin 64) : EReal :=
  (v d - mean v) * Ideal.rsqrt (mean (fun e => (v e - mean v) * (v e - mean v)) + Ideal.ofBits FTy.f32 0x358637BD#32) * g d + b d

/-- One entry of the gated spatial mixing: `u` and `z` are the token's two gates, `v` the chunk's values of the group, token
    by token, `w` the mixing weights and `b` the mixing bias of token `t` of the chunk. -/
def ogAt (u z : EReal) (v : Fin 128 → Fin 64 → EReal) (g b : Fin 64 → EReal) (w : Fin 128 → EReal) (c : EReal) (t : Nat)
    (d : Fin 64) : EReal :=
  gelu u * (∑ s : Fin 128, (if s.val ≤ t then vnorm (fun e => gelu (v s e)) g b d * w s else 0) + c) * (z * sigm z)

theorem neg_form (x : EReal) : 0 - x = -x := by rw [sub_eq_add_neg, zero_add]

theorem zero_word : (((0#32 : BitVec 32).toInt : ℝ) : EReal) = 0 := by simp

theorem pay2_apply (x : Vec Ideal S1x1024x1024 .f32) (g : Vec Ideal S1x1024 .f32) (r k : Fin 1024) :
    k0_pay2 (F := Ideal) x g (ix2 r k) = hnRow (fun k => x (ix3 0 r k)) (fun k => g (ix2 0 k)) k := by
  unfold hnRow
  pointwise [k0_pay2]

theorem pay47_apply (h : FVec Ideal S1024x1024 .bf16) (w : Vec Ideal S1024x512 .bf16) (z : Fin 1) (r : Fin 1024) (j : Fin 512) :
    k0_pay47 (F := Ideal) h w (ix3 z r j) = (∑ k, h (ix2 r k) * w (ix2 k j)) * Ideal.ofBits FTy.f32 0x3E38AA3B#32 := by
  pointwise [k0_pay47, dot_S1024x1024_S1024x512_S1024x512_1_0_0_1_n_n]

theorem pay48_apply (h : FVec Ideal S1024x1024 .bf16) (w : Vec Ideal S1024x512 .bf16) (r : Fin 1024) (j : Fin 512) :
    k0_pay48 (F := Ideal) h w (ix2 r j) = ∑ k, h (ix2 r k) * w (ix2 k j) := by
  pointwise [k0_pay48, dot_S1024x1024_S1024x512_S1024x512_1_0_0_1_n_n]

theorem pay49_apply (h : FVec Ideal S1024x1024 .bf16) (w : Vec Ideal S1024x512 .bf16) (z : Fin 1) (r : Fin 1024) (j : Fin 128) :
    k0_pay49 (F := Ideal) h w (ix3 z r j) = ∑ k, h (ix2 r k) * w (ix2 k ⟨j.val, by omega⟩) := by
  pointwise [k0_pay49, k0_pay48, dot_S1024x1024_S1024x512_S1024x512_1_0_0_1_n_n]

theorem pay68_apply (v : FVec Ideal S1024x512 .f32) (z : Fin 1) (r : Fin 1024) (j : Fin 128) :
    k0_pay68 (F := Ideal) v (ix3 z r j) = v (ix2 r ⟨128 + j.val, by omega⟩) := by
  pointwise [k0_pay68]

theorem pay87_apply (v : FVec Ideal S1024x512 .f32) (z : Fin 1) (r : Fin 1024) (j : Fin 256) :
    k0_pay87 (F := Ideal) v (ix3 z r j) = v (ix2 r ⟨256 + j.val, by omega⟩) := by
  pointwise [k0_pay87]

theorem pay1_apply (h : FVec Ideal S1024x1024 .bf16) (w : Vec Ideal S1024x512 .bf16) (z : Fin 1) (r : Fin 1024) (j : Fin 512) :
    k0_pay1 (F := Ideal) h w (ix3 z r j) = (∑ k, h (ix2 r k) * w (ix2 k j)) * sigm (∑ k, h (ix2 r k) * w (ix2 k j)) := by
  unfold sigm
  pointwise [k0_pay1, dot_S1024x1024_S1024x512_S1024x512_1_0_0_1_n_n]
  rw [neg_form]

theorem pay50_apply (v : Vec Ideal S1x64x128 .f32) (z : Fin 1) (p : Fin 64) (j : Fin 128) : k0_pay50 (F := Ideal) v (ix3 z p j) = v (ix3 0 p j) := by pointwise [k0_pay50]

theorem pay3_apply (x : Vec Ideal S1x1024x1024 .f32) (g : Vec Ideal S1x1024 .f32) (w : Vec Ideal S288x1024 .bf16) (i : Fin 288) (r : Fin 1024) :
    k0_pay3 (F := Ideal) x g w (ix2 i r) = ∑ k, w (ix2 i k) * k0_pay2 (F := Ideal) x g (ix2 r k) := by
  pointwise [k0_pay3, dot_S288x1024_S1024x1024_S288x1024_1_1_0_0_n_n]

theorem pay4_apply (x : Vec Ideal S1x1024x1024 .f32) (g : Vec Ideal S1x1024 .f32) (w : Vec Ideal S288x1024 .bf16) (i : Fin 256) (r : Fin 1024) :
    k0_pay4 (F := Ideal) x g w (ix2 i r) = k0_pay3 (F := Ideal) x g w (ix2 ⟨i.val, by omega⟩ r) := by
  pointwise [k0_pay4]

theorem pay5_apply (x : Vec Ideal S1x1024x1024 .f32) (g : Vec Ideal S1x1024 .f32) (w : Vec Ideal S288x1024 .bf16) (i : Fin 32) (r : Fin 1024) :
    k0_pay5 (F := Ideal) x g w (ix2 i r) = sigm (k0_pay3 (F := Ideal) x g w (ix2 ⟨256 + i.val, by omega⟩ r)) := by
  unfold sigm
  pointwise [k0_pay5]
  rw [neg_form]

theorem pay24_apply (h : FVec Ideal S1024x1024 .bf16) (w : Vec Ideal S512x1024 .bf16) (i : Fin 512) (r : Fin 1024) :
    k0_pay24 (F := Ideal) h w (ix2 i r) = gelu (∑ k, w (ix2 i k) * h (ix2 r k)) := by
  unfold gelu
  pointwise [k0_pay24, dot_S512x1024_S1024x1024_S512x1024_1_1_0_0_n_n]

theorem pay25_apply (h : FVec Ideal S1024x1024 .bf16) (w : Vec Ideal S512x1024 .bf16) (a : Fin 8) (d : Fin 64) (r : Fin 1024) :
    k0_pay25 (F := Ideal) h w (ix3 a d r) = gelu (∑ k, w (ix2 ⟨a.val * 64 + d.val, by omega⟩ k) * h (ix2 r k)) := by
  unfold gelu
  pointwise [k0_pay25, dot_S512x1024_S1024x1024_S512x1024_1_1_0_0_n_n]

theorem pay26_apply (h : FVec Ideal S1024x1024 .bf16) (w : Vec Ideal S512x1024 .bf16) (i : Fin 512) (r : Fin 1024) :
    k0_pay26 (F := Ideal) h w (ix2 i r) = ∑ k, w (ix2 i k) * h (ix2 r k) := by
  pointwise [k0_pay26, dot_S512x1024_S1024x1024_S512x1024_1_1_0_0_n_n]

theorem pay27_apply (v : FVec Ideal S8x64x1024 .f32) (g b : Vec Ideal S8x64x1 .f32) (a : Fin 8) (d : Fin 64) (r : Fin 1024) :
    k0_pay27 (F := Ideal) v g b (ix3 a d r)
      = vnorm (fun d => v (ix3 a d r)) (fun d => g (ix3 a d 0)) (fun d => b (ix3 a d 0)) d := by
  unfold vnorm mean
  pointwise [k0_pay27]

theorem pay46_apply (z m : FVec Ideal S512x1024 .f32) (q : Fin 1) (r : Fin 1024) (j : Fin 512) :
    k0_pay46 (F := Ideal) z m (k0_pay45 z) (FloatOps.ofBits FTy.f32 1065353216#32) (ix3 q r j)
      = m (ix2 j r) * (z (ix2 j r) * sigm (z (ix2 j r))) := by
  unfold sigm
  pointwise [k0_pay46, k0_pay45]
  rw [neg_form]

end Cert.Proof.ProjRow

end
-- ==== Proof.ProjOut.lean ====
/- What one grid point of the projection call leaves in each of its eight output blocks, at an index, of the blocks it read. -/
module

public import proofs.«01_k».proof.Proof.ProjRow
public import Idealize.ShloMosaic.Lib.Pipeline.Value

@[expose] public section

noncomputable section

namespace Cert.Proof.ProjOut

open Idealize.ShloMosaic Idealize.SL.Sem Cert.ProjIdeal Cert.ProjIdeal.Gen Idealize.ShloMosaic.TcCoe Cert.Proof.ProjRow

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a rectangle of rows and columns, at an index. -/
theorem ld2 {A B A' B' p q : Nat} {e : EltTy} (x : Vec Ideal ⟨2, ![A, B]⟩ e)
    (h : ∀ a, (![p, q] : Fin 2 → Nat) a + (![A', B'] : Fin 2 → Nat) a ≤ (⟨2, ![A, B]⟩ : Shape).size a) (i : Fin A') (j : Fin B') :
    View.ld x (Rect.unit (s := ⟨2, ![A, B]⟩) ![p, q] ![A', B'] h) (ix2 i j)
      = x (ix2 ⟨p + i.val, lt_of_lt_of_le (Nat.add_lt_add_left i.isLt p) (h 0)⟩ ⟨q + j.val, lt_of_lt_of_le (Nat.add_lt_add_left j.isLt q) (h 1)⟩) :=
  congrArg x (funext fun a => Fin.ext (by
    match a with
    | ⟨0, _⟩ => show p + 1 * i.val = p + i.val; omega
    | ⟨1, _⟩ => show q + 1 * j.val = q + j.val; omega))

/-- A load of one slab of a stack, at an index. -/
theorem ld3 {A B C p : Nat} {e : EltTy} (x : Vec Ideal ⟨3, ![A, B, C]⟩ e)
    (h : ∀ a, (![p, 0, 0] : Fin 3 → Nat) a + (![1, B, C] : Fin 3 → Nat) a ≤ (⟨3, ![A, B, C]⟩ : Shape).size a) (i : Fin B) (j : Fin C) :
    View.ld x (Rect.unit (s := ⟨3, ![A, B, C]⟩) ![p, 0, 0] ![1, B, C] h) (ix3 0 i j) = x (ix3 ⟨p, h 0⟩ i j) :=
  congrArg x (funext fun a => Fin.ext (by
    match a with
    | ⟨0, _⟩ => show p + 1 * 0 = p; omega
    | ⟨1, _⟩ => show 0 + 1 * i.val = i.val; omega
    | ⟨2, _⟩ => show 0 + 1 * j.val = j.val; omega))

/-- Column `j` of row `r` of the projection onto the token-major weights. -/
def rowN (x0 : Vec Ideal S1x1024x1024 .f32) (x1 : Vec Ideal S1x1024 .f32) (x2 : Vec Ideal S1024x1536 .bf16) (r : Fin 1024) (j : Fin 1536) : EReal :=
  ∑ k, hnRow (fun k => x0 (ix3 0 r k)) (fun k => x1 (ix2 0 k)) k * x2 (ix2 k j)

/-- Row `j` of the projection onto the transposed weights, at token `r`. -/
def rowT (x0 : Vec Ideal S1x1024x1024 .f32) (x1 : Vec Ideal S1x1024 .f32) (x3 : Vec Ideal S1824x1024 .bf16) (r : Fin 1024) (j : Fin 1824) : EReal :=
  ∑ k, x3 (ix2 j k) * hnRow (fun k => x0 (ix3 0 r k)) (fun k => x1 (ix2 0 k)) k

/-- The 16 strips of a block of keys, one behind the other: what the pieces of such a block are the pieces of. -/
def strips (w : Vec Ideal S1x1024x128 .f32) : Vec Ideal S1x64x2048 .bf16 :=
  fun y => w (ix3 0 ⟨16 * (y 1).val + (y 2).val / 128, by have h1 : (y 1).val < 64 := (y 1).isLt; have h2 : (y 2).val < 2048 := (y 2).isLt; omega⟩
    ⟨(y 2).val % 128, by omega⟩)

/-- A strip read back through its stride, at its place. -/
theorem strip (w : Vec Ideal S1x1024x128 .f32) (q pos : Nat) (v : Vec Ideal S1x64x128 .f32)
    (hv : ∀ (p : Fin 64) (j : Fin 128) (h : pos + 16 * p.val < 1024), v (ix3 0 p j) = w (ix3 0 ⟨pos + 16 * p.val, h⟩ j)) (hp : pos < 16) (hq : q = 128 * pos)
    (h : ∀ a, (![0, 0, q] : Fin 3 → Nat) a + (![1, 64, 128] : Fin 3 → Nat) a ≤ S1x64x2048.size a) (x : S1x64x128.Idx) :
    k0_pay50 (F := Ideal) v x = strips w ((Rect.unit (s := S1x64x2048) ![0, 0, q] ![1, 64, 128] h).emb x) := by
  have h1 : (x 1).val < 64 := (x 1).isLt
  have h2 : (x 2).val < 128 := (x 2).isLt
  have ex : x = ix3 (x 0) (x 1) (x 2) := eq_ix3 x
  refine (congrArg _ ex).trans ((pay50_apply v (x 0) (x 1) (x 2)).trans ((hv (x 1) (x 2) (by omega)).trans ?_))
  refine congrArg w (funext fun a => Fin.ext ?_)
  match a with
  | ⟨0, _⟩ => rfl
  | ⟨1, _⟩ => show pos + 16 * (x 1).val = 16 * (0 + 1 * (x 1).val) + (q + 1 * (x 2).val) / 128; omega
  | ⟨2, _⟩ => show (x 2).val = (q + 1 * (x 2).val) % 128; omega

/-- The 8 chunks of a block of rows, side by side. -/
def chunks {R : Nat} {e : EltTy} (v : Vec Ideal ⟨2, ![R, 1024]⟩ e) : Vec Ideal ⟨4, ![1, 8, R, 128]⟩ e :=
  fun y => v (ix2 (y 2) ⟨(y 1).val * 128 + (y 3).val, by have h1 : (y 1).val < 8 := (y 1).isLt; have h2 : (y 3).val < 128 := (y 3).isLt; omega⟩)

theorem chunk {R : Nat} {e : EltTy} (v : Vec Ideal ⟨2, ![R, 1024]⟩ e) (k : Nat) (p : Vec Ideal ⟨4, ![1, 1, R, 128]⟩ e) (hk : k < 8)
    (hp : ∀ (z z' : Fin 1) (u : Fin R) (s : Fin 128), p (ix4 z z' u s) = v (ix2 u ⟨k * 128 + s.val, by omega⟩))
    (h : ∀ a, (![0, k, 0, 0] : Fin 4 → Nat) a + (![1, 1, R, 128] : Fin 4 → Nat) a ≤ (⟨4, ![1, 8, R, 128]⟩ : Shape).size a)
    (x : (⟨4, ![1, 1, R, 128]⟩ : Shape).Idx) :
    p x = chunks v ((Rect.unit (s := ⟨4, ![1, 8, R, 128]⟩) ![0, k, 0, 0] ![1, 1, R, 128] h).emb x) := by
  have h1 : (x 1).val < 1 := (x 1).isLt
  have h2 : (x 3).val < 128 := (x 3).isLt
  have ex : x = ix4 (x 0) (x 1) (x 2) (x 3) := eq_ix4 x
  refine (congrArg p ex).trans ((hp (x 0) (x 1) (x 2) (x 3)).trans ?_)
  refine congrArg v (funext fun a => Fin.ext ?_)
  match a with
  | ⟨0, _⟩ => show (x 2).val = 0 + 1 * (x 2).val; omega
  | ⟨1, _⟩ => show k * 128 + (x 3).val = (k + 1 * (x 1).val) * 128 + (0 + 1 * (x 3).val); omega

section
variable (c : Dev nD) (i : grid0.Coords)
  (a2 : Memref sig .tc .vmem S1x1024x1024 .f32) (h2 : a2.IsWhole)
  (a3 : Memref sig .tc .vmem S1x1024 .f32) (h3 : a3.IsWhole)
  (a4 : Memref sig .tc .vmem S1024x1536 .bf16) (h4 : a4.IsWhole)
  (a5 : Memref sig .tc .vmem S1824x1024 .bf16) (h5 : a5.IsWhole)
  (a6 : Memref sig .tc .vmem S8x64x1 .f32) (h6 : a6.IsWhole)
  (a7 : Memref sig .tc .vmem S8x64x1 .f32) (h7 : a7.IsWhole)
  (a8 : Memref sig .tc .vmem S8x128x128 .f32) (h8 : a8.IsWhole)
  (a9 : Memref sig .tc .vmem S8x1x128 .f32) (h9 : a9.IsWhole)
  (a10 : Memref sig .tc .vmem S1x1024x512 .bf16) (h10 : a10.IsWhole)
  (a11 : Memref sig .tc .vmem S1x64x2048 .bf16) (h11 : a11.IsWhole)
  (a12 : Memref sig .tc .vmem S1x64x2048 .bf16) (h12 : a12.IsWhole)
  (a13 : Memref sig .tc .vmem S1x1024x256 .bf16) (h13 : a13.IsWhole)
  (a14 : Memref sig .tc .vmem S1x1024x512 .bf16) (h14 : a14.IsWhole)
  (a15 : Memref sig .tc .vmem S1x8x256x128 .bf16) (h15 : a15.IsWhole)
  (a16 : Memref sig .tc .vmem S1x8x32x128 .f32) (h16 : a16.IsWhole)
  (a17 : Memref sig .tc .vmem S1x1024x512 .bf16) (h17 : a17.IsWhole)
  (a18 : Memref sig .tc .vmem S2x1024x128 .f32) (h18 : a18.IsWhole)
  (x0 : Vec Ideal S1x1024x1024 .f32) (x1 : Vec Ideal S1x1024 .f32) (x2 : Vec Ideal S1024x1536 .bf16) (x3 : Vec Ideal S1824x1024 .bf16)
  (x4 x5 : Vec Ideal S8x64x1 .f32) (x6 : Vec Ideal S8x128x128 .f32) (x7 : Vec Ideal S8x1x128 .f32)

theorem out8_apply (z : Fin 1) (r : Fin 1024) (j : Fin 512) :
    out0_A_8 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix3 z r j) = rowN x0 x1 x2 r ⟨j.val, by omega⟩ * Ideal.ofBits FTy.f32 0x3E38AA3B#32 := by
  unfold out0_A_8
  rw [View.read_writes_eq_canon _ _ _ (cover0_A_8 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  unfold kernelRun0_A
  dsimp only
  rw [View.canon_unit_zero hz3]
  sl_unfold_words
  simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
  rw [pay47_apply]
  unfold rowN
  simp only [pay2_apply]
  refine congrArg (· * _) (Finset.sum_congr rfl fun k _ => congrArg (_ * ·) ((ld2 x2 _ k j).trans (congrArg x2 ?_)))
  refine funext fun a => Fin.ext ?_
  match a with
  | ⟨0, _⟩ => show 0 + k.val = k.val; omega
  | ⟨1, _⟩ => show 0 + j.val = j.val; omega

theorem out11_apply (z : Fin 1) (r : Fin 1024) (j : Fin 256) :
    out0_A_11 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix3 z r j) = rowN x0 x1 x2 r ⟨768 + j.val, by omega⟩ := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  unfold kernelRun0_A
  dsimp only
  rw [View.canon_unit_zero hz3]
  sl_unfold_words
  simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
  rw [pay87_apply, pay48_apply]
  unfold rowN
  simp only [pay2_apply]
  refine Finset.sum_congr rfl fun k _ => congrArg (_ * ·) ((ld2 x2 _ k _).trans (congrArg x2 ?_))
  refine funext fun a => Fin.ext ?_
  match a with
  | ⟨0, _⟩ => show 0 + k.val = k.val; omega
  | ⟨1, _⟩ => show 512 + (256 + j.val) = 768 + j.val; omega

theorem out12_apply (z : Fin 1) (r : Fin 1024) (j : Fin 512) :
    out0_A_12 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix3 z r j)
      = rowN x0 x1 x2 r ⟨1024 + j.val, by omega⟩ * sigm (rowN x0 x1 x2 r ⟨1024 + j.val, by omega⟩) := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  unfold kernelRun0_A
  dsimp only
  rw [View.canon_unit_zero hz3]
  sl_unfold_words
  simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
  rw [pay1_apply]
  unfold rowN
  simp only [pay2_apply]
  have e : ∀ k, View.ld x2 (Rect.unit (s := S1024x1536) ![0, 1024] ![1024, 512] inb_S1024x1536_S1024x512_0_1024) (ix2 k j)
      = x2 (ix2 k ⟨1024 + j.val, by omega⟩) := fun k => (ld2 x2 _ k _).trans (congrArg x2 (funext fun a => Fin.ext (by
    match a with
    | ⟨0, _⟩ => show 0 + k.val = k.val; omega
    | ⟨1, _⟩ => rfl)))
  simp only [e]

/-- The strided reads of the scratch that the keys were stored to. -/
theorem read_keys (w : Vec Ideal S1x1024x128 .f32) (pos : Nat) (h) (p : Fin 64) (j : Fin 128) (hp : pos + 16 * p.val < 1024) :
    a18.view.readCov [⟨Rect.unit (s := S2x1024x128) ![0, 0, 0] ![1, 1024, 128] inb_S2x1024x128_S1x1024x128_0_0_0, w⟩]
      ⟨![0, pos, 0], ![1, 64, 128], ![1, 16, 1], h⟩ (ix3 0 p j) = w (ix3 0 ⟨pos + 16 * p.val, hp⟩ j) := by
  have e : (⟨![0, pos, 0], ![1, 64, 128], ![1, 16, 1], h⟩ : LoadRect S2x1024x128).idx (ix3 0 p j)
      = (Rect.unit (s := S2x1024x128) ![0, 0, 0] ![1, 1024, 128] inb_S2x1024x128_S1x1024x128_0_0_0).emb (ix3 0 ⟨pos + 16 * p.val, hp⟩ j) :=
    funext fun a => Fin.ext (by
      match a with
      | ⟨0, _⟩ => rfl
      | ⟨1, _⟩ => show pos + 16 * p.val = 0 + 1 * (pos + 16 * p.val); omega
      | ⟨2, _⟩ => show 0 + 1 * j.val = 0 + 1 * j.val; rfl)
  exact (congrFun (View.readCov_eq_canon' _ _ _) _).trans ((congrArg _ e).trans (View.canon_cons_emb _ _ _ _))

/-- The strided reads of the scratch that the values were stored to, behind the keys. -/
theorem read_values (w w' : Vec Ideal S1x1024x128 .f32) (pos : Nat) (h) (p : Fin 64) (j : Fin 128) (hp : pos + 16 * p.val < 1024) :
    a18.view.readCov [⟨Rect.unit (s := S2x1024x128) ![1, 0, 0] ![1, 1024, 128] inb_S2x1024x128_S1x1024x128_1_0_0, w⟩,
        ⟨Rect.unit (s := S2x1024x128) ![0, 0, 0] ![1, 1024, 128] inb_S2x1024x128_S1x1024x128_0_0_0, w'⟩]
      ⟨![1, pos, 0], ![1, 64, 128], ![1, 16, 1], h⟩ (ix3 0 p j) = w (ix3 0 ⟨pos + 16 * p.val, hp⟩ j) := by
  have e : (⟨![1, pos, 0], ![1, 64, 128], ![1, 16, 1], h⟩ : LoadRect S2x1024x128).idx (ix3 0 p j)
      = (Rect.unit (s := S2x1024x128) ![1, 0, 0] ![1, 1024, 128] inb_S2x1024x128_S1x1024x128_1_0_0).emb (ix3 0 ⟨pos + 16 * p.val, hp⟩ j) :=
    funext fun a => Fin.ext (by
      match a with
      | ⟨0, _⟩ => rfl
      | ⟨1, _⟩ => show pos + 16 * p.val = 0 + 1 * (pos + 16 * p.val); omega
      | ⟨2, _⟩ => show 0 + 1 * j.val = 0 + 1 * j.val; rfl)
  exact (congrFun (View.readCov_eq_canon' _ _ _) _).trans ((congrArg _ e).trans (View.canon_cons_emb _ _ _ _))

set_option maxHeartbeats 4000000 in
theorem out9_apply (z : Fin 1) (p : Fin 64) (j : Fin 2048) :
    out0_A_9 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix3 z p j)
      = rowN x0 x1 x2 ⟨16 * p.val + j.val / 128, by omega⟩ ⟨512 + j.val % 128, by omega⟩ := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  refine (View.canon_apply_of_pieces (strips (k0_pay49 (k0_pay2 x0 x1) (View.ld x2 (Rect.unit (s := S1024x1536) ![0, 512] ![1024, 512] inb_S1024x1536_S1024x512_0_512)))) _ ?_ _ (cover0_A_9 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 _)).trans ?_
  · unfold kernelRun0_A
    dsimp only
    sl_unfold_words
    simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
    intro q hq
    simp only [List.mem_cons, List.not_mem_nil, or_false] at hq
    rcases hq with rfl | rfl | rfl | rfl | rfl | rfl | rfl | rfl | rfl | rfl | rfl | rfl | rfl | rfl | rfl | rfl
    · intro x; exact strip _ 1920 15 _ (fun p j h => read_keys a18 _ _ _ p j h) (by omega) rfl inb_S1x64x2048_S1x64x128_0_0_1920 x
    · intro x; exact strip _ 1792 14 _ (fun p j h => read_keys a18 _ _ _ p j h) (by omega) rfl inb_S1x64x2048_S1x64x128_0_0_1792 x
    · intro x; exact strip _ 1664 13 _ (fun p j h => read_keys a18 _ _ _ p j h) (by omega) rfl inb_S1x64x2048_S1x64x128_0_0_1664 x
    · intro x; exact strip _ 1536 12 _ (fun p j h => read_keys a18 _ _ _ p j h) (by omega) rfl inb_S1x64x2048_S1x64x128_0_0_1536 x
    · intro x; exact strip _ 1408 11 _ (fun p j h => read_keys a18 _ _ _ p j h) (by omega) rfl inb_S1x64x2048_S1x64x128_0_0_1408 x
    · intro x; exact strip _ 1280 10 _ (fun p j h => read_keys a18 _ _ _ p j h) (by omega) rfl inb_S1x64x2048_S1x64x128_0_0_1280 x
    · intro x; exact strip _ 1152 9 _ (fun p j h => read_keys a18 _ _ _ p j h) (by omega) rfl inb_S1x64x2048_S1x64x128_0_0_1152 x
    · intro x; exact strip _ 1024 8 _ (fun p j h => read_keys a18 _ _ _ p j h) (by omega) rfl inb_S1x64x2048_S1x64x128_0_0_1024 x
    · intro x; exact strip _ 896 7 _ (fun p j h => read_keys a18 _ _ _ p j h) (by omega) rfl inb_S1x64x2048_S1x64x128_0_0_896 x
    · intro x; exact strip _ 768 6 _ (fun p j h => read_keys a18 _ _ _ p j h) (by omega) rfl inb_S1x64x2048_S1x64x128_0_0_768 x
    · intro x; exact strip _ 640 5 _ (fun p j h => read_keys a18 _ _ _ p j h) (by omega) rfl inb_S1x64x2048_S1x64x128_0_0_640 x
    · intro x; exact strip _ 512 4 _ (fun p j h => read_keys a18 _ _ _ p j h) (by omega) rfl inb_S1x64x2048_S1x64x128_0_0_512 x
    · intro x; exact strip _ 384 3 _ (fun p j h => read_keys a18 _ _ _ p j h) (by omega) rfl inb_S1x64x2048_S1x64x128_0_0_384 x
    · intro x; exact strip _ 256 2 _ (fun p j h => read_keys a18 _ _ _ p j h) (by omega) rfl inb_S1x64x2048_S1x64x128_0_0_256 x
    · intro x; exact strip _ 128 1 _ (fun p j h => read_keys a18 _ _ _ p j h) (by omega) rfl inb_S1x64x2048_S1x64x128_0_0_128 x
    · intro x; exact strip _ 0 0 _ (fun p j h => read_keys a18 _ _ _ p j h) (by omega) rfl inb_S1x64x2048_S1x64x128_0_0_0 x
  · unfold strips
    dsimp only
    rw [pay49_apply]
    unfold rowN
    simp only [pay2_apply]
    refine Finset.sum_congr rfl fun k _ => congrArg (_ * ·) ((ld2 x2 _ k _).trans (congrArg x2 (funext fun a => Fin.ext ?_)))
    match a with
    | ⟨0, _⟩ => show 0 + k.val = k.val; omega
    | ⟨1, _⟩ => show 512 + j.val % 128 = 512 + j.val % 128; omega

set_option maxHeartbeats 4000000 in
theorem out10_apply (z : Fin 1) (p : Fin 64) (j : Fin 2048) :
    out0_A_10 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix3 z p j)
      = rowN x0 x1 x2 ⟨16 * p.val + j.val / 128, by omega⟩ ⟨640 + j.val % 128, by omega⟩ := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  refine (View.canon_apply_of_pieces (strips (k0_pay68 (k0_pay48 (k0_pay2 x0 x1) (View.ld x2 (Rect.unit (s := S1024x1536) ![0, 512] ![1024, 512] inb_S1024x1536_S1024x512_0_512))))) _ ?_ _ (cover0_A_10 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 _)).trans ?_
  · unfold kernelRun0_A
    dsimp only
    sl_unfold_words
    simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
    intro q hq
    simp only [List.mem_cons, List.not_mem_nil, or_false] at hq
    rcases hq with rfl | rfl | rfl | rfl | rfl | rfl | rfl | rfl | rfl | rfl | rfl | rfl | rfl | rfl | rfl | rfl
    · intro x; exact strip _ 1920 15 _ (fun p j h => read_values a18 _ _ _ _ p j h) (by omega) rfl inb_S1x64x2048_S1x64x128_0_0_1920 x
    · intro x; exact strip _ 1792 14 _ (fun p j h => read_values a18 _ _ _ _ p j h) (by omega) rfl inb_S1x64x2048_S1x64x128_0_0_1792 x
    · intro x; exact strip _ 1664 13 _ (fun p j h => read_values a18 _ _ _ _ p j h) (by omega) rfl inb_S1x64x2048_S1x64x128_0_0_1664 x
    · intro x; exact strip _ 1536 12 _ (fun p j h => read_values a18 _ _ _ _ p j h) (by omega) rfl inb_S1x64x2048_S1x64x128_0_0_1536 x
    · intro x; exact strip _ 1408 11 _ (fun p j h => read_values a18 _ _ _ _ p j h) (by omega) rfl inb_S1x64x2048_S1x64x128_0_0_1408 x
    · intro x; exact strip _ 1280 10 _ (fun p j h => read_values a18 _ _ _ _ p j h) (by omega) rfl inb_S1x64x2048_S1x64x128_0_0_1280 x
    · intro x; exact strip _ 1152 9 _ (fun p j h => read_values a18 _ _ _ _ p j h) (by omega) rfl inb_S1x64x2048_S1x64x128_0_0_1152 x
    · intro x; exact strip _ 1024 8 _ (fun p j h => read_values a18 _ _ _ _ p j h) (by omega) rfl inb_S1x64x2048_S1x64x128_0_0_1024 x
    · intro x; exact strip _ 896 7 _ (fun p j h => read_values a18 _ _ _ _ p j h) (by omega) rfl inb_S1x64x2048_S1x64x128_0_0_896 x
    · intro x; exact strip _ 768 6 _ (fun p j h => read_values a18 _ _ _ _ p j h) (by omega) rfl inb_S1x64x2048_S1x64x128_0_0_768 x
    · intro x; exact strip _ 640 5 _ (fun p j h => read_values a18 _ _ _ _ p j h) (by omega) rfl inb_S1x64x2048_S1x64x128_0_0_640 x
    · intro x; exact strip _ 512 4 _ (fun p j h => read_values a18 _ _ _ _ p j h) (by omega) rfl inb_S1x64x2048_S1x64x128_0_0_512 x
    · intro x; exact strip _ 384 3 _ (fun p j h => read_values a18 _ _ _ _ p j h) (by omega) rfl inb_S1x64x2048_S1x64x128_0_0_384 x
    · intro x; exact strip _ 256 2 _ (fun p j h => read_values a18 _ _ _ _ p j h) (by omega) rfl inb_S1x64x2048_S1x64x128_0_0_256 x
    · intro x; exact strip _ 128 1 _ (fun p j h => read_values a18 _ _ _ _ p j h) (by omega) rfl inb_S1x64x2048_S1x64x128_0_0_128 x
    · intro x; exact strip _ 0 0 _ (fun p j h => read_values a18 _ _ _ _ p j h) (by omega) rfl inb_S1x64x2048_S1x64x128_0_0_0 x
  · unfold strips
    dsimp only
    rw [pay68_apply, pay48_apply]
    unfold rowN
    simp only [pay2_apply]
    refine Finset.sum_congr rfl fun k _ => congrArg (_ * ·) ((ld2 x2 _ k _).trans (congrArg x2 (funext fun a => Fin.ext ?_)))
    match a with
    | ⟨0, _⟩ => show 0 + k.val = k.val; omega
    | ⟨1, _⟩ => show 512 + (128 + j.val % 128) = 640 + j.val % 128; omega

theorem out13_apply (z : Fin 1) (c' : Fin 8) (u : Fin 256) (s : Fin 128) :
    out0_A_13 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix4 z c' u s) = rowT x0 x1 x3 ⟨c'.val * 128 + s.val, by omega⟩ ⟨u.val, by omega⟩ := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  refine (View.canon_apply_of_pieces (chunks (k0_pay4 (F := Ideal) x0 x1 (View.ld x3 (Rect.unit (s := S1824x1024) ![0, 0] ![288, 1024] inb_S1824x1024_S288x1024_0_0)))) _ ?_ _ (cover0_A_13 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 _)).trans ?_
  · unfold kernelRun0_A
    dsimp only
    sl_unfold_words
    simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
    generalize View.ld x3 _ = w3
    intro q hq
    simp only [List.mem_cons, List.not_mem_nil, or_false] at hq
    rcases hq with rfl | rfl | rfl | rfl | rfl | rfl | rfl | rfl
    · intro x; exact chunk _ 7 _ (by omega) (fun z z' u s => by pointwise [k0_pay22]) inb_S1x8x256x128_S1x1x256x128_0_7_0_0 x
    · intro x; exact chunk _ 6 _ (by omega) (fun z z' u s => by pointwise [k0_pay20]) inb_S1x8x256x128_S1x1x256x128_0_6_0_0 x
    · intro x; exact chunk _ 5 _ (by omega) (fun z z' u s => by pointwise [k0_pay18]) inb_S1x8x256x128_S1x1x256x128_0_5_0_0 x
    · intro x; exact chunk _ 4 _ (by omega) (fun z z' u s => by pointwise [k0_pay16, k0_pay15]) inb_S1x8x256x128_S1x1x256x128_0_4_0_0 x
    · intro x; exact chunk _ 3 _ (by omega) (fun z z' u s => by pointwise [k0_pay13]) inb_S1x8x256x128_S1x1x256x128_0_3_0_0 x
    · intro x; exact chunk _ 2 _ (by omega) (fun z z' u s => by pointwise [k0_pay11]) inb_S1x8x256x128_S1x1x256x128_0_2_0_0 x
    · intro x; exact chunk _ 1 _ (by omega) (fun z z' u s => by pointwise [k0_pay9]) inb_S1x8x256x128_S1x1x256x128_0_1_0_0 x
    · intro x; exact chunk _ 0 _ (by omega) (fun z z' u s => by pointwise [k0_pay6]) inb_S1x8x256x128_S1x1x256x128_0_0_0_0 x
  · show k0_pay4 (F := Ideal) x0 x1 (View.ld x3 (Rect.unit (s := S1824x1024) ![0, 0] ![288, 1024] inb_S1824x1024_S288x1024_0_0)) (ix2 u ⟨c'.val * 128 + s.val, by omega⟩) = _
    rw [pay4_apply, pay3_apply]
    unfold rowT
    simp only [pay2_apply]
    refine Finset.sum_congr rfl fun k _ => congrArg (· * _) ((ld2 x3 _ _ k).trans (congrArg x3 (funext fun a => Fin.ext ?_)))
    match a with
    | ⟨0, _⟩ => show 0 + u.val = u.val; omega
    | ⟨1, _⟩ => show 0 + k.val = k.val; omega

theorem out14_apply (z : Fin 1) (c' : Fin 8) (u : Fin 32) (s : Fin 128) :
    out0_A_14 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix4 z c' u s) = sigm (rowT x0 x1 x3 ⟨c'.val * 128 + s.val, by omega⟩ ⟨256 + u.val, by omega⟩) := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  refine (View.canon_apply_of_pieces (chunks (k0_pay5 (F := Ideal) x0 x1 (View.ld x3 (Rect.unit (s := S1824x1024) ![0, 0] ![288, 1024] inb_S1824x1024_S288x1024_0_0)))) _ ?_ _ (cover0_A_14 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 _)).trans ?_
  · unfold kernelRun0_A
    dsimp only
    sl_unfold_words
    simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
    generalize View.ld x3 _ = w3
    intro q hq
    simp only [List.mem_cons, List.not_mem_nil, or_false] at hq
    rcases hq with rfl | rfl | rfl | rfl | rfl | rfl | rfl | rfl
    · intro x; exact chunk _ 7 _ (by omega) (fun z z' u s => by pointwise [k0_pay23]) inb_S1x8x32x128_S1x1x32x128_0_7_0_0 x
    · intro x; exact chunk _ 6 _ (by omega) (fun z z' u s => by pointwise [k0_pay21]) inb_S1x8x32x128_S1x1x32x128_0_6_0_0 x
    · intro x; exact chunk _ 5 _ (by omega) (fun z z' u s => by pointwise [k0_pay19]) inb_S1x8x32x128_S1x1x32x128_0_5_0_0 x
    · intro x; exact chunk _ 4 _ (by omega) (fun z z' u s => by pointwise [k0_pay17]) inb_S1x8x32x128_S1x1x32x128_0_4_0_0 x
    · intro x; exact chunk _ 3 _ (by omega) (fun z z' u s => by pointwise [k0_pay14]) inb_S1x8x32x128_S1x1x32x128_0_3_0_0 x
    · intro x; exact chunk _ 2 _ (by omega) (fun z z' u s => by pointwise [k0_pay12]) inb_S1x8x32x128_S1x1x32x128_0_2_0_0 x
    · intro x; exact chunk _ 1 _ (by omega) (fun z z' u s => by pointwise [k0_pay10]) inb_S1x8x32x128_S1x1x32x128_0_1_0_0 x
    · intro x; exact chunk _ 0 _ (by omega) (fun z z' u s => by pointwise [k0_pay8, k0_pay7]) inb_S1x8x32x128_S1x1x32x128_0_0_0_0 x
  · show k0_pay5 (F := Ideal) x0 x1 (View.ld x3 (Rect.unit (s := S1824x1024) ![0, 0] ![288, 1024] inb_S1824x1024_S288x1024_0_0)) (ix2 u ⟨c'.val * 128 + s.val, by omega⟩) = _
    rw [pay5_apply, pay3_apply]
    unfold rowT
    simp only [pay2_apply]
    refine congrArg sigm (Finset.sum_congr rfl fun k _ => congrArg (· * _) ((ld2 x3 _ _ k).trans (congrArg x3 (funext fun a => Fin.ext ?_))))
    match a with
    | ⟨0, _⟩ => show 0 + (256 + u.val) = 256 + u.val; omega
    | ⟨1, _⟩ => show 0 + k.val = k.val; omega

theorem slab_apply (o : Nat) (ho : o < 8) (v : FVec Ideal S8x64x1024 .f32) (h : S8x64x1024.Slices ![o, 0, 0] S1x64x1024) (d : Fin 64) (t : Fin 1024) :
    ProjMix.slab o v h (ix2 d t) = v (ix3 ⟨o, ho⟩ d t) := by
  pointwise [ProjMix.slab]

/-- What one group's mixing is worth: its bias and the causal sum over the chunk's earlier tokens. -/
def mixedAt (v : FVec Ideal S8x64x1024 .f32) (x6 : Vec Ideal S8x128x128 .f32) (x7 : Vec Ideal S8x1x128 .f32) (a : Fin 8) (d : Fin 64) (t : Fin 1024) : EReal :=
  ∑ s : Fin 128, (if s.val ≤ t.val % 128 then v (ix3 a d ⟨t.val / 128 * 128 + s.val, by omega⟩) * x6 (ix3 a s ⟨t.val % 128, by omega⟩) else 0)
    + x7 (ix3 a 0 ⟨t.val % 128, by omega⟩)

theorem group_apply (o : Nat) (ho : o < 8) (v : FVec Ideal S8x64x1024 .f32) (h : S8x64x1024.Slices ![o, 0, 0] S1x64x1024)
    (x6 : Vec Ideal S8x128x128 .f32) (x7 : Vec Ideal S8x1x128 .f32) (hw hb) (d : Fin 64) (t : Fin 1024) :
    ProjMix.mix (ProjMix.slab o v h) (View.ld x6 (Rect.unit (s := S8x128x128) ![o, 0, 0] ![1, 128, 128] hw))
      (View.ld x7 (Rect.unit (s := S8x1x128) ![o, 0, 0] ![1, 1, 128] hb)) (ix2 d t) = mixedAt v x6 x7 ⟨o, ho⟩ d t := by
  unfold mixedAt
  refine (ProjMix.mix_apply _ _ _ d t).trans (congrArg₂ (· + ·) (Finset.sum_congr rfl fun s _ => if_congr Iff.rfl
    (congrArg₂ (· * ·) (slab_apply o ho v h d _) (ld3 x6 hw s _)) rfl) (ld3 x7 hb 0 _))

/-- The eight groups as the body computes them. -/
def mixes (v : FVec Ideal S8x64x1024 .f32) (x6 : Vec Ideal S8x128x128 .f32) (x7 : Vec Ideal S8x1x128 .f32) : Fin 8 → FVec Ideal S64x1024 .f32 :=
  ![ProjMix.mix (ProjMix.slab 0 v slices_S8x64x1024_o0_0_0_S1x64x1024) (View.ld x6 (Rect.unit (s := S8x128x128) ![0, 0, 0] ![1, 128, 128] inb_S8x128x128_S1x128x128_0_0_0)) (View.ld x7 (Rect.unit (s := S8x1x128) ![0, 0, 0] ![1, 1, 128] inb_S8x1x128_S1x1x128_0_0_0)),
    ProjMix.mix (ProjMix.slab 1 v slices_S8x64x1024_o1_0_0_S1x64x1024) (View.ld x6 (Rect.unit (s := S8x128x128) ![1, 0, 0] ![1, 128, 128] inb_S8x128x128_S1x128x128_1_0_0)) (View.ld x7 (Rect.unit (s := S8x1x128) ![1, 0, 0] ![1, 1, 128] inb_S8x1x128_S1x1x128_1_0_0)),
    ProjMix.mix (ProjMix.slab 2 v slices_S8x64x1024_o2_0_0_S1x64x1024) (View.ld x6 (Rect.unit (s := S8x128x128) ![2, 0, 0] ![1, 128, 128] inb_S8x128x128_S1x128x128_2_0_0)) (View.ld x7 (Rect.unit (s := S8x1x128) ![2, 0, 0] ![1, 1, 128] inb_S8x1x128_S1x1x128_2_0_0)),
    ProjMix.mix (ProjMix.slab 3 v slices_S8x64x1024_o3_0_0_S1x64x1024) (View.ld x6 (Rect.unit (s := S8x128x128) ![3, 0, 0] ![1, 128, 128] inb_S8x128x128_S1x128x128_3_0_0)) (View.ld x7 (Rect.unit (s := S8x1x128) ![3, 0, 0] ![1, 1, 128] inb_S8x1x128_S1x1x128_3_0_0)),
    ProjMix.mix (ProjMix.slab 4 v slices_S8x64x1024_o4_0_0_S1x64x1024) (View.ld x6 (Rect.unit (s := S8x128x128) ![4, 0, 0] ![1, 128, 128] inb_S8x128x128_S1x128x128_4_0_0)) (View.ld x7 (Rect.unit (s := S8x1x128) ![4, 0, 0] ![1, 1, 128] inb_S8x1x128_S1x1x128_4_0_0)),
    ProjMix.mix (ProjMix.slab 5 v slices_S8x64x1024_o5_0_0_S1x64x1024) (View.ld x6 (Rect.unit (s := S8x128x128) ![5, 0, 0] ![1, 128, 128] inb_S8x128x128_S1x128x128_5_0_0)) (View.ld x7 (Rect.unit (s := S8x1x128) ![5, 0, 0] ![1, 1, 128] inb_S8x1x128_S1x1x128_5_0_0)),
    ProjMix.mix (ProjMix.slab 6 v slices_S8x64x1024_o6_0_0_S1x64x1024) (View.ld x6 (Rect.unit (s := S8x128x128) ![6, 0, 0] ![1, 128, 128] inb_S8x128x128_S1x128x128_6_0_0)) (View.ld x7 (Rect.unit (s := S8x1x128) ![6, 0, 0] ![1, 1, 128] inb_S8x1x128_S1x1x128_6_0_0)),
    ProjMix.mix (ProjMix.slab 7 v slices_S8x64x1024_o7_0_0_S1x64x1024) (View.ld x6 (Rect.unit (s := S8x128x128) ![7, 0, 0] ![1, 128, 128] inb_S8x128x128_S1x128x128_7_0_0)) (View.ld x7 (Rect.unit (s := S8x1x128) ![7, 0, 0] ![1, 1, 128] inb_S8x1x128_S1x1x128_7_0_0))]

theorem mixes_apply (v : FVec Ideal S8x64x1024 .f32) (x6 : Vec Ideal S8x128x128 .f32) (x7 : Vec Ideal S8x1x128 .f32) (a : Fin 8) (d : Fin 64) (t : Fin 1024) :
    mixes v x6 x7 a (ix2 d t) = mixedAt v x6 x7 a d t := by
  match a with
  | ⟨0, h⟩ => exact group_apply 0 h v _ x6 x7 _ _ d t
  | ⟨1, h⟩ => exact group_apply 1 h v _ x6 x7 _ _ d t
  | ⟨2, h⟩ => exact group_apply 2 h v _ x6 x7 _ _ d t
  | ⟨3, h⟩ => exact group_apply 3 h v _ x6 x7 _ _ d t
  | ⟨4, h⟩ => exact group_apply 4 h v _ x6 x7 _ _ d t
  | ⟨5, h⟩ => exact group_apply 5 h v _ x6 x7 _ _ d t
  | ⟨6, h⟩ => exact group_apply 6 h v _ x6 x7 _ _ d t
  | ⟨7, h⟩ => exact group_apply 7 h v _ x6 x7 _ _ d t

set_option maxHeartbeats 4000000 in
theorem out15_apply (z : Fin 1) (r : Fin 1024) (a : Fin 8) (d : Fin 64) :
    out0_A_15 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 (ix3 z r ⟨a.val * 64 + d.val, by omega⟩)
      = ogAt (rowT x0 x1 x3 r ⟨288 + (a.val * 64 + d.val), by omega⟩) (rowT x0 x1 x3 r ⟨1312 + (a.val * 64 + d.val), by omega⟩)
          (fun s e => rowT x0 x1 x3 ⟨r.val / 128 * 128 + s.val, by omega⟩ ⟨800 + (a.val * 64 + e.val), by omega⟩)
          (fun e => x4 (ix3 a e 0)) (fun e => x5 (ix3 a e 0)) (fun s => x6 (ix3 a s ⟨r.val % 128, by omega⟩)) (x7 (ix3 a 0 ⟨r.val % 128, by omega⟩))
          (r.val % 128) d := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7)]
  unfold kernelRun0_A
  dsimp only
  rw [View.canon_unit_zero hz3]
  sl_unfold_words
  simp only [View.readAt_eq_ld, h2.read_unread, h3.read_unread, h4.read_unread, h5.read_unread, h6.read_unread, h7.read_unread, h8.read_unread, h9.read_unread, View.ld_unit_zero (S := S1x1024x1024) hz3, View.ld_unit_zero (S := S8x64x1) hz3, View.ld_unit_zero (S := S1x1024) hz2, shapeCast_self]
  rw [pay46_apply]
  have eT : ∀ (o : Nat) (ho : o + 512 ≤ 1824) (h) (j : Fin 512) (t : Fin 1024),
      (∑ k, View.ld x3 (Rect.unit (s := S1824x1024) ![o, 0] ![512, 1024] h) (ix2 j k) * k0_pay2 (F := Ideal) x0 x1 (ix2 t k))
        = rowT x0 x1 x3 t ⟨o + j.val, by omega⟩ := by
    intro o ho h j t
    unfold rowT
    simp only [pay2_apply]
    refine Finset.sum_congr rfl fun k _ => congrArg (· * _) ((ld2 x3 _ _ k).trans (congrArg x3 (funext fun a => Fin.ext ?_)))
    match a with
    | ⟨0, _⟩ => rfl
    | ⟨1, _⟩ => show 0 + k.val = k.val; omega
  unfold ogAt
  refine congrArg₂ (· * ·) ?_ ?_
  · refine (congrFun (ProjMix.pay44_eq _ _ _ _ _ _ (fun i => mixes _ x6 x7 ⟨i.val, by omega⟩)) _).trans ?_
    refine congrArg₂ (· * ·) ?_ ((ProjMix.stack_apply (mixes _ x6 x7) a d r).trans ((mixes_apply _ _ _ a d r).trans ?_))
    · rw [pay24_apply, eT _ (by omega)]
    · unfold mixedAt
      refine congrArg (· + _) (Finset.sum_congr rfl fun s _ => if_congr Iff.rfl (congrArg (· * _) ((pay27_apply _ _ _ a d _).trans ?_)) rfl)
      simp only [pay25_apply]
      refine congrArg (fun f => vnorm f _ _ d) (funext fun e => congrArg gelu (eT _ (by omega) _ _ _))
  · rw [pay26_apply, eT _ (by omega)]

end

end Cert.Proof.ProjOut

end
-- ==== Proof.ProjHost.lean ====
/- What the host hands the projection call: the two weight matrices, cut and ordered anew, and the parameters of the
   spatial gating, each read at an index from an argument as launched. -/
module

public import proofs.«01_k».proof.Proof.Gen.ProjIdeal.Value
public import Idealize.ShloMosaic.Lib.Pointwise

@[expose] public section

noncomputable section

namespace Cert.Proof.ProjHost

open Idealize.ShloMosaic Idealize.SL.Sem Cert.ProjIdeal Cert.ProjIdeal.Gen Idealize.ShloMosaic.TcCoe

/-- The weights of the projections whose rows are tokens. -/
def wn (x : Vec Ideal S1x1024x3352 .f32) : Vec Ideal S1024x1536 .bf16 :=
  have y : FVec Ideal S1024x3352 .f32 := shapeCast S1024x3352 x shapeCasts_S1x1024x3352_S1024x3352
  truncf .bf16 (concatenate S1024x1536 1
    [⟨S1024x512, extractStridedSlice S1024x512 ![0, 0] y slices_S1024x3352_S1024x512_0_0⟩,
     ⟨S1024x128, extractStridedSlice S1024x128 ![0, 512] y slices_S1024x3352_S1024x128_0_512⟩,
     ⟨S1024x128, extractStridedSlice S1024x128 ![0, 640] y slices_S1024x3352_S1024x128_0_640⟩,
     ⟨S1024x128, extractStridedSlice S1024x128 ![0, 768] y slices_S1024x3352_S1024x128_0_768⟩,
     ⟨S1024x128, extractStridedSlice S1024x128 ![0, 1024] y slices_S1024x3352_S1024x128_0_1024⟩,
     ⟨S1024x512, extractStridedSlice S1024x512 ![0, 1304] y slices_S1024x3352_S1024x512_0_1304⟩]
    concatenates_S1024x512_S1024x128_S1024x128_S1024x128_S1024x128_S1024x512_S1024x1536_d1) bitsLt_bf16_f32

/-- The column of the input projection behind a column of `wn`. -/
def colN (j : Fin 1536) : Fin 3352 :=
  ⟨if j.val < 896 then j.val else if j.val < 1024 then j.val + 128 else j.val + 280, by split_ifs <;> omega⟩

theorem wn_apply (x : Vec Ideal S1x1024x3352 .f32) (k : Fin 1024) (j : Fin 1536) :
    wn x (ix2 k j) = x (ix3 0 k (colN j)) := by
  pointwise [wn]
  split_ifs <;> refine congrArg (fun i => x (ix3 0 k i)) (Fin.ext ?_) <;> simp only [colN] <;> split_ifs <;> omega

/-- The gate columns of the input projection, a key head's twelve padded to sixteen. -/
def gateCols (y : FVec Ideal S1024x3352 .f32) : FVec Ideal S1024x32 .f32 :=
  shapeCast S1024x32 (pad S1024x2x16 ![0, 0, 0] ![0, 0, 4] ![0, 0, 0]
    (shapeCast S1024x2x12 (transpose S1024x2x3x4 [0, 1, 3, 2]
      (shapeCast S1024x2x4x3 (extractStridedSlice S1024x24 ![0, 1280] y slices_S1024x3352_S1024x24_0_1280) shapeCasts_S1024x24_S1024x2x4x3)
      transposes_S1024x2x4x3_S1024x2x3x4_0_1_3_2) shapeCasts_S1024x2x3x4_S1024x2x12)
    (sitofp .f32 (constantI S_ 32 0#32)) pads_S1024x2x12_S1024x2x16_000_000_040 h_S_) shapeCasts_S1024x2x16_S1024x32

/-- The weights of the projections whose columns are tokens. -/
def wt (x : Vec Ideal S1x1024x3352 .f32) : Vec Ideal S1824x1024 .bf16 :=
  have y : FVec Ideal S1024x3352 .f32 := shapeCast S1024x3352 x shapeCasts_S1x1024x3352_S1024x3352
  truncf .bf16 (transpose S1824x1024 [1, 0] (concatenate S1024x1824 1
    [⟨S1024x128, extractStridedSlice S1024x128 ![0, 896] y slices_S1024x3352_S1024x128_0_896⟩,
     ⟨S1024x128, extractStridedSlice S1024x128 ![0, 1152] y slices_S1024x3352_S1024x128_0_1152⟩,
     ⟨S1024x32, gateCols y⟩,
     ⟨S1024x512, extractStridedSlice S1024x512 ![0, 1816] y slices_S1024x3352_S1024x512_0_1816⟩,
     ⟨S1024x512, extractStridedSlice S1024x512 ![0, 2328] y slices_S1024x3352_S1024x512_0_2328⟩,
     ⟨S1024x512, extractStridedSlice S1024x512 ![0, 2840] y slices_S1024x3352_S1024x512_0_2840⟩]
    concatenates_S1024x128_S1024x128_S1024x32_S1024x512_S1024x512_S1024x512_S1024x1824_d1)
    transposes_S1024x1824_S1824x1024_1_0) bitsLt_bf16_f32

/-- The column of the input projection behind gate column `u`: key head `u / 16`, kind `u % 16 / 4`, query head `u % 16 % 4`. -/
def colG (u : Fin 32) (h : u.val % 16 < 12) : Fin 3352 :=
  ⟨1280 + (u.val / 16 * 4 + u.val % 16 % 4) * 3 + u.val % 16 / 4, by omega⟩

theorem zero_word : (((0#32 : BitVec 32).toInt : ℝ) : EReal) = 0 := by
  have h : (0#32 : BitVec 32).toInt = 0 := by decide
  rw [h, Int.cast_zero, EReal.coe_zero]

theorem gateCols_apply (y : FVec Ideal S1024x3352 .f32) (k : Fin 1024) (u : Fin 32) :
    gateCols y (ix2 k u) = if h : u.val % 16 < 12 then y (ix2 k (colG u h)) else 0 := by
  pointwise [gateCols]
  split_ifs with h h' h'
  · exact congrArg (fun i => y (ix2 k i)) (Fin.ext (by dsimp only [colG]; omega))
  · exact absurd h.2 h'
  · exact absurd ⟨by omega, h'⟩ h
  · exact zero_word

/-- The column of the input projection behind value row `j`. -/
def colV (j : Fin 256) : Fin 3352 := ⟨if j.val < 128 then 896 + j.val else 1024 + j.val, by split_ifs <;> omega⟩

theorem wt_values (x : Vec Ideal S1x1024x3352 .f32) (k : Fin 1024) (j : Fin 256) :
    wt x (ix2 ⟨j.val, by omega⟩ k) = x (ix3 0 k (colV j)) := by
  pointwise [wt]
  split_ifs <;> first | omega | (refine congrArg (fun i => x (ix3 0 k i)) (Fin.ext ?_); simp only [colV]; split_ifs <;> omega)

theorem wt_gates (x : Vec Ideal S1x1024x3352 .f32) (k : Fin 1024) (u : Fin 32) :
    wt x (ix2 ⟨256 + u.val, by omega⟩ k) = if h : u.val % 16 < 12 then x (ix3 0 k (colG u h)) else 0 := by
  pointwise [wt]
  rw [dif_neg (by omega), dif_neg (by omega), dif_pos (by omega)]
  have e : (⟨256 + u.val - 128 - 128, by omega⟩ : Fin 32) = u := Fin.ext (by show 256 + u.val - 128 - 128 = u.val; omega)
  rw [e, gateCols_apply]
  pointwise

theorem wt_mixing (x : Vec Ideal S1x1024x3352 .f32) (k : Fin 1024) (j : Fin 1536) :
    wt x (ix2 ⟨288 + j.val, by omega⟩ k) = x (ix3 0 k ⟨1816 + j.val, by omega⟩) := by
  pointwise [wt]
  split_ifs <;> first | omega | (refine congrArg (fun i => x (ix3 0 k i)) (Fin.ext ?_); dsimp only; omega)

variable (m : (ℓ : Loc nD τ sig) → Buf (Elt Ideal) ℓ)

theorem V_wn (c : Dev nD) : V m c main_v14 = wn (m ((c : Thread nD τ).loc main_arg2)) := by
  show StableHlo.after (List.flatten [hostOps0, hostOps0_1, hostOps0_2]) (fun b => m (c, b)) main_v14 = _
  simp only [hostOps0, hostOps0_1, hostOps0_2, List.flatten_cons, List.flatten_nil, List.append_nil, List.cons_append, List.nil_append]
  after_results
  rfl

theorem V_wt (c : Dev nD) : V m c main_v22 = wt (m ((c : Thread nD τ).loc main_arg2)) := by
  show StableHlo.after (List.flatten [hostOps0, hostOps0_1, hostOps0_2]) (fun b => m (c, b)) main_v22 = _
  simp only [hostOps0, hostOps0_1, hostOps0_2, List.flatten_cons, List.flatten_nil, List.append_nil, List.cons_append, List.nil_append]
  after_results
  rfl

def gain (x : Vec Ideal S1x1024 .f32) : Vec Ideal S1x1024 .f32 :=
  shapeCast S1x1024 (shapeCast S1024 x shapeCasts_S1x1024_S1024) shapeCasts_S1024_S1x1024

theorem gain_apply (x : Vec Ideal S1x1024 .f32) (j : Fin 1024) : gain x (ix2 0 j) = x (ix2 0 j) := by
  pointwise [gain]

theorem V_gain (c : Dev nD) : V m c main_v32 = gain (m ((c : Thread nD τ).loc main_arg1)) := by
  show StableHlo.after (List.flatten [hostOps0, hostOps0_1, hostOps0_2]) (fun b => m (c, b)) main_v32 = _
  simp only [hostOps0, hostOps0_1, hostOps0_2, List.flatten_cons, List.flatten_nil, List.append_nil, List.cons_append, List.nil_append]
  after_results
  rfl

def lng (x : Vec Ideal S1x8x64 .f32) : Vec Ideal S8x64x1 .f32 :=
  shapeCast S8x64x1 (shapeCast S8x64 x shapeCasts_S1x8x64_S8x64) shapeCasts_S8x64_S8x64x1

theorem lng_apply (x : Vec Ideal S1x8x64 .f32) (a : Fin 8) (d : Fin 64) : lng x (ix3 a d 0) = x (ix3 0 a d) := by
  pointwise [lng]

theorem V_lng (c : Dev nD) : V m c main_v24 = lng (m ((c : Thread nD τ).loc main_arg3)) := by
  show StableHlo.after (List.flatten [hostOps0, hostOps0_1, hostOps0_2]) (fun b => m (c, b)) main_v24 = _
  simp only [hostOps0, hostOps0_1, hostOps0_2, List.flatten_cons, List.flatten_nil, List.append_nil, List.cons_append, List.nil_append]
  after_results
  rfl

theorem V_lnb (c : Dev nD) : V m c main_v26 = lng (m ((c : Thread nD τ).loc main_arg4)) := by
  show StableHlo.after (List.flatten [hostOps0, hostOps0_1, hostOps0_2]) (fun b => m (c, b)) main_v26 = _
  simp only [hostOps0, hostOps0_1, hostOps0_2, List.flatten_cons, List.flatten_nil, List.append_nil, List.cons_append, List.nil_append]
  after_results
  rfl

def wsp (x : Vec Ideal S1x8x128x128 .f32) : Vec Ideal S8x128x128 .f32 :=
  transpose S8x128x128 [0, 2, 1] (shapeCast S8x128x128 x shapeCasts_S1x8x128x128_S8x128x128) transposes_S8x128x128_S8x128x128_0_2_1

theorem wsp_apply (x : Vec Ideal S1x8x128x128 .f32) (a : Fin 8) (s t : Fin 128) : wsp x (ix3 a s t) = x (ix4 0 a t s) := by
  pointwise [wsp]

theorem V_wsp (c : Dev nD) : V m c main_v28 = wsp (m ((c : Thread nD τ).loc main_arg5)) := by
  show StableHlo.after (List.flatten [hostOps0, hostOps0_1, hostOps0_2]) (fun b => m (c, b)) main_v28 = _
  simp only [hostOps0, hostOps0_1, hostOps0_2, List.flatten_cons, List.flatten_nil, List.append_nil, List.cons_append, List.nil_append]
  after_results
  rfl

def bsp (x : Vec Ideal S1x8x128 .f32) : Vec Ideal S8x1x128 .f32 :=
  shapeCast S8x1x128 (shapeCast S8x128 x shapeCasts_S1x8x128_S8x128) shapeCasts_S8x128_S8x1x128

theorem bsp_apply (x : Vec Ideal S1x8x128 .f32) (a : Fin 8) (t : Fin 128) : bsp x (ix3 a 0 t) = x (ix3 0 a t) := by
  pointwise [bsp]

theorem V_bsp (c : Dev nD) : V m c main_v30 = bsp (m ((c : Thread nD τ).loc main_arg6)) := by
  show StableHlo.after (List.flatten [hostOps0, hostOps0_1, hostOps0_2]) (fun b => m (c, b)) main_v30 = _
  simp only [hostOps0, hostOps0_1, hostOps0_2, List.flatten_cons, List.flatten_nil, List.append_nil, List.cons_append, List.nil_append]
  after_results
  rfl

end Cert.Proof.ProjHost

end
-- ==== Proof.ProjRef.lean ====
/- The projection call's reference at an index, over the extended reals, in the functions of `ProjRow`. -/
module

public import proofs.«01_k».proof.Proof.ProjRow
public import proofs.«01_k».proof.Proof.ProjHost
public import proofs.«01_k».proof.Proof.Gen.ProjRefIdeal.Read

@[expose] public section

noncomputable section

namespace Cert.Proof.ProjRef

open Idealize.ShloMosaic Idealize.SL.Sem Idealize.ShloMosaic.TcCoe Cert.Proof.ProjRow
open Cert.ProjRefIdeal Cert.ProjRefIdeal.Read

section
variable (x : (⟨S16x4096x1024, .f32⟩ : BufTy).Contents (Elt Ideal)) (g : (⟨S1x1024, .f32⟩ : BufTy).Contents (Elt Ideal))
  (w : (⟨S1x1024x3352, .f32⟩ : BufTy).Contents (Elt Ideal)) (lg lb : (⟨S1x8x64, .f32⟩ : BufTy).Contents (Elt Ideal))
  (ws : (⟨S1x8x128x128, .f32⟩ : BufTy).Contents (Elt Ideal)) (bs : (⟨S1x8x128, .f32⟩ : BufTy).Contents (Elt Ideal))

/-- Column `j` of the projection of token `t` of batch `b`. -/
def W (b : Fin 16) (t : Fin 4096) (j : Fin 3352) : EReal :=
  ∑ k, hnRow (fun k => x (ix3 b t k)) (fun k => g (ix2 0 k)) k * w (ix3 0 k j)

theorem hn_apply (b : Fin 16) (t : Fin 4096) (k : Fin 1024) :
    val_main_v13 (F := Ideal) x g (ix3 b t k) = hnRow (fun k => x (ix3 b t k)) (fun k => g (ix2 0 k)) k := by
  unfold hnRow
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem W_apply (b : Fin 16) (t : Fin 4096) (j : Fin 3352) : val_main_v15 (F := Ideal) x g w (ix3 b t j) = W x g w b t j := by
  unfold W
  pointwise [val_main_v15, val_main_v14, Cert.ProjRefIdeal.dot_S16x4096x1024_S1024x3352_S16x4096x3352_2_0_01_1_n_n, hn_apply]

theorem q_apply (b : Fin 16) (t : Fin 4096) (j : Fin 512) :
    val_main_v110 (F := Ideal) x g w (ix3 b t j) = W x g w b t ⟨j.val, by omega⟩ * Ideal.ofBits FTy.f32 0x3E38AA3B#32 := by
  rw [← W_apply]
  pointwise [val_main_v110, val_main_v109, val_main_v108, val_main_cst_19, val_main_v16]

theorem kc_apply (b : Fin 16) (s : Fin 256) (j : Fin 2048) :
    val_main_v112 (F := Ideal) x g w (ix3 b s j)
      = W x g w b ⟨s.val * 16 + j.val / 128, by omega⟩ ⟨512 + j.val % 128, by omega⟩ := by
  rw [← W_apply]
  pointwise [val_main_v112, val_main_v111, val_main_v17]

theorem vc_apply (b : Fin 16) (s : Fin 256) (j : Fin 2048) :
    val_main_v114 (F := Ideal) x g w (ix3 b s j)
      = W x g w b ⟨s.val * 16 + j.val / 128, by omega⟩ ⟨640 + j.val % 128, by omega⟩ := by
  rw [← W_apply]
  pointwise [val_main_v114, val_main_v113, val_main_v18]

theorem ksw_apply (b : Fin 16) (t : Fin 4096) (j : Fin 256) :
    val_main_v116 (F := Ideal) x g w (ix3 b t j)
      = W x g w b t (if j.val < 128 then ⟨768 + j.val, by omega⟩ else ⟨896 + j.val, by omega⟩) := by
  rw [← W_apply]
  pointwise [val_main_v116, val_main_v115, val_main_v19, val_main_v21]
  split_ifs <;> refine congrArg (fun i => val_main_v15 (F := Ideal) x g w (ix3 b t i)) (Fin.ext ?_) <;> dsimp only <;> omega

theorem zn_apply (b : Fin 16) (t : Fin 4096) (j : Fin 512) :
    val_main_v118 (F := Ideal) x g w (ix3 b t j) = W x g w b t ⟨1304 + j.val, by omega⟩ * sigm (W x g w b t ⟨1304 + j.val, by omega⟩) := by
  rw [← W_apply]
  unfold sigm
  pointwise [val_main_v118, val_main_v117, val_main_call4_v0, val_main_call4_v1, val_main_call4_v2, val_main_call4_v3, val_main_call4_v4,
    val_main_call4_v5, val_main_call4_cst, val_main_call4_cst_0, val_main_v24]

theorem vt_apply (b : Fin 16) (c : Fin 32) (j : Fin 256) (s : Fin 128) :
    val_main_v122 (F := Ideal) x g w (ix4 b c j s)
      = W x g w b ⟨c.val * 128 + s.val, by omega⟩ (if j.val < 128 then ⟨896 + j.val, by omega⟩ else ⟨1024 + j.val, by omega⟩) := by
  rw [← W_apply]
  pointwise [val_main_v122, val_main_v121, val_main_v120, val_main_v119, val_main_v20, val_main_v22]
  split_ifs <;> refine congrArg (fun i => val_main_v15 (F := Ideal) x g w (ix3 b _ i)) (Fin.ext ?_) <;> dsimp only <;> omega

theorem gate_apply (b : Fin 16) (t : Fin 4096) (j : Fin 24) :
    val_main_v33 (F := Ideal) x g w (ix3 b t j) = sigm (W x g w b t ⟨1280 + j.val, by omega⟩) := by
  rw [← W_apply]
  unfold sigm
  pointwise [val_main_v33, val_main_v32, val_main_v31, val_main_v30, val_main_v29, val_main_v28, val_main_v23, val_main_cst_2, val_main_cst_3]

theorem gt_apply (b : Fin 16) (c : Fin 32) (u : Fin 32) (s : Fin 128) :
    val_main_v124 (F := Ideal) x g w (ix4 b c u s)
      = if h : u.val % 16 < 12 then sigm (W x g w b ⟨c.val * 128 + s.val, by omega⟩ (ProjHost.colG u h))
        else Ideal.ofBits FTy.f32 0x3F000000#32 := by
  pointwise [val_main_v124, val_main_v123, val_main_v107, val_main_call3_v0, val_main_cst_18, val_main_v106, val_main_v105, val_main_v34]
  split_ifs with h h' h'
  · rw [gate_apply]
    refine congrArg (fun i => sigm (W x g w b _ i)) (Fin.ext ?_)
    unfold ProjHost.colG
    dsimp only
    omega
  · omega
  · omega
  · rfl

theorem gelu_u_apply (b : Fin 16) (t : Fin 4096) (j : Fin 512) :
    val_main_v47 (F := Ideal) x g w (ix3 b t j) = gelu (W x g w b t ⟨1816 + j.val, by omega⟩) := by
  rw [← W_apply]
  unfold gelu
  pointwise [val_main_v47, val_main_v46, val_main_v45, val_main_v44, val_main_v43, val_main_v42, val_main_v41, val_main_v40, val_main_v39,
    val_main_v38, val_main_v37, val_main_v36, val_main_v35, val_main_v25, val_main_cst_4, val_main_cst_5, val_main_cst_6, val_main_cst_7]

theorem gelu_v_apply (b : Fin 16) (t : Fin 4096) (j : Fin 512) :
    val_main_v60 (F := Ideal) x g w (ix3 b t j) = gelu (W x g w b t ⟨2328 + j.val, by omega⟩) := by
  rw [← W_apply]
  unfold gelu
  pointwise [val_main_v60, val_main_v59, val_main_v58, val_main_v57, val_main_v56, val_main_v55, val_main_v54, val_main_v53, val_main_v52,
    val_main_v51, val_main_v50, val_main_v49, val_main_v48, val_main_v26, val_main_cst_8, val_main_cst_9, val_main_cst_10, val_main_cst_11]

/-- The values of token `s` of chunk `c`, group `a`. -/
def gv (b : Fin 16) (c : Fin 32) (s : Fin 128) (a : Fin 8) (e : Fin 64) : EReal :=
  gelu (W x g w b ⟨c.val * 128 + s.val, by omega⟩ ⟨2328 + (a.val * 64 + e.val), by omega⟩)

theorem gv_apply (b : Fin 16) (c : Fin 32) (s : Fin 128) (a : Fin 8) (e : Fin 64) :
    val_main_v65 (F := Ideal) x g w (ix5 b c s a e) = gv x g w b c s a e := by
  unfold gv
  pointwise [val_main_v65, gelu_v_apply]

theorem vnorm_apply (b : Fin 16) (c : Fin 32) (s : Fin 128) (a : Fin 8) (d : Fin 64) :
    val_main_v89 (F := Ideal) x g w lg lb (ix5 b c s a d)
      = vnorm (fun e => gv x g w b c s a e) (fun e => lg (ix3 0 a e)) (fun e => lb (ix3 0 a e)) d := by
  unfold vnorm mean
  pointwise [val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72,
    val_main_v71, val_main_v70, val_main_v69, val_main_v68, val_main_v67, val_main_v66, val_main_v62, val_main_v61, val_main_cst_12,
    val_main_cst_13, val_main_cst_14, val_main_cst_15, val_main_cst_16, gv_apply]

theorem mask_apply (a : Fin 8) (t s : Fin 128) :
    val_main_v92 (F := Ideal) ws (ix3 a t s) = if s.val ≤ t.val then ws (ix4 0 a t s) else 0 := by
  pointwise [val_main_v92, val_main_v91, val_main_v90, val_main_v63, val_main_c, val_main_call0_v0, val_main_call0_v1, val_main_call0_v2,
    val_main_call0_v3, val_main_call0_v4, val_main_call0_v5, val_main_call0_c, val_main_call0_c_0, val_main_call1_v0, val_main_call1_v1,
    val_main_call1_v2, val_main_cst_17]
  have h0 : IntOp.addi (BitVec.ofNat 32 t.val) 0#32 = BitVec.ofNat 32 t.val := BitVec.add_zero _
  have hs : s.val < 2 ^ (32 - 1) := by omega
  have ht : t.val < 2 ^ (32 - 1) := by omega
  have hz : (id (constant (F := Ideal) S_ FTy.f32 0#32) : FVec Ideal S_ .f32) ix0 = 0 := by
    unfold id
    pointwise
    try exact zero_word
  rw [h0, WordCmp.cmpi_sge_ofNat ht hs, hz]
  by_cases h : s.val ≤ t.val <;> simp [h, Scalar.select]

theorem mixed_apply (b : Fin 16) (c : Fin 32) (t : Fin 128) (a : Fin 8) (d : Fin 64) :
    val_main_v99 (F := Ideal) x g w lg lb ws bs (ix5 b c t a d)
      = ∑ s : Fin 128, (if s.val ≤ t.val then vnorm (fun e => gv x g w b c s a e) (fun e => lg (ix3 0 a e)) (fun e => lb (ix3 0 a e)) d
          * ws (ix4 0 a t s) else 0) + bs (ix3 0 a t) := by
  pointwise [val_main_v99, val_main_v98, val_main_v97, val_main_v96, val_main_v95, val_main_v94, val_main_v93, val_main_v64,
    Cert.ProjRefIdeal.dot_S16x32x128x8x64_S8x128x128_S8x16x32x64x128_2_2_014_1_3_0, mask_apply, vnorm_apply]
  simp only [mul_ite, mul_zero]

theorem og_apply (b : Fin 16) (t : Fin 4096) (j : Fin 512) :
    val_main_v125 (F := Ideal) x g w lg lb ws bs (ix3 b t j)
      = ogAt (W x g w b t ⟨1816 + j.val, by omega⟩) (W x g w b t ⟨2840 + j.val, by omega⟩)
          (fun s e => W x g w b ⟨t.val / 128 * 128 + s.val, by omega⟩ ⟨2328 + (j.val / 64 * 64 + e.val), by omega⟩)
          (fun e => lg (ix3 0 ⟨j.val / 64, by omega⟩ e)) (fun e => lb (ix3 0 ⟨j.val / 64, by omega⟩ e))
          (fun s => ws (ix4 0 ⟨j.val / 64, by omega⟩ ⟨t.val % 128, by omega⟩ s)) (bs (ix3 0 ⟨j.val / 64, by omega⟩ ⟨t.val % 128, by omega⟩))
          (t.val % 128) ⟨j.val % 64, by omega⟩ := by
  unfold ogAt
  rw [← W_apply x g w b t ⟨2840 + j.val, by omega⟩]
  unfold sigm
  pointwise [val_main_v125, val_main_v104, val_main_v103, val_main_call2_v0, val_main_call2_v1, val_main_call2_v2, val_main_call2_v3,
    val_main_call2_v4, val_main_call2_v5, val_main_call2_cst, val_main_call2_cst_0, val_main_v27, val_main_v102, val_main_v101,
    val_main_v100, mixed_apply, gelu_u_apply]
  rfl

end

end Cert.Proof.ProjRef

end
-- ==== Proof.ProjArray.lean ====
/- The projection call's eight result arrays: each ends holding the reference's result of the arguments as launched. -/
module

public import proofs.«01_k».proof.Proof.ProjOut
public import proofs.«01_k».proof.Proof.ProjHost
public import proofs.«01_k».proof.Proof.ProjRef

@[expose] public section

noncomputable section

namespace Cert.Proof.ProjArray

open Idealize.ShloMosaic Idealize.SL.Sem Cert.ProjIdeal Cert.ProjIdeal.Gen Idealize.ShloMosaic.TcCoe
open Cert.Proof.ProjRow Cert.Proof.ProjOut Cert.Proof.ProjHost

variable (m : (ℓ : Loc nD τ sig) → Buf (Elt Ideal) ℓ)

/-- The inputs' windows at a grid point: the tokens' window moves with the point, the others are the whole arrays. -/
theorem in_facts : ∀ t : Fin grid0.N,
    (win0_0.index t 0 = t.val / 4 ∧ win0_0.index t 1 = t.val % 4 ∧ win0_0.index t 2 = 0) ∧
    (win0_1.index t 0 = 0 ∧ win0_1.index t 1 = 0) ∧ (win0_2.index t 0 = 0 ∧ win0_2.index t 1 = 0) ∧
    (win0_3.index t 0 = 0 ∧ win0_3.index t 1 = 0) ∧ (win0_4.index t 0 = 0 ∧ win0_4.index t 1 = 0 ∧ win0_4.index t 2 = 0) ∧
    (win0_5.index t 0 = 0 ∧ win0_5.index t 1 = 0 ∧ win0_5.index t 2 = 0) ∧
    (win0_6.index t 0 = 0 ∧ win0_6.index t 1 = 0 ∧ win0_6.index t 2 = 0) ∧
    (win0_7.index t 0 = 0 ∧ win0_7.index t 1 = 0 ∧ win0_7.index t 2 = 0) := by decide +kernel

/-- The results' windows at a grid point: all move with the point's batch and tile. -/
theorem out_facts : ∀ t : Fin grid0.N,
    (win0_8.index t 0 = t.val / 4 ∧ win0_8.index t 1 = t.val % 4 ∧ win0_8.index t 2 = 0) ∧
    (win0_9.index t 0 = t.val / 4 ∧ win0_9.index t 1 = t.val % 4 ∧ win0_9.index t 2 = 0) ∧
    (win0_10.index t 0 = t.val / 4 ∧ win0_10.index t 1 = t.val % 4 ∧ win0_10.index t 2 = 0) ∧
    (win0_11.index t 0 = t.val / 4 ∧ win0_11.index t 1 = t.val % 4 ∧ win0_11.index t 2 = 0) ∧
    (win0_12.index t 0 = t.val / 4 ∧ win0_12.index t 1 = t.val % 4 ∧ win0_12.index t 2 = 0) ∧
    (win0_13.index t 0 = t.val / 4 ∧ win0_13.index t 1 = t.val % 4 ∧ win0_13.index t 2 = 0 ∧ win0_13.index t 3 = 0) ∧
    (win0_14.index t 0 = t.val / 4 ∧ win0_14.index t 1 = t.val % 4 ∧ win0_14.index t 2 = 0 ∧ win0_14.index t 3 = 0) ∧
    (win0_15.index t 0 = t.val / 4 ∧ win0_15.index t 1 = t.val % 4 ∧ win0_15.index t 2 = 0) := by decide +kernel

theorem lt64 (t : Fin cfg0.N) : t.val < 64 := lt_of_lt_of_eq t.isLt N_0

/-- The batch of a grid point. -/
def bat (t : Fin cfg0.N) : Fin 16 := ⟨t.val / 4, by have := lt64 t; omega⟩

/-- The token of row `r` of a grid point's tile. -/
def tok (t : Fin cfg0.N) (r : Fin 1024) : Fin 4096 := ⟨t.val % 4 * 1024 + r.val, by omega⟩

theorem blk0 (c : Dev nD) (t : Fin cfg0.N) (r j : Fin 1024) :
    iblk m c 0 t (ix3 0 r j : S1x1024x1024.Idx) = m ((c : Thread nD τ).loc main_arg0) (ix3 (bat t) (tok t r) j) := by
  obtain ⟨⟨h0, h1, h2⟩, -⟩ := in_facts t
  refine Eq.trans (congrArg (V m c main_arg0) (funext fun a => Fin.ext ?_)) (congrFun (V_main_arg0 m c) _)
  match a with
  | ⟨0, _⟩ => show win0_0.index t 0 * 1 + 1 * 0 = t.val / 4; omega
  | ⟨1, _⟩ => show win0_0.index t 1 * 1024 + 1 * r.val = t.val % 4 * 1024 + r.val; omega
  | ⟨2, _⟩ => show win0_0.index t 2 * 1024 + 1 * j.val = j.val; omega

theorem blk1 (c : Dev nD) (t : Fin cfg0.N) : iblk m c 1 t = gain (m ((c : Thread nD τ).loc main_arg1)) := by
  obtain ⟨-, ⟨h0, h1⟩, -⟩ := in_facts t
  refine funext fun y => Eq.trans (congrArg (V m c main_v32) (funext fun a => Fin.ext ?_)) (congrFun (V_gain m c) y)
  match a with
  | ⟨0, _⟩ => show win0_1.index t 0 * 1 + 1 * (y 0).val = (y 0).val; omega
  | ⟨1, _⟩ => show win0_1.index t 1 * 1024 + 1 * (y 1).val = (y 1).val; omega

theorem blk2 (c : Dev nD) (t : Fin cfg0.N) : iblk m c 2 t = wn (m ((c : Thread nD τ).loc main_arg2)) := by
  obtain ⟨-, -, ⟨h0, h1⟩, -⟩ := in_facts t
  refine funext fun y => Eq.trans (congrArg (V m c main_v14) (funext fun a => Fin.ext ?_)) (congrFun (V_wn m c) y)
  match a with
  | ⟨0, _⟩ => show win0_2.index t 0 * 1024 + 1 * (y 0).val = (y 0).val; omega
  | ⟨1, _⟩ => show win0_2.index t 1 * 1536 + 1 * (y 1).val = (y 1).val; omega

theorem blk3 (c : Dev nD) (t : Fin cfg0.N) : iblk m c 3 t = wt (m ((c : Thread nD τ).loc main_arg2)) := by
  obtain ⟨-, -, -, ⟨h0, h1⟩, -⟩ := in_facts t
  refine funext fun y => Eq.trans (congrArg (V m c main_v22) (funext fun a => Fin.ext ?_)) (congrFun (V_wt m c) y)
  match a with
  | ⟨0, _⟩ => show win0_3.index t 0 * 1824 + 1 * (y 0).val = (y 0).val; omega
  | ⟨1, _⟩ => show win0_3.index t 1 * 1024 + 1 * (y 1).val = (y 1).val; omega

theorem blk4 (c : Dev nD) (t : Fin cfg0.N) : iblk m c 4 t = lng (m ((c : Thread nD τ).loc main_arg3)) := by
  obtain ⟨-, -, -, -, ⟨h0, h1, h2⟩, -⟩ := in_facts t
  refine funext fun y => Eq.trans (congrArg (V m c main_v24) (funext fun a => Fin.ext ?_)) (congrFun (V_lng m c) y)
  match a with
  | ⟨0, _⟩ => show win0_4.index t 0 * 8 + 1 * (y 0).val = (y 0).val; omega
  | ⟨1, _⟩ => show win0_4.index t 1 * 64 + 1 * (y 1).val = (y 1).val; omega
  | ⟨2, _⟩ => show win0_4.index t 2 * 1 + 1 * (y 2).val = (y 2).val; omega

theorem blk5 (c : Dev nD) (t : Fin cfg0.N) : iblk m c 5 t = lng (m ((c : Thread nD τ).loc main_arg4)) := by
  obtain ⟨-, -, -, -, -, ⟨h0, h1, h2⟩, -⟩ := in_facts t
  refine funext fun y => Eq.trans (congrArg (V m c main_v26) (funext fun a => Fin.ext ?_)) (congrFun (V_lnb m c) y)
  match a with
  | ⟨0, _⟩ => show win0_5.index t 0 * 8 + 1 * (y 0).val = (y 0).val; omega
  | ⟨1, _⟩ => show win0_5.index t 1 * 64 + 1 * (y 1).val = (y 1).val; omega
  | ⟨2, _⟩ => show win0_5.index t 2 * 1 + 1 * (y 2).val = (y 2).val; omega

theorem blk6 (c : Dev nD) (t : Fin cfg0.N) : iblk m c 6 t = wsp (m ((c : Thread nD τ).loc main_arg5)) := by
  obtain ⟨-, -, -, -, -, -, ⟨h0, h1, h2⟩, -⟩ := in_facts t
  refine funext fun y => Eq.trans (congrArg (V m c main_v28) (funext fun a => Fin.ext ?_)) (congrFun (V_wsp m c) y)
  match a with
  | ⟨0, _⟩ => show win0_6.index t 0 * 8 + 1 * (y 0).val = (y 0).val; omega
  | ⟨1, _⟩ => show win0_6.index t 1 * 128 + 1 * (y 1).val = (y 1).val; omega
  | ⟨2, _⟩ => show win0_6.index t 2 * 128 + 1 * (y 2).val = (y 2).val; omega

theorem blk7 (c : Dev nD) (t : Fin cfg0.N) : iblk m c 7 t = bsp (m ((c : Thread nD τ).loc main_arg6)) := by
  obtain ⟨-, -, -, -, -, -, -, ⟨h0, h1, h2⟩⟩ := in_facts t
  refine funext fun y => Eq.trans (congrArg (V m c main_v30) (funext fun a => Fin.ext ?_)) (congrFun (V_bsp m c) y)
  match a with
  | ⟨0, _⟩ => show win0_7.index t 0 * 8 + 1 * (y 0).val = (y 0).val; omega
  | ⟨1, _⟩ => show win0_7.index t 1 * 1 + 1 * (y 1).val = (y 1).val; omega
  | ⟨2, _⟩ => show win0_7.index t 2 * 128 + 1 * (y 2).val = (y 2).val; omega

/-- A block's token-major columns are the reference's. -/
theorem rowN_eq (c : Dev nD) (t : Fin cfg0.N) (r : Fin 1024) (j : Fin 1536) :
    rowN (iblk m c 0 t) (iblk m c 1 t) (iblk m c 2 t) r j = ProjRef.W (m ((c : Thread nD τ).loc main_arg0)) (m ((c : Thread nD τ).loc main_arg1)) (m ((c : Thread nD τ).loc main_arg2)) (bat t) (tok t r) (colN j) := by
  unfold rowN ProjRef.W
  refine Finset.sum_congr rfl fun k _ => congrArg₂ (· * ·) (congrArg₂ (fun x g => hnRow x g k) (funext fun k => blk0 m c t r k) (funext fun k => ?_)) ?_
  · exact (congrFun (blk1 m c t) _).trans (gain_apply _ k)
  · exact (congrFun (blk2 m c t) _).trans (wn_apply _ k j)

/-- A block's transposed rows, by what the weights' row holds. -/
theorem rowT_eq (c : Dev nD) (t : Fin cfg0.N) (r : Fin 1024) (j : Fin 1824) :
    rowT (iblk m c 0 t) (iblk m c 1 t) (iblk m c 3 t) r j
      = ∑ k, wt (m ((c : Thread nD τ).loc main_arg2)) (ix2 j k) * hnRow (fun k => m ((c : Thread nD τ).loc main_arg0) (ix3 (bat t) (tok t r) k)) (fun k => m ((c : Thread nD τ).loc main_arg1) (ix2 0 k)) k := by
  unfold rowT
  refine Finset.sum_congr rfl fun k _ => congrArg₂ (· * ·) (congrFun (blk3 m c t) _) (congrArg₂ (fun x g => hnRow x g k) (funext fun k => blk0 m c t r k) (funext fun k => ?_))
  exact (congrFun (blk1 m c t) _).trans (gain_apply _ k)

theorem rowT_values (c : Dev nD) (t : Fin cfg0.N) (r : Fin 1024) (j : Fin 256) :
    rowT (iblk m c 0 t) (iblk m c 1 t) (iblk m c 3 t) r ⟨j.val, by omega⟩ = ProjRef.W (m ((c : Thread nD τ).loc main_arg0)) (m ((c : Thread nD τ).loc main_arg1)) (m ((c : Thread nD τ).loc main_arg2)) (bat t) (tok t r) (colV j) := by
  rw [rowT_eq]
  unfold ProjRef.W
  exact Finset.sum_congr rfl fun k _ => (congrArg (· * _) (wt_values _ k j)).trans (mul_comm _ _)

theorem rowT_mixing (c : Dev nD) (t : Fin cfg0.N) (r : Fin 1024) (j : Fin 1536) :
    rowT (iblk m c 0 t) (iblk m c 1 t) (iblk m c 3 t) r ⟨288 + j.val, by omega⟩ = ProjRef.W (m ((c : Thread nD τ).loc main_arg0)) (m ((c : Thread nD τ).loc main_arg1)) (m ((c : Thread nD τ).loc main_arg2)) (bat t) (tok t r) ⟨1816 + j.val, by omega⟩ := by
  rw [rowT_eq]
  unfold ProjRef.W
  exact Finset.sum_congr rfl fun k _ => (congrArg (· * _) (wt_mixing _ k j)).trans (mul_comm _ _)

theorem rowT_gates (c : Dev nD) (t : Fin cfg0.N) (r : Fin 1024) (u : Fin 32) :
    rowT (iblk m c 0 t) (iblk m c 1 t) (iblk m c 3 t) r ⟨256 + u.val, by omega⟩
      = if h : u.val % 16 < 12 then ProjRef.W (m ((c : Thread nD τ).loc main_arg0)) (m ((c : Thread nD τ).loc main_arg1)) (m ((c : Thread nD τ).loc main_arg2)) (bat t) (tok t r) (colG u h) else 0 := by
  rw [rowT_eq]
  unfold ProjRef.W
  simp only [wt_gates]
  split_ifs with h
  · exact Finset.sum_congr rfl fun k _ => mul_comm _ _
  · simp only [zero_mul, Finset.sum_const_zero]

/-- The padding's gate. -/
theorem sigm_zero : sigm 0 = Ideal.ofBits FTy.f32 0x3F000000#32 := by
  have h1 : Ideal.ofBits FTy.f32 0x3F800000#32 = ((1 : ℝ) : EReal) := by
    simp [Ideal.ofBits, Ideal.ieee, -EReal.coe_mul]; norm_num
  have h2 : Ideal.ofBits FTy.f32 0x3F000000#32 = ((1 / 2 : ℝ) : EReal) := by
    simp [Ideal.ofBits, Ideal.ieee, -EReal.coe_mul]; norm_num
  have h3 : Ideal.exp (-0) = ((1 : ℝ) : EReal) := by
    rw [neg_zero, ← EReal.coe_zero, Ideal.exp_coe, Real.exp_zero]
  unfold sigm
  rw [h1, h2, h3, ← EReal.coe_add, Ideal.div_coe (by norm_num), ← EReal.coe_mul]
  norm_num

theorem rowT_mixing_at (c : Dev nD) (t : Fin cfg0.N) (r : Fin 1024) (s : Fin 4096) (i : Fin 1824) (i' : Fin 3352) (hs : s = tok t r)
    (h : 288 ≤ i.val) (h' : i'.val = i.val + 1528) :
    rowT (iblk m c 0 t) (iblk m c 1 t) (iblk m c 3 t) r i = ProjRef.W (m ((c : Thread nD τ).loc main_arg0)) (m ((c : Thread nD τ).loc main_arg1)) (m ((c : Thread nD τ).loc main_arg2)) (bat t) s i' := by
  have e := rowT_mixing m c t r ⟨i.val - 288, by omega⟩
  rw [hs]
  refine (congrArg (rowT _ _ _ r) (Fin.ext ?_)).trans (e.trans (congrArg (ProjRef.W _ _ _ _ _) (Fin.ext ?_)))
  · show i.val = 288 + (i.val - 288); omega
  · show 1816 + (i.val - 288) = i'.val; omega

theorem ogAt_congr {u u' z z' : EReal} {v v' : Fin 128 → Fin 64 → EReal} {g g' b b' : Fin 64 → EReal} {w w' : Fin 128 → EReal} {c c' : EReal} {t t' : Nat}
    (d : Fin 64) (hu : u = u') (hz : z = z') (hv : ∀ s e, v s e = v' s e) (hg : ∀ e, g e = g' e) (hb : ∀ e, b e = b' e) (hw : ∀ s, w s = w' s)
    (hc : c = c') (ht : t = t') : ogAt u z v g b w c t d = ogAt u' z' v' g' b' w' c' t' d := by
  obtain rfl : v = v' := funext fun s => funext (hv s)
  obtain rfl : g = g' := funext hg
  obtain rfl : b = b' := funext hb
  obtain rfl : w = w' := funext hw
  subst hu hz hc ht
  rfl

/-- The reference's result that result 0 is shown to hold. -/
def G8 (c : Dev nD) : Vec Ideal S16x4096x512 .bf16 := Cert.ProjRefIdeal.Read.val_main_v110 (F := Ideal) (m ((c : Thread nD τ).loc main_arg0)) (m ((c : Thread nD τ).loc main_arg1)) (m ((c : Thread nD τ).loc main_arg2))

theorem flushed8_apply (c : Dev nD) (t : Fin cfg0.N) (r : Fin 1024) (j : Fin 512) :
    (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r j) = G8 m c (ix3 (bat t) (tok t r) j) := by
  unfold G8
  rw [out8_apply, ProjRef.q_apply, rowN_eq]
  refine congrArg (fun i => ProjRef.W _ _ _ _ _ i * _) (Fin.ext ?_)
  unfold colN
  dsimp only
  split_ifs <;> omega

theorem flushed8_eq (c : Dev nD) (t : Fin cfg0.N) :
    (dats m 0 c).flushed 8 t = (win0_8.blk t).view.read (Elt Ideal) (G8 m c) := by
  rw [Cert.ProjIdeal.Value.flushed8_A]
  obtain ⟨⟨h0, h1, h2⟩, -⟩ := out_facts t
  funext y
  have ey : (y : S1x1024x512.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed8_apply m c t (y 1) (y 2)).trans (congrArg (G8 m c) (funext fun a => Fin.ext ?_)))
  match a with
  | ⟨0, _⟩ => show t.val / 4 = win0_8.index t 0 * 1 + 1 * (y 0).val; have : (y 0).val < 1 := (y 0).isLt; omega
  | ⟨1, _⟩ => show t.val % 4 * 1024 + (y 1).val = win0_8.index t 1 * 1024 + 1 * (y 1).val; omega
  | ⟨2, _⟩ => show (y 2).val = win0_8.index t 2 * 512 + 1 * (y 2).val; omega

theorem cover8 (i : S16x4096x512.Idx) : ∃ t : Fin cfg0.N, (cfg0.win 8).flush t = true ∧ i ∈ ((cfg0.win 8).blk t).view.set := by
  have l0 : (i 0 : Nat) < 16 := (i 0).isLt
  have l1 : (i 1 : Nat) < 4096 := (i 1).isLt
  have l2 : (i 2 : Nat) < 512 := (i 2).isLt
  have hN : cfg0.N = 64 := N_0
  refine ⟨⟨(i 0).val * 4 + (i 1).val / 1024, by omega⟩, flush0_8 _, ?_⟩
  generalize ht : (⟨(i 0).val * 4 + (i 1).val / 1024, by omega⟩ : Fin cfg0.N) = t
  have hv : t.val = (i 0).val * 4 + (i 1).val / 1024 := by rw [← ht]
  obtain ⟨⟨h0, h1, h2⟩, -⟩ := out_facts t
  show i ∈ ((View.whole main_v33_0).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1; omega
  | ⟨1, _⟩ => show win0_8.index t 1 * 1024 ≤ (i 1 : Nat) ∧ (i 1 : Nat) < win0_8.index t 1 * 1024 + 1024; omega
  | ⟨2, _⟩ => show win0_8.index t 2 * 512 ≤ (i 2 : Nat) ∧ (i 2 : Nat) < win0_8.index t 2 * 512 + 512; omega

theorem final8 (c : Dev nD) : (dats m 0 c).arrAt 8 cfg0.N = G8 m c :=
  (dats m 0 c).arrAt_eq_of_cover 8 (G8 m c) (fun t _ => flushed8_eq m c t) cover8

/-- The reference's result that result 1 is shown to hold. -/
def G9 (c : Dev nD) : Vec Ideal S16x256x2048 .bf16 := Cert.ProjRefIdeal.Read.val_main_v112 (F := Ideal) (m ((c : Thread nD τ).loc main_arg0)) (m ((c : Thread nD τ).loc main_arg1)) (m ((c : Thread nD τ).loc main_arg2))

theorem flushed9_apply (c : Dev nD) (t : Fin cfg0.N) (r : Fin 64) (j : Fin 2048) :
    (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r j) = G9 m c (ix3 (bat t) ⟨t.val % 4 * 64 + r.val, by omega⟩ j) := by
  unfold G9
  rw [out9_apply, ProjRef.kc_apply, rowN_eq]
  refine congrArg₂ (fun s i => ProjRef.W _ _ _ _ s i) (Fin.ext ?_) (Fin.ext ?_)
  · show t.val % 4 * 1024 + (16 * r.val + j.val / 128) = (t.val % 4 * 64 + r.val) * 16 + j.val / 128
    omega
  · unfold colN
    dsimp only
    split_ifs <;> omega

theorem flushed9_eq (c : Dev nD) (t : Fin cfg0.N) :
    (dats m 0 c).flushed 9 t = (win0_9.blk t).view.read (Elt Ideal) (G9 m c) := by
  rw [Cert.ProjIdeal.Value.flushed9_A]
  obtain ⟨-, ⟨h0, h1, h2⟩, -⟩ := out_facts t
  funext y
  have ey : (y : S1x64x2048.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed9_apply m c t (y 1) (y 2)).trans (congrArg (G9 m c) (funext fun a => Fin.ext ?_)))
  match a with
  | ⟨0, _⟩ => show t.val / 4 = win0_9.index t 0 * 1 + 1 * (y 0).val; have : (y 0).val < 1 := (y 0).isLt; omega
  | ⟨1, _⟩ => show t.val % 4 * 64 + (y 1).val = win0_9.index t 1 * 64 + 1 * (y 1).val; omega
  | ⟨2, _⟩ => show (y 2).val = win0_9.index t 2 * 2048 + 1 * (y 2).val; omega

theorem cover9 (i : S16x256x2048.Idx) : ∃ t : Fin cfg0.N, (cfg0.win 9).flush t = true ∧ i ∈ ((cfg0.win 9).blk t).view.set := by
  have l0 : (i 0 : Nat) < 16 := (i 0).isLt
  have l1 : (i 1 : Nat) < 256 := (i 1).isLt
  have l2 : (i 2 : Nat) < 2048 := (i 2).isLt
  have hN : cfg0.N = 64 := N_0
  refine ⟨⟨(i 0).val * 4 + (i 1).val / 64, by omega⟩, flush0_9 _, ?_⟩
  generalize ht : (⟨(i 0).val * 4 + (i 1).val / 64, by omega⟩ : Fin cfg0.N) = t
  have hv : t.val = (i 0).val * 4 + (i 1).val / 64 := by rw [← ht]
  obtain ⟨-, ⟨h0, h1, h2⟩, -⟩ := out_facts t
  show i ∈ ((View.whole main_v33_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1; omega
  | ⟨1, _⟩ => show win0_9.index t 1 * 64 ≤ (i 1 : Nat) ∧ (i 1 : Nat) < win0_9.index t 1 * 64 + 64; omega
  | ⟨2, _⟩ => show win0_9.index t 2 * 2048 ≤ (i 2 : Nat) ∧ (i 2 : Nat) < win0_9.index t 2 * 2048 + 2048; omega

theorem final9 (c : Dev nD) : (dats m 0 c).arrAt 9 cfg0.N = G9 m c :=
  (dats m 0 c).arrAt_eq_of_cover 9 (G9 m c) (fun t _ => flushed9_eq m c t) cover9

/-- The reference's result that result 2 is shown to hold. -/
def G10 (c : Dev nD) : Vec Ideal S16x256x2048 .bf16 := Cert.ProjRefIdeal.Read.val_main_v114 (F := Ideal) (m ((c : Thread nD τ).loc main_arg0)) (m ((c : Thread nD τ).loc main_arg1)) (m ((c : Thread nD τ).loc main_arg2))

theorem flushed10_apply (c : Dev nD) (t : Fin cfg0.N) (r : Fin 64) (j : Fin 2048) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r j) = G10 m c (ix3 (bat t) ⟨t.val % 4 * 64 + r.val, by omega⟩ j) := by
  unfold G10
  rw [out10_apply, ProjRef.vc_apply, rowN_eq]
  refine congrArg₂ (fun s i => ProjRef.W _ _ _ _ s i) (Fin.ext ?_) (Fin.ext ?_)
  · show t.val % 4 * 1024 + (16 * r.val + j.val / 128) = (t.val % 4 * 64 + r.val) * 16 + j.val / 128
    omega
  · unfold colN
    dsimp only
    split_ifs <;> omega

theorem flushed10_eq (c : Dev nD) (t : Fin cfg0.N) :
    (dats m 0 c).flushed 10 t = (win0_10.blk t).view.read (Elt Ideal) (G10 m c) := by
  rw [Cert.ProjIdeal.Value.flushed10_A]
  obtain ⟨-, -, ⟨h0, h1, h2⟩, -⟩ := out_facts t
  funext y
  have ey : (y : S1x64x2048.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed10_apply m c t (y 1) (y 2)).trans (congrArg (G10 m c) (funext fun a => Fin.ext ?_)))
  match a with
  | ⟨0, _⟩ => show t.val / 4 = win0_10.index t 0 * 1 + 1 * (y 0).val; have : (y 0).val < 1 := (y 0).isLt; omega
  | ⟨1, _⟩ => show t.val % 4 * 64 + (y 1).val = win0_10.index t 1 * 64 + 1 * (y 1).val; omega
  | ⟨2, _⟩ => show (y 2).val = win0_10.index t 2 * 2048 + 1 * (y 2).val; omega

theorem cover10 (i : S16x256x2048.Idx) : ∃ t : Fin cfg0.N, (cfg0.win 10).flush t = true ∧ i ∈ ((cfg0.win 10).blk t).view.set := by
  have l0 : (i 0 : Nat) < 16 := (i 0).isLt
  have l1 : (i 1 : Nat) < 256 := (i 1).isLt
  have l2 : (i 2 : Nat) < 2048 := (i 2).isLt
  have hN : cfg0.N = 64 := N_0
  refine ⟨⟨(i 0).val * 4 + (i 1).val / 64, by omega⟩, flush0_10 _, ?_⟩
  generalize ht : (⟨(i 0).val * 4 + (i 1).val / 64, by omega⟩ : Fin cfg0.N) = t
  have hv : t.val = (i 0).val * 4 + (i 1).val / 64 := by rw [← ht]
  obtain ⟨-, -, ⟨h0, h1, h2⟩, -⟩ := out_facts t
  show i ∈ ((View.whole main_v33_2).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1; omega
  | ⟨1, _⟩ => show win0_10.index t 1 * 64 ≤ (i 1 : Nat) ∧ (i 1 : Nat) < win0_10.index t 1 * 64 + 64; omega
  | ⟨2, _⟩ => show win0_10.index t 2 * 2048 ≤ (i 2 : Nat) ∧ (i 2 : Nat) < win0_10.index t 2 * 2048 + 2048; omega

theorem final10 (c : Dev nD) : (dats m 0 c).arrAt 10 cfg0.N = G10 m c :=
  (dats m 0 c).arrAt_eq_of_cover 10 (G10 m c) (fun t _ => flushed10_eq m c t) cover10

/-- The reference's result that result 3 is shown to hold. -/
def G11 (c : Dev nD) : Vec Ideal S16x4096x256 .bf16 := Cert.ProjRefIdeal.Read.val_main_v116 (F := Ideal) (m ((c : Thread nD τ).loc main_arg0)) (m ((c : Thread nD τ).loc main_arg1)) (m ((c : Thread nD τ).loc main_arg2))

theorem flushed11_apply (c : Dev nD) (t : Fin cfg0.N) (r : Fin 1024) (j : Fin 256) :
    (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r j) = G11 m c (ix3 (bat t) (tok t r) j) := by
  unfold G11
  rw [out11_apply, ProjRef.ksw_apply, rowN_eq]
  refine congrArg (fun i => ProjRef.W _ _ _ _ _ i) (Fin.ext ?_)
  unfold colN
  dsimp only
  split_ifs <;> dsimp only <;> omega

theorem flushed11_eq (c : Dev nD) (t : Fin cfg0.N) :
    (dats m 0 c).flushed 11 t = (win0_11.blk t).view.read (Elt Ideal) (G11 m c) := by
  rw [Cert.ProjIdeal.Value.flushed11_A]
  obtain ⟨-, -, -, ⟨h0, h1, h2⟩, -⟩ := out_facts t
  funext y
  have ey : (y : S1x1024x256.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed11_apply m c t (y 1) (y 2)).trans (congrArg (G11 m c) (funext fun a => Fin.ext ?_)))
  match a with
  | ⟨0, _⟩ => show t.val / 4 = win0_11.index t 0 * 1 + 1 * (y 0).val; have : (y 0).val < 1 := (y 0).isLt; omega
  | ⟨1, _⟩ => show t.val % 4 * 1024 + (y 1).val = win0_11.index t 1 * 1024 + 1 * (y 1).val; omega
  | ⟨2, _⟩ => show (y 2).val = win0_11.index t 2 * 256 + 1 * (y 2).val; omega

theorem cover11 (i : S16x4096x256.Idx) : ∃ t : Fin cfg0.N, (cfg0.win 11).flush t = true ∧ i ∈ ((cfg0.win 11).blk t).view.set := by
  have l0 : (i 0 : Nat) < 16 := (i 0).isLt
  have l1 : (i 1 : Nat) < 4096 := (i 1).isLt
  have l2 : (i 2 : Nat) < 256 := (i 2).isLt
  have hN : cfg0.N = 64 := N_0
  refine ⟨⟨(i 0).val * 4 + (i 1).val / 1024, by omega⟩, flush0_11 _, ?_⟩
  generalize ht : (⟨(i 0).val * 4 + (i 1).val / 1024, by omega⟩ : Fin cfg0.N) = t
  have hv : t.val = (i 0).val * 4 + (i 1).val / 1024 := by rw [← ht]
  obtain ⟨-, -, -, ⟨h0, h1, h2⟩, -⟩ := out_facts t
  show i ∈ ((View.whole main_v33_3).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + 1; omega
  | ⟨1, _⟩ => show win0_11.index t 1 * 1024 ≤ (i 1 : Nat) ∧ (i 1 : Nat) < win0_11.index t 1 * 1024 + 1024; omega
  | ⟨2, _⟩ => show win0_11.index t 2 * 256 ≤ (i 2 : Nat) ∧ (i 2 : Nat) < win0_11.index t 2 * 256 + 256; omega

theorem final11 (c : Dev nD) : (dats m 0 c).arrAt 11 cfg0.N = G11 m c :=
  (dats m 0 c).arrAt_eq_of_cover 11 (G11 m c) (fun t _ => flushed11_eq m c t) cover11

/-- The reference's result that result 4 is shown to hold. -/
def G12 (c : Dev nD) : Vec Ideal S16x4096x512 .bf16 := Cert.ProjRefIdeal.Read.val_main_v118 (F := Ideal) (m ((c : Thread nD τ).loc main_arg0)) (m ((c : Thread nD τ).loc main_arg1)) (m ((c : Thread nD τ).loc main_arg2))

theorem flushed12_apply (c : Dev nD) (t : Fin cfg0.N) (r : Fin 1024) (j : Fin 512) :
    (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r j) = G12 m c (ix3 (bat t) (tok t r) j) := by
  unfold G12
  rw [out12_apply, ProjRef.zn_apply, rowN_eq]
  refine congrArg (fun i => ProjRef.W _ _ _ _ _ i * sigm (ProjRef.W _ _ _ _ _ i)) (Fin.ext ?_)
  unfold colN
  dsimp only
  split_ifs <;> omega

theorem flushed12_eq (c : Dev nD) (t : Fin cfg0.N) :
    (dats m 0 c).flushed 12 t = (win0_12.blk t).view.read (Elt Ideal) (G12 m c) := by
  rw [Cert.ProjIdeal.Value.flushed12_A]
  obtain ⟨-, -, -, -, ⟨h0, h1, h2⟩, -⟩ := out_facts t
  funext y
  have ey : (y : S1x1024x512.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed12_apply m c t (y 1) (y 2)).trans (congrArg (G12 m c) (funext fun a => Fin.ext ?_)))
  match a with
  | ⟨0, _⟩ => show t.val / 4 = win0_12.index t 0 * 1 + 1 * (y 0).val; have : (y 0).val < 1 := (y 0).isLt; omega
  | ⟨1, _⟩ => show t.val % 4 * 1024 + (y 1).val = win0_12.index t 1 * 1024 + 1 * (y 1).val; omega
  | ⟨2, _⟩ => show (y 2).val = win0_12.index t 2 * 512 + 1 * (y 2).val; omega

theorem cover12 (i : S16x4096x512.Idx) : ∃ t : Fin cfg0.N, (cfg0.win 12).flush t = true ∧ i ∈ ((cfg0.win 12).blk t).view.set := by
  have l0 : (i 0 : Nat) < 16 := (i 0).isLt
  have l1 : (i 1 : Nat) < 4096 := (i 1).isLt
  have l2 : (i 2 : Nat) < 512 := (i 2).isLt
  have hN : cfg0.N = 64 := N_0
  refine ⟨⟨(i 0).val * 4 + (i 1).val / 1024, by omega⟩, flush0_12 _, ?_⟩
  generalize ht : (⟨(i 0).val * 4 + (i 1).val / 1024, by omega⟩ : Fin cfg0.N) = t
  have hv : t.val = (i 0).val * 4 + (i 1).val / 1024 := by rw [← ht]
  obtain ⟨-, -, -, -, ⟨h0, h1, h2⟩, -⟩ := out_facts t
  show i ∈ ((View.whole main_v33_4).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + 1; omega
  | ⟨1, _⟩ => show win0_12.index t 1 * 1024 ≤ (i 1 : Nat) ∧ (i 1 : Nat) < win0_12.index t 1 * 1024 + 1024; omega
  | ⟨2, _⟩ => show win0_12.index t 2 * 512 ≤ (i 2 : Nat) ∧ (i 2 : Nat) < win0_12.index t 2 * 512 + 512; omega

theorem final12 (c : Dev nD) : (dats m 0 c).arrAt 12 cfg0.N = G12 m c :=
  (dats m 0 c).arrAt_eq_of_cover 12 (G12 m c) (fun t _ => flushed12_eq m c t) cover12

/-- The reference's result that result 5 is shown to hold. -/
def G13 (c : Dev nD) : Vec Ideal S16x32x256x128 .bf16 := Cert.ProjRefIdeal.Read.val_main_v122 (F := Ideal) (m ((c : Thread nD τ).loc main_arg0)) (m ((c : Thread nD τ).loc main_arg1)) (m ((c : Thread nD τ).loc main_arg2))

theorem flushed13_apply (c : Dev nD) (t : Fin cfg0.N) (q : Fin 8) (r : Fin 256) (j : Fin 128) :
    (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix4 0 q r j) = G13 m c (ix4 (bat t) ⟨t.val % 4 * 8 + q.val, by omega⟩ r j) := by
  unfold G13
  rw [out13_apply, ProjRef.vt_apply, rowT_values m c t _ r]
  refine congrArg₂ (fun s i => ProjRef.W _ _ _ _ s i) (Fin.ext ?_) (Fin.ext ?_)
  · show t.val % 4 * 1024 + (q.val * 128 + j.val) = (t.val % 4 * 8 + q.val) * 128 + j.val
    omega
  · unfold colV
    dsimp only
    split_ifs <;> rfl

theorem flushed13_eq (c : Dev nD) (t : Fin cfg0.N) :
    (dats m 0 c).flushed 13 t = (win0_13.blk t).view.read (Elt Ideal) (G13 m c) := by
  rw [Cert.ProjIdeal.Value.flushed13_A]
  obtain ⟨-, -, -, -, -, ⟨h0, h1, h2, h3⟩, -⟩ := out_facts t
  funext y
  have ey : (y : S1x8x256x128.Idx) = ix4 0 (y 1) (y 2) (y 3) := funext fun a => by
    match a with
    | ⟨0, _⟩ => exact Fin.ext (by have : (y 0).val < 1 := (y 0).isLt; show (y 0).val = 0; omega)
    | ⟨1, _⟩ => rfl
    | ⟨2, _⟩ => rfl
    | ⟨3, _⟩ => rfl
  refine Eq.trans (congrArg (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed13_apply m c t (y 1) (y 2) (y 3)).trans (congrArg (G13 m c) (funext fun a => Fin.ext ?_)))
  match a with
  | ⟨0, _⟩ => show t.val / 4 = win0_13.index t 0 * 1 + 1 * (y 0).val; have : (y 0).val < 1 := (y 0).isLt; omega
  | ⟨1, _⟩ => show t.val % 4 * 8 + (y 1).val = win0_13.index t 1 * 8 + 1 * (y 1).val; omega
  | ⟨2, _⟩ => show (y 2).val = win0_13.index t 2 * 256 + 1 * (y 2).val; omega
  | ⟨3, _⟩ => show (y 3).val = win0_13.index t 3 * 128 + 1 * (y 3).val; omega

theorem cover13 (i : S16x32x256x128.Idx) : ∃ t : Fin cfg0.N, (cfg0.win 13).flush t = true ∧ i ∈ ((cfg0.win 13).blk t).view.set := by
  have l0 : (i 0 : Nat) < 16 := (i 0).isLt
  have l1 : (i 1 : Nat) < 32 := (i 1).isLt
  have l2 : (i 2 : Nat) < 256 := (i 2).isLt
  have l3 : (i 3 : Nat) < 128 := (i 3).isLt
  have hN : cfg0.N = 64 := N_0
  refine ⟨⟨(i 0).val * 4 + (i 1).val / 8, by omega⟩, flush0_13 _, ?_⟩
  generalize ht : (⟨(i 0).val * 4 + (i 1).val / 8, by omega⟩ : Fin cfg0.N) = t
  have hv : t.val = (i 0).val * 4 + (i 1).val / 8 := by rw [← ht]
  obtain ⟨-, -, -, -, -, ⟨h0, h1, h2, h3⟩, -⟩ := out_facts t
  show i ∈ ((View.whole main_v33_5).slice (win0_13.rect t)).set
  rw [View.set_slice_whole, Rect.mem_set_unit]
  intro a
  match a with
  | ⟨0, _⟩ => show win0_13.index t 0 * 1 ≤ (i 0 : Nat) ∧ (i 0 : Nat) < win0_13.index t 0 * 1 + 1; omega
  | ⟨1, _⟩ => show win0_13.index t 1 * 8 ≤ (i 1 : Nat) ∧ (i 1 : Nat) < win0_13.index t 1 * 8 + 8; omega
  | ⟨2, _⟩ => show win0_13.index t 2 * 256 ≤ (i 2 : Nat) ∧ (i 2 : Nat) < win0_13.index t 2 * 256 + 256; omega
  | ⟨3, _⟩ => show win0_13.index t 3 * 128 ≤ (i 3 : Nat) ∧ (i 3 : Nat) < win0_13.index t 3 * 128 + 128; omega

theorem final13 (c : Dev nD) : (dats m 0 c).arrAt 13 cfg0.N = G13 m c :=
  (dats m 0 c).arrAt_eq_of_cover 13 (G13 m c) (fun t _ => flushed13_eq m c t) cover13

/-- The reference's result that result 6 is shown to hold. -/
def G14 (c : Dev nD) : Vec Ideal S16x32x32x128 .f32 := Cert.ProjRefIdeal.Read.val_main_v124 (F := Ideal) (m ((c : Thread nD τ).loc main_arg0)) (m ((c : Thread nD τ).loc main_arg1)) (m ((c : Thread nD τ).loc main_arg2))

theorem flushed14_apply (c : Dev nD) (t : Fin cfg0.N) (q : Fin 8) (r : Fin 32) (j : Fin 128) :
    (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix4 0 q r j) = G14 m c (ix4 (bat t) ⟨t.val % 4 * 8 + q.val, by omega⟩ r j) := by
  unfold G14
  rw [out14_apply, ProjRef.gt_apply, rowT_gates m c t _ r]
  split_ifs with h
  · refine congrArg (fun s => sigm (ProjRef.W _ _ _ _ s _)) (Fin.ext ?_)
    show t.val % 4 * 1024 + (q.val * 128 + j.val) = (t.val % 4 * 8 + q.val) * 128 + j.val
    omega
  · exact sigm_zero

theorem flushed14_eq (c : Dev nD) (t : Fin cfg0.N) :
    (dats m 0 c).flushed 14 t = (win0_14.blk t).view.read (Elt Ideal) (G14 m c) := by
  rw [Cert.ProjIdeal.Value.flushed14_A]
  obtain ⟨-, -, -, -, -, -, ⟨h0, h1, h2, h3⟩, -⟩ := out_facts t
  funext y
  have ey : (y : S1x8x32x128.Idx) = ix4 0 (y 1) (y 2) (y 3) := funext fun a => by
    match a with
    | ⟨0, _⟩ => exact Fin.ext (by have : (y 0).val < 1 := (y 0).isLt; show (y 0).val = 0; omega)
    | ⟨1, _⟩ => rfl
    | ⟨2, _⟩ => rfl
    | ⟨3, _⟩ => rfl
  refine Eq.trans (congrArg (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed14_apply m c t (y 1) (y 2) (y 3)).trans (congrArg (G14 m c) (funext fun a => Fin.ext ?_)))
  match a with
  | ⟨0, _⟩ => show t.val / 4 = win0_14.index t 0 * 1 + 1 * (y 0).val; have : (y 0).val < 1 := (y 0).isLt; omega
  | ⟨1, _⟩ => show t.val % 4 * 8 + (y 1).val = win0_14.index t 1 * 8 + 1 * (y 1).val; omega
  | ⟨2, _⟩ => show (y 2).val = win0_14.index t 2 * 32 + 1 * (y 2).val; omega
  | ⟨3, _⟩ => show (y 3).val = win0_14.index t 3 * 128 + 1 * (y 3).val; omega

theorem cover14 (i : S16x32x32x128.Idx) : ∃ t : Fin cfg0.N, (cfg0.win 14).flush t = true ∧ i ∈ ((cfg0.win 14).blk t).view.set := by
  have l0 : (i 0 : Nat) < 16 := (i 0).isLt
  have l1 : (i 1 : Nat) < 32 := (i 1).isLt
  have l2 : (i 2 : Nat) < 32 := (i 2).isLt
  have l3 : (i 3 : Nat) < 128 := (i 3).isLt
  have hN : cfg0.N = 64 := N_0
  refine ⟨⟨(i 0).val * 4 + (i 1).val / 8, by omega⟩, flush0_14 _, ?_⟩
  generalize ht : (⟨(i 0).val * 4 + (i 1).val / 8, by omega⟩ : Fin cfg0.N) = t
  have hv : t.val = (i 0).val * 4 + (i 1).val / 8 := by rw [← ht]
  obtain ⟨-, -, -, -, -, -, ⟨h0, h1, h2, h3⟩, -⟩ := out_facts t
  show i ∈ ((View.whole main_v33_6).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + 1; omega
  | ⟨1, _⟩ => show win0_14.index t 1 * 8 ≤ (i 1 : Nat) ∧ (i 1 : Nat) < win0_14.index t 1 * 8 + 8; omega
  | ⟨2, _⟩ => show win0_14.index t 2 * 32 ≤ (i 2 : Nat) ∧ (i 2 : Nat) < win0_14.index t 2 * 32 + 32; omega
  | ⟨3, _⟩ => show win0_14.index t 3 * 128 ≤ (i 3 : Nat) ∧ (i 3 : Nat) < win0_14.index t 3 * 128 + 128; omega

theorem final14 (c : Dev nD) : (dats m 0 c).arrAt 14 cfg0.N = G14 m c :=
  (dats m 0 c).arrAt_eq_of_cover 14 (G14 m c) (fun t _ => flushed14_eq m c t) cover14

/-- The reference's result that result 7 is shown to hold. -/
def G15 (c : Dev nD) : Vec Ideal S16x4096x512 .bf16 := Cert.ProjRefIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem flushed15_apply (c : Dev nD) (t : Fin cfg0.N) (r : Fin 1024) (j : Fin 512) :
    (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r j) = G15 m c (ix3 (bat t) (tok t r) j) := by
  unfold G15
  have ej : j = ⟨(⟨j.val / 64, by omega⟩ : Fin 8).val * 64 + (⟨j.val % 64, by omega⟩ : Fin 64).val, by dsimp only; omega⟩ := Fin.ext (by dsimp only; omega)
  have et : r.val % 128 = (tok t r).val % 128 := by show r.val % 128 = (t.val % 4 * 1024 + r.val) % 128; omega
  have eq : ∀ h : r.val % 128 < 128, (⟨r.val % 128, h⟩ : Fin 128) = ⟨(tok t r).val % 128, by omega⟩ := fun h => Fin.ext et
  refine (congrArg (fun i => (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) (ix3 0 r i)) ej).trans ((out15_apply _ _ _ _ _ _ _ _ _ _ _ _ _ _ _ _ _ _ _ _ _ _ _ _ _ _ _ _ _ _ _ _ _ _ _ _ _ _ _ _ _ _ _ _ _ _ _ _).trans
    (Eq.trans ?_ (ProjRef.og_apply _ _ _ _ _ _ _ (bat t) (tok t r) j).symm))
  refine ogAt_congr _ ?_ ?_ (fun s e => ?_) (fun e => ?_) (fun e => ?_) (fun s => ?_) ?_ et
  · refine rowT_mixing_at m c t r _ _ _ rfl ?_ ?_ <;> dsimp only <;> omega
  · refine rowT_mixing_at m c t r _ _ _ rfl ?_ ?_ <;> dsimp only <;> omega
  · refine rowT_mixing_at m c t _ _ _ _ (Fin.ext ?_) ?_ ?_ <;> dsimp only [tok] <;> omega
  · exact (congrFun (blk4 m c t) _).trans (lng_apply _ _ e)
  · exact (congrFun (blk5 m c t) _).trans (lng_apply _ _ e)
  · exact (congrFun (blk6 m c t) _).trans ((wsp_apply _ _ s _).trans (congrArg (fun q => m ((c : Thread nD τ).loc main_arg5) (ix4 0 _ q s)) (eq _)))
  · exact (congrFun (blk7 m c t) _).trans ((bsp_apply _ _ _).trans (congrArg (fun q => m ((c : Thread nD τ).loc main_arg6) (ix3 0 _ q)) (eq _)))

theorem flushed15_eq (c : Dev nD) (t : Fin cfg0.N) :
    (dats m 0 c).flushed 15 t = (win0_15.blk t).view.read (Elt Ideal) (G15 m c) := by
  rw [Cert.ProjIdeal.Value.flushed15_A]
  obtain ⟨-, -, -, -, -, -, -, ⟨h0, h1, h2⟩⟩ := out_facts t
  funext y
  have ey : (y : S1x1024x512.Idx) = ix3 0 (y 1) (y 2) := funext fun a => by
    match a with
    | ⟨0, _⟩ => exact Fin.ext (by have : (y 0).val < 1 := (y 0).isLt; show (y 0).val = 0; omega)
    | ⟨1, _⟩ => rfl
    | ⟨2, _⟩ => rfl
  refine Eq.trans (congrArg (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t)) ey)
    ((flushed15_apply m c t (y 1) (y 2)).trans (congrArg (G15 m c) (funext fun a => Fin.ext ?_)))
  match a with
  | ⟨0, _⟩ => show t.val / 4 = win0_15.index t 0 * 1 + 1 * (y 0).val; have : (y 0).val < 1 := (y 0).isLt; omega
  | ⟨1, _⟩ => show t.val % 4 * 1024 + (y 1).val = win0_15.index t 1 * 1024 + 1 * (y 1).val; omega
  | ⟨2, _⟩ => show (y 2).val = win0_15.index t 2 * 512 + 1 * (y 2).val; omega

theorem cover15 (i : S16x4096x512.Idx) : ∃ t : Fin cfg0.N, (cfg0.win 15).flush t = true ∧ i ∈ ((cfg0.win 15).blk t).view.set := by
  have l0 : (i 0 : Nat) < 16 := (i 0).isLt
  have l1 : (i 1 : Nat) < 4096 := (i 1).isLt
  have l2 : (i 2 : Nat) < 512 := (i 2).isLt
  have hN : cfg0.N = 64 := N_0
  refine ⟨⟨(i 0).val * 4 + (i 1).val / 1024, by omega⟩, flush0_15 _, ?_⟩
  generalize ht : (⟨(i 0).val * 4 + (i 1).val / 1024, by omega⟩ : Fin cfg0.N) = t
  have hv : t.val = (i 0).val * 4 + (i 1).val / 1024 := by rw [← ht]
  obtain ⟨-, -, -, -, -, -, -, ⟨h0, h1, h2⟩⟩ := out_facts t
  show i ∈ ((View.whole main_v33_7).slice (win0_15.rect t)).set
  rw [View.set_slice_whole, Rect.mem_set_unit]
  intro a
  match a with
  | ⟨0, _⟩ => show win0_15.index t 0 * 1 ≤ (i 0 : Nat) ∧ (i 0 : Nat) < win0_15.index t 0 * 1 + 1; omega
  | ⟨1, _⟩ => show win0_15.index t 1 * 1024 ≤ (i 1 : Nat) ∧ (i 1 : Nat) < win0_15.index t 1 * 1024 + 1024; omega
  | ⟨2, _⟩ => show win0_15.index t 2 * 512 ≤ (i 2 : Nat) ∧ (i 2 : Nat) < win0_15.index t 2 * 512 + 512; omega

theorem final15 (c : Dev nD) : (dats m 0 c).arrAt 15 cfg0.N = G15 m c :=
  (dats m 0 c).arrAt_eq_of_cover 15 (G15 m c) (fun t _ => flushed15_eq m c t) cover15

end Cert.Proof.ProjArray

end
-- ==== Proof.ProjClaims.lean ====
/- The claims about the projection call: its frames, and its eight values against the reference over the extended reals. -/
module

public import proofs.«01_k».proof.Defs
public import proofs.«01_k».proof.Proof.ProjArray
public import proofs.«01_k».proof.Proof.Gen.Proj.Frame
public import proofs.«01_k».proof.Proof.Gen.ProjRefIdeal.Run
public import Idealize.ShloMosaic.Lib.Quiescent

@[expose] public section

noncomputable section

namespace Cert.Proof.ProjClaims

open Idealize.ShloMosaic Idealize.ShloMosaic.TcCoe Idealize.SL.Sem Cert.Proof.ProjArray

theorem frame : Cert.quiescent_Proj := fun m ρ _ => Cert.Proj.Gen.frame m ρ
theorem frame_ideal : Cert.quiescent_ProjIdeal := fun m ρ _ => Cert.ProjIdeal.Gen.frame m ρ

/-- The reference runs on the host and declares no semaphore. -/
theorem frame_ref : Cert.quiescent_ProjRefIdeal := fun m ρ _ =>
  (θ_run Cert.ProjRefIdeal.defs _ _).mono (fun r h => ⟨fun c => (h c).2.2.2.2.2.2.2.2,
      Idealize.ShloMosaic.sem_eq_zero_of_no_sems (by decide) r.2⟩)
    (Cert.ProjRefIdeal.Value.run (F := Ideal) m ρ)

theorem preserves : Cert.preserves_Proj_ProjIdeal := trivial

/-- Both runs end with the reference's last stages of arguments that agree. -/
theorem algebraic : Cert.algebraic_ProjIdeal_ProjRefIdeal := by
  intro m ρ m' ρ' _ hagree
  refine ⟨fun c => G8 m c, fun c => G9 m c, fun c => G10 m c, fun c => G11 m c, fun c => G12 m c, fun c => G13 m c, fun c => G14 m c, fun c => G15 m c, ?_, ?_⟩
  · refine (θ_run Cert.ProjIdeal.defs _ _).mono (fun _ h c => ?_) (Cert.ProjIdeal.Value.run_blocks (F := Ideal) m ρ)
    obtain ⟨h0, h1, h2, h3, h4, h5, h6, h7, hr⟩ := h c
    exact ⟨h0.trans (final8 m c), h1.trans (final9 m c), h2.trans (final10 m c), h3.trans (final11 m c), h4.trans (final12 m c),
      h5.trans (final13 m c), h6.trans (final14 m c), h7.trans (final15 m c), hr⟩
  · refine (θ_run Cert.ProjRefIdeal.defs _ _).mono (fun _ h c => ?_) (Cert.ProjRefIdeal.Value.run (F := Ideal) m' ρ')
    obtain ⟨h0, h1, h2, h3, h4, h5, h6, h7, hr⟩ := h c
    obtain ⟨e0, e1, e2, e3, e4, e5, e6⟩ := hagree c
    refine ⟨h0.trans ?_, h1.trans ?_, h2.trans ?_, h3.trans ?_, h4.trans ?_, h5.trans ?_, h6.trans ?_, h7.trans ?_, hr⟩
    · rw [Cert.ProjRefIdeal.Read.val_main_v110_eq]; unfold G8; rw [e0, e1, e2]
    · rw [Cert.ProjRefIdeal.Read.val_main_v112_eq]; unfold G9; rw [e0, e1, e2]
    · rw [Cert.ProjRefIdeal.Read.val_main_v114_eq]; unfold G10; rw [e0, e1, e2]
    · rw [Cert.ProjRefIdeal.Read.val_main_v116_eq]; unfold G11; rw [e0, e1, e2]
    · rw [Cert.ProjRefIdeal.Read.val_main_v118_eq]; unfold G12; rw [e0, e1, e2]
    · rw [Cert.ProjRefIdeal.Read.val_main_v122_eq]; unfold G13; rw [e0, e1, e2]
    · rw [Cert.ProjRefIdeal.Read.val_main_v124_eq]; unfold G14; rw [e0, e1, e2]
    · rw [Cert.ProjRefIdeal.Read.val_main_v125_eq]; unfold G15; rw [e0, e1, e2, e3, e4, e5, e6]

end Cert.Proof.ProjClaims

end
-- ==== Proof.CompRef.lean ====
/- The compression call's reference at an index, over the extended reals. -/
module

public import proofs.«01_k».proof.Proof.ProjRow
public import proofs.«01_k».proof.Proof.Gen.CompressRefIdeal.Read
public import Idealize.ShloMosaic.Lib.TwoAxisContraction
public import Idealize.ShloMosaic.Lib.KernelVsHost

@[expose] public section

noncomputable section

namespace Cert.Proof.CompRef

open Idealize.ShloMosaic Idealize.SL.Sem Idealize.ShloMosaic.TcCoe Cert.Proof.ProjRow
open Cert.CompressRefIdeal Cert.CompressRefIdeal.Facts₀ Cert.CompressRefIdeal.Read

/-- The hidden value of block `n`, group `g` and hidden unit `k`, before the gelu: over the window's 32 tokens and the
    64 features, the token's feature with its position's row added, times the weight. -/
def hid (src : Fin 256 → Fin 2048 → EReal) (pe : Fin 32 → Fin 64 → EReal) (w1 : Fin 2048 → Fin 128 → EReal)
    (n : Fin 255) (g : Fin 2) (k : Fin 128) : EReal :=
  ∑ l : Fin 32, ∑ d : Fin 64,
    (src ⟨n.val + l.val / 16, by omega⟩ ⟨l.val % 16 * 128 + g.val * 64 + d.val, by omega⟩ + pe l d)
      * w1 ⟨l.val * 64 + d.val, by omega⟩ k

/-- The compressed value of block `n`, group `g` and feature `e`. -/
def comp (src : Fin 256 → Fin 2048 → EReal) (pe : Fin 32 → Fin 64 → EReal) (w1 : Fin 2048 → Fin 128 → EReal)
    (w2 : Fin 128 → Fin 64 → EReal) (n : Fin 255) (g : Fin 2) (e : Fin 64) : EReal :=
  ∑ k : Fin 128, gelu (hid src pe w1 n g k) * w2 k e

section
variable (x0 x1 : (⟨S16x256x2048, .bf16⟩ : BufTy).Contents (Elt Ideal)) (w1 : (⟨S1x2048x128, .f32⟩ : BufTy).Contents (Elt Ideal))
  (w2 : (⟨S1x128x64, .f32⟩ : BufTy).Contents (Elt Ideal)) (pe : (⟨S1x32x64, .f32⟩ : BufTy).Contents (Elt Ideal))

/-- The gather down the token axis: token `16 n + l`, when the start index says so. -/
theorem gather_apply {α : Type} (x : S16x4096x2x64.Idx → α) (idx : IVec S255x32x1 32) (b : Fin 16) (n : Fin 255) (l : Fin 32)
    (g : Fin 2) (d : Fin 64) (t : Fin 4096) (ht : idx (ix3 n l 0) = BitVec.ofNat 32 t.val) :
    Host.gather gather_S16x4096x2x64_S255x32x1_S16x255x32x2x64_034_1_n_n_1_2_161264 x idx (ix5 b n l g d)
      = x (ix4 b t g d) := by
  unfold Host.gather
  refine congrArg x (funext fun a => Fin.ext ?_)
  match a with
  | ⟨0, _⟩ =>
    show GatherDims.start _ (ix5 b n l g d) idx 0 + GatherDims.batchCoord _ (ix5 b n l g d) 0 + GatherDims.offCoord _ (ix5 b n l g d) 0 = b.val
    unfold GatherDims.start
    rw [dif_neg (by simp [gather_S16x4096x2x64_S255x32x1_S16x255x32x2x64_034_1_n_n_1_2_161264]), GatherDims.batchCoord_eq_zero _ _ _ List.not_mem_nil]
    unfold GatherDims.offCoord
    rw [dif_pos ((GatherDims.mem_sKept _ _).mpr ⟨by simp [gather_S16x4096x2x64_S255x32x1_S16x255x32x2x64_034_1_n_n_1_2_161264], List.not_mem_nil⟩)]
    exact (Nat.zero_add _).trans rfl
  | ⟨1, _⟩ =>
    show GatherDims.start _ (ix5 b n l g d) idx 1 + GatherDims.batchCoord _ (ix5 b n l g d) 1 + GatherDims.offCoord _ (ix5 b n l g d) 1 = t.val
    unfold GatherDims.start
    rw [dif_pos (by simp [gather_S16x4096x2x64_S255x32x1_S16x255x32x2x64_034_1_n_n_1_2_161264])]
    have hsi : (gather_S16x4096x2x64_S255x32x1_S16x255x32x2x64_034_1_n_n_1_2_161264).siIdx (ix5 b n l g d) ⟨0, by simp [gather_S16x4096x2x64_S255x32x1_S16x255x32x2x64_034_1_n_n_1_2_161264]⟩ = ix3 n l 0 := by
      funext c
      refine Fin.ext ?_
      match c with
      | ⟨0, _⟩ => rfl
      | ⟨1, _⟩ => rfl
      | ⟨2, _⟩ => rfl
    refine (congrArg (fun z => min (idx z).toInt.toNat 4095 + 0 + 0) hsi).trans ?_
    have h := t.isLt
    show min (idx (ix3 n l 0)).toInt.toNat 4095 + 0 + 0 = t.val
    have e : (BitVec.ofNat 32 t.val).toInt = (t.val : Int) := by
      rw [BitVec.toInt_eq_toNat_of_lt (by rw [BitVec.toNat_ofNat]; omega), BitVec.toNat_ofNat, Nat.mod_eq_of_lt (by omega)]
    rw [ht, e, Int.toNat_natCast]
    omega
  | ⟨2, _⟩ =>
    show GatherDims.start _ (ix5 b n l g d) idx 2 + GatherDims.batchCoord _ (ix5 b n l g d) 2 + GatherDims.offCoord _ (ix5 b n l g d) 2 = g.val
    unfold GatherDims.start
    rw [dif_neg (by simp [gather_S16x4096x2x64_S255x32x1_S16x255x32x2x64_034_1_n_n_1_2_161264]), GatherDims.batchCoord_eq_zero _ _ _ List.not_mem_nil]
    unfold GatherDims.offCoord
    rw [dif_pos ((GatherDims.mem_sKept _ _).mpr ⟨by simp [gather_S16x4096x2x64_S255x32x1_S16x255x32x2x64_034_1_n_n_1_2_161264], List.not_mem_nil⟩)]
    exact (Nat.zero_add _).trans rfl
  | ⟨3, _⟩ =>
    show GatherDims.start _ (ix5 b n l g d) idx 3 + GatherDims.batchCoord _ (ix5 b n l g d) 3 + GatherDims.offCoord _ (ix5 b n l g d) 3 = d.val
    unfold GatherDims.start
    rw [dif_neg (by simp [gather_S16x4096x2x64_S255x32x1_S16x255x32x2x64_034_1_n_n_1_2_161264]), GatherDims.batchCoord_eq_zero _ _ _ List.not_mem_nil]
    unfold GatherDims.offCoord
    rw [dif_pos ((GatherDims.mem_sKept _ _).mpr ⟨by simp [gather_S16x4096x2x64_S255x32x1_S16x255x32x2x64_034_1_n_n_1_2_161264], List.not_mem_nil⟩)]
    exact (Nat.zero_add _).trans rfl

theorem idx_apply (n : Fin 255) (l : Fin 32) :
    val_main_v21 (F := Ideal) (ix3 n l 0) = BitVec.ofNat 32 (n.val * 16 + l.val) := by
  have e15 : val_main_v15 (F := Ideal) (ix2 n l) = BitVec.ofNat 32 (n.val * 16 + l.val) := by
    pointwise [val_main_v15, val_main_v14, val_main_v13, val_main_v12, val_main_v11, val_main_v10, val_main_v9, val_main_v8,
      val_main_v7, val_main_c]
    have hn := n.isLt
    have hl := l.isLt
    apply BitVec.eq_of_toNat_eq
    simp only [IntOp.addi, IntOp.muli, BitVec.toNat_add, BitVec.toNat_mul, BitVec.toNat_ofNat]
    omega
  have e21 : val_main_v21 (F := Ideal) (ix3 n l 0) = val_main_v15 (F := Ideal) (ix2 n l) := by
    pointwise [val_main_v21, val_main_v20, val_main_v19, val_main_v18, val_main_v17, val_main_v16]
    rw [e15, show val_main_c_0 (F := Ideal) ix0 = BitVec.ofNat 32 0 from rfl]
    have hn := n.isLt
    have hl := l.isLt
    rw [WordCmp.cmpi_slt_ofNat (by omega) (by omega)]
    simp [Scalar.select]
  rw [e21, e15]

theorem v1_apply (b : Fin 16) (t : Fin 4096) (g : Fin 2) (d : Fin 64) :
    val_main_v1 (F := Ideal) x0 (ix4 b t g d) = x0 (ix3 b ⟨t.val / 16, by omega⟩ ⟨t.val % 16 * 128 + g.val * 64 + d.val, by omega⟩) := by
  pointwise [val_main_v1, val_main_v0]
theorem v25_apply (b : Fin 16) (n : Fin 255) (l : Fin 32) (g : Fin 2) (d : Fin 64)  :
    val_main_v25 (F := Ideal) pe (ix5 b n l g d) = pe (ix3 0 l d) := by
  pointwise [val_main_v25, val_main_v24, val_main_v23, val_main_v6]
theorem v27_apply (l : Fin 32) (d : Fin 64) (k : Fin 128) :
    val_main_v27 (F := Ideal) w1 (ix3 l d k) = w1 (ix3 0 ⟨l.val * 64 + d.val, by omega⟩ k) := by
  pointwise [val_main_v27, val_main_v4]
theorem v22_apply (b : Fin 16) (n : Fin 255) (l : Fin 32) (g : Fin 2) (d : Fin 64) :
    val_main_v22 (F := Ideal) x0 (ix5 b n l g d)
      = x0 (ix3 b ⟨n.val + l.val / 16, by omega⟩ ⟨l.val % 16 * 128 + g.val * 64 + d.val, by omega⟩) := by
  unfold val_main_v22
  rw [gather_apply _ _ b n l g d ⟨n.val * 16 + l.val, by omega⟩ (idx_apply n l), v1_apply]
  exact congrArg x0 (congrArg₂ (ix3 b) (Fin.ext (by dsimp only; omega)) (Fin.ext (by dsimp only; omega)))

theorem v28_apply (b : Fin 16) (n : Fin 255) (g : Fin 2) (k : Fin 128) :
    val_main_v28 (F := Ideal) x0 w1 pe (ix4 b n g k)
      = hid (fun r c => x0 (ix3 b r c)) (fun l d => pe (ix3 0 l d)) (fun r k => w1 (ix3 0 r k)) n g k := by
  unfold hid
  rw [Finset.sum_comm]
  pointwise [val_main_v28, dot_S16x255x32x2x64_S32x64x128_S16x255x2x128_42_10_013_2_n_n, val_main_v26, v22_apply, v25_apply, v27_apply]

theorem v42_apply (b : Fin 16) (n : Fin 255) (g : Fin 2) (e : Fin 64) :
    val_main_v42 (F := Ideal) x0 w1 w2 pe (ix4 b n g e)
      = ∑ k : Fin 128, gelu (val_main_v28 (F := Ideal) x0 w1 pe (ix4 b n g k)) * w2 (ix3 0 k e) := by
  unfold gelu
  pointwise [val_main_v42, dot_S16x255x2x128_S128x64_S16x255x2x64_3_0_012_1_n_n, val_main_v41, val_main_v40, val_main_v39, val_main_v38, val_main_v37, val_main_v36, val_main_v35, val_main_v34, val_main_v33, val_main_v32, val_main_v31, val_main_v30, val_main_v29, val_main_v5, val_main_cst, val_main_cst_2, val_main_cst_3, val_main_cst_4]
/-- The two paths are the same program. -/
theorem v81_eq : val_main_v81 (F := Ideal) x1 w1 w2 pe = val_main_v42 (F := Ideal) x1 w1 w2 pe := by
  rfl

/-- The first result's reference at an index inside. -/
theorem res1_apply (b : Fin 16) (n : Fin 255) (j : Fin 128) :
    val_main_v84 (F := Ideal) x0 w1 w2 pe (ix3 b ⟨n.val, by omega⟩ j)
      = comp (fun r c => x0 (ix3 b r c)) (fun l d => pe (ix3 0 l d)) (fun r k => w1 (ix3 0 r k)) (fun k e => w2 (ix3 0 k e))
          n ⟨j.val / 64, by omega⟩ ⟨j.val % 64, by omega⟩ := by
  have e : val_main_v83 (F := Ideal) x0 w1 w2 pe (ix3 b n j)
      = val_main_v42 (F := Ideal) x0 w1 w2 pe (ix4 b n ⟨j.val / 64, by omega⟩ ⟨j.val % 64, by omega⟩) := by
    pointwise [val_main_v83, val_main_v82]
  unfold val_main_v84
  refine (pad_apply_of_inside _ _ _ _ _ _ _ _ (ix3 b n j) (fun a => ?_)).trans (e.trans ?_)
  · match a with
    | ⟨0, _⟩ => show b.val = 0 + b.val * 1; omega
    | ⟨1, _⟩ => show n.val = 0 + n.val * 1; omega
    | ⟨2, _⟩ => show j.val = 0 + j.val * 1; omega
  · rw [v42_apply]
    unfold comp
    simp only [v28_apply]

/-- The second result's reference at an index inside. -/
theorem res2_apply (b : Fin 16) (n : Fin 255) (j : Fin 128) :
    val_main_v88 (F := Ideal) x1 w1 w2 pe (ix3 b j ⟨n.val, by omega⟩)
      = comp (fun r c => x1 (ix3 b r c)) (fun l d => pe (ix3 0 l d)) (fun r k => w1 (ix3 0 r k)) (fun k e => w2 (ix3 0 k e))
          n ⟨j.val / 64, by omega⟩ ⟨j.val % 64, by omega⟩ := by
  have e : val_main_v86 (F := Ideal) x1 w1 w2 pe (ix3 b n j)
      = val_main_v81 (F := Ideal) x1 w1 w2 pe (ix4 b n ⟨j.val / 64, by omega⟩ ⟨j.val % 64, by omega⟩) := by
    pointwise [val_main_v86, val_main_v85]
  have e' : val_main_v88 (F := Ideal) x1 w1 w2 pe (ix3 b j ⟨n.val, by omega⟩)
      = val_main_v87 (F := Ideal) x1 w1 w2 pe (ix3 b ⟨n.val, by omega⟩ j) := by
    pointwise [val_main_v88]
  refine e'.trans ?_
  unfold val_main_v87
  refine (pad_apply_of_inside _ _ _ _ _ _ _ _ (ix3 b n j) (fun a => ?_)).trans (e.trans ?_)
  · match a with
    | ⟨0, _⟩ => show b.val = 0 + b.val * 1; omega
    | ⟨1, _⟩ => show n.val = 0 + n.val * 1; omega
    | ⟨2, _⟩ => show j.val = 0 + j.val * 1; omega
  · rw [v81_eq, v42_apply]
    unfold comp
    simp only [v28_apply]
end

end Cert.Proof.CompRef
-- ==== Proof.CompBlock.lean ====
/- The compression call's kernel at an index of its blocks, and the regrouping of its block-diagonal sums. -/
module

public import proofs.«01_k».proof.Proof.CompRef
public import proofs.«01_k».proof.Proof.Gen.CompressIdeal.Value

@[expose] public section

noncomputable section

namespace Cert.Proof.CompBlock

open Idealize.ShloMosaic Idealize.SL.Sem Idealize.ShloMosaic.TcCoe Cert.Proof.ProjRow Cert.Proof.CompRef
open Cert.CompressIdeal Cert.CompressIdeal.Gen

/-- The hidden value the kernel makes at a row below the last. -/
def kh (x : FVec Ideal S1x256x2048 .bf16) (p q : FVec Ideal S1x2048 .f32) (u v : FVec Ideal S2048x256 .bf16) (n : Fin 255) (j : Fin 256) : EReal :=
  (∑ k : Fin 2048, (x (ix3 0 ⟨n.val, by omega⟩ k) + p (ix2 0 k)) * u (ix2 k j))
    + ∑ k : Fin 2048, (x (ix3 0 ⟨(n.val + 256 - 255) % 256, by omega⟩ k) + q (ix2 0 k)) * v (ix2 k j)

theorem pay4_apply (x : FVec Ideal S1x256x2048 .bf16) (p q : FVec Ideal S1x2048 .f32) (u v : FVec Ideal S2048x256 .bf16) (n : Fin 255) (j : Fin 256) :
    k0_pay4 (F := Ideal) x p q u v (ix2 ⟨n.val, by omega⟩ j) = gelu (kh x p q u v n j) := by
  unfold gelu kh
  pointwise [k0_pay4, dot_S256x2048_S2048x256_S256x256_1_0_0_1_n_n]

theorem pay2_apply (x : FVec Ideal S1x256x2048 .bf16) (p q : FVec Ideal S1x2048 .f32) (u v : FVec Ideal S2048x256 .bf16) (w : FVec Ideal S256x128 .bf16) (n : Fin 255) (j : Fin 128) :
    k0_pay2 (F := Ideal) x p q u v w (ix2 ⟨n.val, by omega⟩ j) = ∑ k : Fin 256, gelu (kh x p q u v n k) * w (ix2 k j) := by
  unfold gelu kh
  pointwise [k0_pay2, dot_S256x2048_S2048x256_S256x256_1_0_0_1_n_n, dot_S256x256_S256x128_S256x128_1_0_0_1_n_n]

theorem pay3_apply (v : FVec Ideal S256x128 .f32) (n : Fin 256) (j : Fin 128) :
    k0_pay3 (F := Ideal) v (ix3 0 n j) = v (ix2 n j) := by
  pointwise [k0_pay3]

theorem pay1_apply (v : FVec Ideal S256x256 .f32) (w : FVec Ideal S128x256 .bf16) (n : Fin 256) (j : Fin 128) :
    k0_pay1 (F := Ideal) v w (ix3 0 j n) = ∑ k : Fin 256, w (ix2 j k) * v (ix2 n k) := by
  pointwise [k0_pay1, dot_S128x256_S256x256_S128x256_1_1_0_0_n_n]

section
variable {M : Type} [AddCommMonoid M]

theorem sum_split {a b c : Nat} (hc : a * b = c) (f : Fin c → M) :
    ∑ i, f i = ∑ x : Fin a, ∑ y : Fin b, f ⟨x.val * b + y.val, by
      have := x.isLt; have := y.isLt; subst hc
      calc x.val * b + y.val < x.val * b + b := by omega
        _ = (x.val + 1) * b := by ring
        _ ≤ a * b := Nat.mul_le_mul_right b (by omega)⟩ := by
  subst hc
  rw [← Equiv.sum_comp finProdFinEquiv f, Fintype.sum_prod_type]
  refine Finset.sum_congr rfl fun x _ => Finset.sum_congr rfl fun y _ => congrArg f (Fin.ext ?_)
  show y.val + b * x.val = x.val * b + y.val
  ring

end

/-- The sum over a half window's laid-out columns is the sum over its group's. -/
theorem half_sum (a : Fin 2048 → EReal) (w : Fin 2048 → EReal) (e : Fin 2 → EReal) (g : Fin 2)
    (he : ∀ i, e i = if i = g then 1 else 0) :
    ∑ m : Fin 2048, a m * (w m * e ⟨m.val / 64 % 2, by omega⟩)
      = ∑ l : Fin 16, ∑ d : Fin 64, a ⟨l.val * 128 + g.val * 64 + d.val, by omega⟩ * w ⟨l.val * 128 + g.val * 64 + d.val, by omega⟩ := by
  rw [sum_split (a := 16) (b := 128) rfl]
  refine Finset.sum_congr rfl fun l _ => ?_
  rw [sum_split (a := 2) (b := 64) rfl, Finset.sum_eq_single g]
  · refine Finset.sum_congr rfl fun d _ => ?_
    have h : (⟨(l.val * 128 + (g.val * 64 + d.val)) / 64 % 2, by omega⟩ : Fin 2) = g := Fin.ext (by dsimp only; omega)
    have h' : (⟨l.val * 128 + (g.val * 64 + d.val), by omega⟩ : Fin 2048) = ⟨l.val * 128 + g.val * 64 + d.val, by omega⟩ := Fin.ext (by dsimp only; omega)
    dsimp only
    rw [h, he, if_pos rfl, mul_one, h']
  · intro i _ hi
    refine Finset.sum_eq_zero fun d _ => ?_
    have h : (⟨(l.val * 128 + (i.val * 64 + d.val)) / 64 % 2, by omega⟩ : Fin 2) = i := Fin.ext (by dsimp only; omega)
    dsimp only
    rw [h, he, if_neg hi, mul_zero, mul_zero]
  · intro h; exact absurd (Finset.mem_univ g) h

/-- The sum over both groups' hidden units is the sum over the group's own. -/
theorem group_sum (a : Fin 256 → EReal) (w : Fin 128 → EReal) (g : Fin 2) :
    ∑ k : Fin 256, a k * (if k.val / 128 = g.val then w ⟨k.val % 128, by omega⟩ else 0)
      = ∑ k : Fin 128, a ⟨g.val * 128 + k.val, by omega⟩ * w k := by
  rw [sum_split (a := 2) (b := 128) rfl, Finset.sum_eq_single g]
  · refine Finset.sum_congr rfl fun d _ => ?_
    dsimp only
    rw [if_pos (by omega)]
    exact congrArg (_ * ·) (congrArg w (Fin.ext (by dsimp only; omega)))
  · intro i _ hi
    have hi' : i.val ≠ g.val := fun h => hi (Fin.ext h)
    refine Finset.sum_eq_zero fun d _ => ?_
    dsimp only
    rw [if_neg (by omega), mul_zero]
  · intro h; exact absurd (Finset.mem_univ g) h

/-- The kernel's hidden value of a group's unit, of the operands as the host lays them out, is the reference's. -/
theorem kh_eq (x : FVec Ideal S1x256x2048 .bf16) (p q : FVec Ideal S1x2048 .f32) (u v : FVec Ideal S2048x256 .bf16)
    (src : Fin 256 → Fin 2048 → EReal) (pe : Fin 32 → Fin 64 → EReal) (w : Fin 2048 → Fin 128 → EReal) (e : Fin 2 → Fin 2 → EReal)
    (he : ∀ i g, e i g = if i = g then 1 else 0)
    (hx : ∀ r c, x (ix3 0 r c) = src r c)
    (hp : ∀ m : Fin 2048, p (ix2 0 m) = pe ⟨m.val / 128, by omega⟩ ⟨m.val % 64, by omega⟩)
    (hq : ∀ m : Fin 2048, q (ix2 0 m) = pe ⟨16 + m.val / 128, by omega⟩ ⟨m.val % 64, by omega⟩)
    (hu : ∀ (m : Fin 2048) (j : Fin 256), u (ix2 m j) = w ⟨m.val / 128 * 64 + m.val % 64, by omega⟩ ⟨j.val % 128, by omega⟩
      * e ⟨m.val / 64 % 2, by omega⟩ ⟨j.val / 128 % 2, by omega⟩)
    (hv : ∀ (m : Fin 2048) (j : Fin 256), v (ix2 m j) = w ⟨(16 + m.val / 128) * 64 + m.val % 64, by omega⟩ ⟨j.val % 128, by omega⟩
      * e ⟨m.val / 64 % 2, by omega⟩ ⟨j.val / 128 % 2, by omega⟩)
    (n : Fin 255) (g : Fin 2) (k : Fin 128) :
    kh x p q u v n ⟨g.val * 128 + k.val, by omega⟩ = hid src pe w n g k := by
  have eg : (⟨(g.val * 128 + k.val) / 128 % 2, by omega⟩ : Fin 2) = g := Fin.ext (by dsimp only; omega)
  have ek : (⟨(g.val * 128 + k.val) % 128, by omega⟩ : Fin 128) = k := Fin.ext (by dsimp only; omega)
  unfold kh hid
  simp only [hx, hp, hq, hu, hv, eg, ek]
  rw [half_sum (fun m => src ⟨n.val, by omega⟩ m + pe ⟨m.val / 128, by omega⟩ ⟨m.val % 64, by omega⟩)
      (fun m => w ⟨m.val / 128 * 64 + m.val % 64, by omega⟩ k) (fun i => e i g) g (fun i => he i g),
    half_sum (fun m => src ⟨(n.val + 256 - 255) % 256, by omega⟩ m + pe ⟨16 + m.val / 128, by omega⟩ ⟨m.val % 64, by omega⟩)
      (fun m => w ⟨(16 + m.val / 128) * 64 + m.val % 64, by omega⟩ k) (fun i => e i g) g (fun i => he i g)]
  refine Eq.trans ?_ (Fin.sum_univ_add (a := 16) (b := 16) _).symm
  refine congrArg₂ (· + ·) (Finset.sum_congr rfl fun l _ => Finset.sum_congr rfl fun d _ => ?_)
    (Finset.sum_congr rfl fun l _ => Finset.sum_congr rfl fun d _ => ?_)
  · have := l.isLt
    refine congrArg₂ (· * ·) (congrArg₂ (· + ·) (congrArg₂ src (Fin.ext ?_) (Fin.ext ?_)) (congrArg₂ pe (Fin.ext ?_) (Fin.ext ?_))) (congrArg₂ w (Fin.ext ?_) rfl)
      <;> simp only [Fin.val_castAdd] <;> omega
  · have := l.isLt
    refine congrArg₂ (· * ·) (congrArg₂ (· + ·) (congrArg₂ src (Fin.ext ?_) (Fin.ext ?_)) (congrArg₂ pe (Fin.ext ?_) (Fin.ext ?_))) (congrArg₂ w (Fin.ext ?_) rfl)
      <;> simp only [Fin.val_natAdd] <;> omega

end Cert.Proof.CompBlock
-- ==== Proof.CompHost.lean ====
/- What the compression call's host operations leave for its windows, at an index. -/
module

public import proofs.«01_k».proof.Proof.CompRef
public import proofs.«01_k».proof.Proof.Gen.CompressIdeal.Value

@[expose] public section

noncomputable section

namespace Cert.Proof.CompHost

open Idealize.ShloMosaic Idealize.SL.Sem Cert.CompressIdeal Cert.CompressIdeal.Gen Idealize.ShloMosaic.TcCoe

/-- The position rows laid out twice, once per group. -/
def peOf (x : FVec Ideal S1x32x64 .f32) : FVec Ideal S2x2048 .f32 :=
  shapeCast S2x2048 (broadcastInDim S2x16x2x64 ![0, 1, 2, 3] bcast_S2x16x1x64_S2x16x2x64_0_1_2_3
    (shapeCast S2x16x1x64 (shapeCast S32x64 x shapeCasts_S1x32x64_S32x64) shapeCasts_S32x64_S2x16x1x64) : FVec Ideal S2x16x2x64 .f32) shapeCasts_S2x16x2x64_S2x2048

theorem peOf_apply (x : FVec Ideal S1x32x64 .f32) (h : Fin 2) (m : Fin 2048) :
    peOf x (ix2 h m) = x (ix3 0 ⟨h.val * 16 + m.val / 128, by omega⟩ ⟨m.val % 64, by omega⟩) := by
  unfold peOf
  pointwise

/-- The unit matrix of two groups. -/
def eye : FVec Ideal S2x2 .f32 :=
  uitofp .f32 (cmpi .eq (addi (iotaInDim S2x2 32 0) (broadcastInDim S2x2 ![] bcast_S_S2x2 (constantI S_ 32 0#32))) (iotaInDim S2x2 32 1))

theorem eye_apply (g k : Fin 2) : eye (ix2 g k) = if g = k then 1 else 0 := by
  unfold eye
  pointwise
  have h : ∀ g k : Fin 2, IntOp.cmpi CmpIPredicate.eq (IntOp.addi (BitVec.ofNat 32 g.val) 0#32) (BitVec.ofNat 32 k.val)
      = if g = k then 1#1 else 0#1 := by decide
  rw [h]
  split_ifs
  · show (((1#1 : BitVec 1).toNat : ℝ) : EReal) = 1
    simp
  · show (((0#1 : BitVec 1).toNat : ℝ) : EReal) = 0
    simp

/-- The first weights laid out in one block per group. -/
def w1Of (x : FVec Ideal S1x2048x128 .f32) : FVec Ideal S2048x512 .bf16 :=
  truncf .bf16 (shapeCast S2048x512 (mulf
    (broadcastInDim S16x2x64x2x2x128 ![0, 1, 2, 3, 4, 5] bcast_S16x1x64x2x1x128_S16x2x64x2x2x128_0_1_2_3_4_5
      (broadcastInDim S16x1x64x2x1x128 ![0, 2, 3, 5] bcast_S16x64x2x128_S16x1x64x2x1x128_0_2_3_5
        (transpose S16x64x2x128 [1, 2, 0, 3] (shapeCast S2x16x64x128 (shapeCast S2048x128 x shapeCasts_S1x2048x128_S2048x128) shapeCasts_S2048x128_S2x16x64x128)
          transposes_S2x16x64x128_S16x64x2x128_1_2_0_3)))
    (broadcastInDim S16x2x64x2x2x128 ![0, 1, 2, 3, 4, 5] bcast_S1x2x1x1x2x1_S16x2x64x2x2x128_0_1_2_3_4_5
      (broadcastInDim S1x2x1x1x2x1 ![1, 4] bcast_S2x2_S1x2x1x1x2x1_1_4 eye)) : FVec Ideal S16x2x64x2x2x128 .f32)
    shapeCasts_S16x2x64x2x2x128_S2048x512 : FVec Ideal S2048x512 .f32) bitsLt_bf16_f32

theorem w1Of_apply (x : FVec Ideal S1x2048x128 .f32) (m : Fin 2048) (q : Fin 512) :
    w1Of x (ix2 m q) = x (ix3 0 ⟨(q.val / 256 * 16 + m.val / 128) * 64 + m.val % 64, by omega⟩ ⟨q.val % 128, by omega⟩)
      * eye (ix2 ⟨m.val / 64 % 2, by omega⟩ ⟨q.val / 128 % 2, by omega⟩) := by
  unfold w1Of
  generalize eye = y
  pointwise
  exact congrArg (· * _) (congrArg x (congrArg (ix3 0 · _) (Fin.ext (by dsimp only; omega))))

/-- The second weights laid out in one block per group. -/
def w2Of (x : FVec Ideal S1x128x64 .f32) : FVec Ideal S256x128 .f32 :=
  concatenate S256x128 0 [⟨S128x128, concatenate S128x128 1 [⟨S128x64, shapeCast S128x64 x shapeCasts_S1x128x64_S128x64⟩,
      ⟨S128x64, broadcastInDim S128x64 ![] bcast_S_S128x64 (constant (F := Ideal) S_ .f32 0x00000000#32)⟩] concatenates_S128x64_S128x64_S128x128_d1⟩,
    ⟨S128x128, concatenate S128x128 1 [⟨S128x64, broadcastInDim S128x64 ![] bcast_S_S128x64 (constant (F := Ideal) S_ .f32 0x00000000#32)⟩,
      ⟨S128x64, shapeCast S128x64 x shapeCasts_S1x128x64_S128x64⟩] concatenates_S128x64_S128x64_S128x128_d1⟩] concatenates_S128x128_S128x128_S256x128_d0

theorem w2Of_apply (x : FVec Ideal S1x128x64 .f32) (k : Fin 256) (j : Fin 128) :
    w2Of x (ix2 k j) = if k.val / 128 = j.val / 64 then x (ix3 0 ⟨k.val % 128, by omega⟩ ⟨j.val % 64, by omega⟩) else 0 := by
  unfold w2Of
  pointwise
  by_cases hk : k.val < 128 <;> by_cases hj : j.val < 64 <;> simp only [hk, hj, ↓reduceDIte]
  · rw [if_pos (by omega)]
    exact congrArg x (congrArg₂ (ix3 0) (Fin.ext (Nat.mod_eq_of_lt hk).symm) (Fin.ext (Nat.mod_eq_of_lt hj).symm))
  · rw [if_neg (by omega)]
  · rw [if_neg (by omega)]
  · refine Eq.trans ?_ (if_pos (show k.val / 128 = j.val / 64 by have := k.isLt; have := j.isLt; clear * - hk hj; omega)).symm
    exact congrArg x (congrArg₂ (ix3 0) (Fin.ext (by show k.val - 128 = k.val % 128; omega)) (Fin.ext (by show j.val - 64 = j.val % 64; omega)))

variable (m : (ℓ : Loc nD τ sig) → Buf (Elt Ideal) ℓ)

theorem V_pe0 (c : Dev nD) : V m c main_v3 = peOf (m ((c : Thread nD τ).loc main_arg4)) := by
  show StableHlo.after hostOps0 (fun b => m (c, b)) main_v3 = _
  after_results
  rfl
theorem V_pe1 (c : Dev nD) : V m c main_v7 = peOf (m ((c : Thread nD τ).loc main_arg7)) := by
  show StableHlo.after hostOps0 (fun b => m (c, b)) main_v7 = _
  after_results
  rfl
theorem V_w10 (c : Dev nD) : V m c main_v23 = w1Of (m ((c : Thread nD τ).loc main_arg2)) := by
  show StableHlo.after hostOps0 (fun b => m (c, b)) main_v23 = _
  after_results
  rfl
theorem V_w11 (c : Dev nD) : V m c main_v39 = w1Of (m ((c : Thread nD τ).loc main_arg5)) := by
  show StableHlo.after hostOps0 (fun b => m (c, b)) main_v39 = _
  after_results
  rfl
theorem V_w20 (c : Dev nD) : V m c main_v45 = (truncf .bf16 (w2Of (m ((c : Thread nD τ).loc main_arg3))) bitsLt_bf16_f32 : FVec Ideal S256x128 .bf16) := by
  show StableHlo.after hostOps0 (fun b => m (c, b)) main_v45 = _
  after_results
  rfl
theorem V_w21 (c : Dev nD) : V m c main_v52 = (truncf .bf16 (transpose S128x256 [1, 0] (w2Of (m ((c : Thread nD τ).loc main_arg6)))
    transposes_S256x128_S128x256_1_0) bitsLt_bf16_f32 : FVec Ideal S128x256 .bf16) := by
  show StableHlo.after hostOps0 (fun b => m (c, b)) main_v52 = _
  after_results
  rfl

end Cert.Proof.CompHost
-- ==== Proof.CompArray.lean ====
/- The compression call's result arrays, from its grid points' blocks. -/
module

public import proofs.«01_k».proof.Proof.CompBlock
public import proofs.«01_k».proof.Proof.CompHost
public import proofs.«01_k».proof.Proof.ProjOut
public import Idealize.ShloMosaic.Lib.Pipeline.Value

@[expose] public section

noncomputable section

namespace Cert.Proof.CompArray

open Idealize.ShloMosaic Idealize.SL.Sem Cert.CompressIdeal Cert.CompressIdeal.Gen Idealize.ShloMosaic.TcCoe
open Cert.Proof.CompBlock Cert.Proof.CompHost Cert.Proof.CompRef Cert.Proof.ProjRow
open Cert.Proof.ProjOut (ld2 hz2 hz3)

variable (m : (ℓ : Loc nD τ sig) → Buf (Elt Ideal) ℓ)

/-- Where each window stands at a grid point. -/
theorem idx_facts : ∀ t : Fin grid0.N,
    (win0_0.index t 0 = t.val ∧ win0_0.index t 1 = 0 ∧ win0_0.index t 2 = 0) ∧
    (win0_1.index t 0 = t.val ∧ win0_1.index t 1 = 0 ∧ win0_1.index t 2 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) ∧ (win0_7.index t 0 = 0 ∧ win0_7.index t 1 = 0) ∧
    (win0_8.index t 0 = t.val ∧ win0_8.index t 1 = 0 ∧ win0_8.index t 2 = 0) ∧
    (win0_9.index t 0 = t.val ∧ win0_9.index t 1 = 0 ∧ win0_9.index t 2 = 0) := by decide +kernel

/-- The grid point of a batch. -/
def pt (b : Fin 16) : Fin cfg0.N := ⟨b.val, lt_of_lt_of_eq b.isLt N_0.symm⟩

theorem blk0 (c : Dev nD) (b : Fin 16) (r : Fin 256) (j : Fin 2048) :
    iblk m c 0 (pt b) (ix3 0 r j : S1x256x2048.Idx) = m ((c : Thread nD τ).loc main_arg0) (ix3 b r j) := by
  obtain ⟨⟨h0, h1, h2⟩, -⟩ := idx_facts (pt b)
  refine Eq.trans (congrArg (V m c main_arg0) (funext fun a => Fin.ext ?_)) (congrFun (V_main_arg0 m c) _)
  match a with
  | ⟨0, _⟩ => show win0_0.index (pt b) 0 * 1 + 1 * 0 = b.val; rw [h0]; show b.val * 1 + 1 * 0 = b.val; omega
  | ⟨1, _⟩ => show win0_0.index (pt b) 1 * 256 + 1 * r.val = r.val; omega
  | ⟨2, _⟩ => show win0_0.index (pt b) 2 * 2048 + 1 * j.val = j.val; omega

theorem blk1 (c : Dev nD) (b : Fin 16) (r : Fin 256) (j : Fin 2048) :
    iblk m c 1 (pt b) (ix3 0 r j : S1x256x2048.Idx) = m ((c : Thread nD τ).loc main_arg1) (ix3 b r j) := by
  obtain ⟨-, ⟨h0, h1, h2⟩, -⟩ := idx_facts (pt b)
  refine Eq.trans (congrArg (V m c main_arg1) (funext fun a => Fin.ext ?_)) (congrFun (V_main_arg1 m c) _)
  match a with
  | ⟨0, _⟩ => show win0_1.index (pt b) 0 * 1 + 1 * 0 = b.val; rw [h0]; show b.val * 1 + 1 * 0 = b.val; omega
  | ⟨1, _⟩ => show win0_1.index (pt b) 1 * 256 + 1 * r.val = r.val; omega
  | ⟨2, _⟩ => show win0_1.index (pt b) 2 * 2048 + 1 * j.val = j.val; omega

theorem blk2 (c : Dev nD) (t : Fin cfg0.N) (h : Fin 2) (k : Fin 2048) :
    iblk m c 2 t (ix2 h k : S2x2048.Idx) = peOf (m ((c : Thread nD τ).loc main_arg4)) (ix2 h k) := by
  obtain ⟨-, -, ⟨h0, h1⟩, -⟩ := idx_facts t
  refine Eq.trans (congrArg (V m c main_v3) (funext fun a => Fin.ext ?_)) (congrFun (V_pe0 m c) _)
  match a with
  | ⟨0, _⟩ => show win0_2.index t 0 * 2 + 1 * h.val = h.val; omega
  | ⟨1, _⟩ => show win0_2.index t 1 * 2048 + 1 * k.val = k.val; omega

theorem blk3 (c : Dev nD) (t : Fin cfg0.N) (h : Fin 2) (k : Fin 2048) :
    iblk m c 3 t (ix2 h k : S2x2048.Idx) = peOf (m ((c : Thread nD τ).loc main_arg7)) (ix2 h k) := by
  obtain ⟨-, -, -, ⟨h0, h1⟩, -⟩ := idx_facts t
  refine Eq.trans (congrArg (V m c main_v7) (funext fun a => Fin.ext ?_)) (congrFun (V_pe1 m c) _)
  match a with
  | ⟨0, _⟩ => show win0_3.index t 0 * 2 + 1 * h.val = h.val; omega
  | ⟨1, _⟩ => show win0_3.index t 1 * 2048 + 1 * k.val = k.val; omega

theorem blk4 (c : Dev nD) (t : Fin cfg0.N) (k : Fin 2048) (j : Fin 512) :
    iblk m c 4 t (ix2 k j : S2048x512.Idx) = w1Of (m ((c : Thread nD τ).loc main_arg2)) (ix2 k j) := by
  obtain ⟨-, -, -, -, ⟨h0, h1⟩, -⟩ := idx_facts t
  refine Eq.trans (congrArg (V m c main_v23) (funext fun a => Fin.ext ?_)) (congrFun (V_w10 m c) _)
  match a with
  | ⟨0, _⟩ => show win0_4.index t 0 * 2048 + 1 * k.val = k.val; omega
  | ⟨1, _⟩ => show win0_4.index t 1 * 512 + 1 * j.val = j.val; omega

theorem blk5 (c : Dev nD) (t : Fin cfg0.N) (k : Fin 2048) (j : Fin 512) :
    iblk m c 5 t (ix2 k j : S2048x512.Idx) = w1Of (m ((c : Thread nD τ).loc main_arg5)) (ix2 k j) := by
  obtain ⟨-, -, -, -, -, ⟨h0, h1⟩, -⟩ := idx_facts t
  refine Eq.trans (congrArg (V m c main_v39) (funext fun a => Fin.ext ?_)) (congrFun (V_w11 m c) _)
  match a with
  | ⟨0, _⟩ => show win0_5.index t 0 * 2048 + 1 * k.val = k.val; omega
  | ⟨1, _⟩ => show win0_5.index t 1 * 512 + 1 * j.val = j.val; omega

theorem blk6 (c : Dev nD) (t : Fin cfg0.N) (k : Fin 256) (j : Fin 128) :
    iblk m c 6 t (ix2 k j : S256x128.Idx) = w2Of (m ((c : Thread nD τ).loc main_arg3)) (ix2 k j) := by
  obtain ⟨-, -, -, -, -, -, ⟨h0, h1⟩, -⟩ := idx_facts t
  refine Eq.trans (congrArg (V m c main_v45) (funext fun a => Fin.ext ?_)) (congrFun (V_w20 m c) _)
  match a with
  | ⟨0, _⟩ => show win0_6.index t 0 * 256 + 1 * k.val = k.val; omega
  | ⟨1, _⟩ => show win0_6.index t 1 * 128 + 1 * j.val = j.val; omega

theorem tr_apply (x : FVec Ideal S256x128 .f32) (j : Fin 128) (k : Fin 256) :
    (truncf .bf16 (transpose S128x256 [1, 0] x transposes_S256x128_S128x256_1_0) bitsLt_bf16_f32 : FVec Ideal S128x256 .bf16) (ix2 j k)
      = x (ix2 k j) := by
  pointwise

theorem blk7 (c : Dev nD) (t : Fin cfg0.N) (j : Fin 128) (k : Fin 256) :
    iblk m c 7 t (ix2 j k : S128x256.Idx) = w2Of (m ((c : Thread nD τ).loc main_arg6)) (ix2 k j) := by
  obtain ⟨-, -, -, -, -, -, -, ⟨h0, h1⟩, -⟩ := idx_facts t
  refine Eq.trans (congrArg (V m c main_v52) (funext fun a => Fin.ext ?_)) ((congrFun (V_w21 m c) (ix2 j k)).trans (tr_apply _ j k))
  match a with
  | ⟨0, _⟩ => show win0_7.index t 0 * 128 + 1 * j.val = j.val; omega
  | ⟨1, _⟩ => show win0_7.index t 1 * 256 + 1 * k.val = k.val; omega

/-- The hidden value of the blocks is the reference's, of the arguments the host lays out. -/
theorem hid_blk (x : Vec Ideal S1x256x2048 .bf16) (p : Vec Ideal S2x2048 .f32) (w : Vec Ideal S2048x512 .bf16)
    (src : FVec Ideal S16x256x2048 .bf16) (pe : FVec Ideal S1x32x64 .f32) (w1 : FVec Ideal S1x2048x128 .f32) (b : Fin 16)
    (hx : ∀ r c, x (ix3 0 r c) = src (ix3 b r c)) (hp : ∀ h k, p (ix2 h k) = peOf pe (ix2 h k))
    (hw : ∀ k j, w (ix2 k j) = w1Of w1 (ix2 k j)) (n : Fin 255) (g : Fin 2) (k : Fin 128) :
    kh x (View.ld p r0_1) (View.ld p r0_2) (View.ld w r0_3) (View.ld w r0_4) n ⟨g.val * 128 + k.val, by omega⟩
      = hid (fun r c => src (ix3 b r c)) (fun l d => pe (ix3 0 l d)) (fun r k => w1 (ix3 0 r k)) n g k := by
  refine kh_eq _ _ _ _ _ _ _ _ (fun i g => eye (ix2 i g)) eye_apply hx (fun m => ?_) (fun m => ?_) (fun m j => ?_) (fun m j => ?_) n g k
  · refine (ld2 p _ 0 m).trans ((hp _ _).trans ((peOf_apply pe _ _).trans (congrArg pe (congrArg₂ (ix3 0) (Fin.ext ?_) (Fin.ext ?_))))) <;> dsimp only <;> simp
  · refine (ld2 p _ 0 m).trans ((hp _ _).trans ((peOf_apply pe _ _).trans (congrArg pe (congrArg₂ (ix3 0) (Fin.ext ?_) (Fin.ext ?_))))) <;> dsimp only <;> simp
  · refine (ld2 w _ m j).trans ((hw _ _).trans ((w1Of_apply w1 _ _).trans (congrArg₂ (· * ·) (congrArg w1 (congrArg₂ (ix3 0) (Fin.ext ?_) (Fin.ext ?_)))
      (congrArg eye (congrArg₂ ix2 (Fin.ext ?_) (Fin.ext ?_)))))) <;> dsimp only <;> omega
  · refine (ld2 w _ m j).trans ((hw _ _).trans ((w1Of_apply w1 _ _).trans (congrArg₂ (· * ·) (congrArg w1 (congrArg₂ (ix3 0) (Fin.ext ?_) (Fin.ext ?_)))
      (congrArg eye (congrArg₂ ix2 (Fin.ext ?_) (Fin.ext ?_)))))) <;> dsimp only <;> omega

/-- What the first result array is shown to hold: each grid point's block. -/
def G8 (c : Dev nD) : Vec Ideal S16x256x128 .bf16 := fun i =>
  out0_8 (iblk m c 0 (pt (i 0))) (iblk m c 1 (pt (i 0))) (iblk m c 2 (pt (i 0))) (iblk m c 3 (pt (i 0))) (iblk m c 4 (pt (i 0)))
    (iblk m c 5 (pt (i 0))) (iblk m c 6 (pt (i 0))) (iblk m c 7 (pt (i 0))) (ix3 0 (i 1) (i 2))

/-- What the second result array is shown to hold: each grid point's block. -/
def G9 (c : Dev nD) : Vec Ideal S16x128x256 .bf16 := fun i =>
  out0_9 (iblk m c 0 (pt (i 0))) (iblk m c 1 (pt (i 0))) (iblk m c 2 (pt (i 0))) (iblk m c 3 (pt (i 0))) (iblk m c 4 (pt (i 0)))
    (iblk m c 5 (pt (i 0))) (iblk m c 6 (pt (i 0))) (iblk m c 7 (pt (i 0))) (ix3 0 (i 1) (i 2))

theorem G8_apply (c : Dev nD) (b : Fin 16) (n : Fin 255) (j : Fin 128) :
    G8 m c (ix3 b ⟨n.val, by omega⟩ j) = Cert.CompressRefIdeal.Read.val_main_v84 (F := Ideal) (m ((c : Thread nD τ).loc main_arg0))
      (m ((c : Thread nD τ).loc main_arg2)) (m ((c : Thread nD τ).loc main_arg3)) (m ((c : Thread nD τ).loc main_arg4)) (ix3 b ⟨n.val, by omega⟩ j) := by
  rw [res1_apply]
  show out0_8 (iblk m c 0 (pt b)) (iblk m c 1 (pt b)) (iblk m c 2 (pt b)) (iblk m c 3 (pt b)) (iblk m c 4 (pt b))
    (iblk m c 5 (pt b)) (iblk m c 6 (pt b)) (iblk m c 7 (pt b)) (ix3 0 ⟨n.val, by omega⟩ j) = _
  unfold out0_8 comp
  rw [View.canon_unit_zero hz3, CompBlock.pay3_apply, CompBlock.pay2_apply, View.ld_unit_zero hz3, View.ld_unit_zero hz2]
  simp only [blk6, w2Of_apply]
  refine (group_sum (fun k => gelu (kh (iblk m c 0 (pt b)) (View.ld (iblk m c 2 (pt b)) r0_1) (View.ld (iblk m c 2 (pt b)) r0_2) (View.ld (iblk m c 4 (pt b)) r0_3)
      (View.ld (iblk m c 4 (pt b)) r0_4) n k)) (fun k => m ((c : Thread nD τ).loc main_arg3) (ix3 0 k ⟨j.val % 64, by omega⟩)) ⟨j.val / 64, by omega⟩).trans ?_
  refine Finset.sum_congr rfl fun k _ => congrArg (· * _) (congrArg gelu ?_)
  exact hid_blk _ _ _ _ _ _ b (fun r q => blk0 m c b r q) (fun h k => blk2 m c (pt b) h k) (fun k j => blk4 m c (pt b) k j) n _ k

theorem G9_apply (c : Dev nD) (b : Fin 16) (n : Fin 255) (j : Fin 128) :
    G9 m c (ix3 b j ⟨n.val, by omega⟩) = Cert.CompressRefIdeal.Read.val_main_v88 (F := Ideal) (m ((c : Thread nD τ).loc main_arg1))
      (m ((c : Thread nD τ).loc main_arg5)) (m ((c : Thread nD τ).loc main_arg6)) (m ((c : Thread nD τ).loc main_arg7)) (ix3 b j ⟨n.val, by omega⟩) := by
  rw [res2_apply]
  show out0_9 (iblk m c 0 (pt b)) (iblk m c 1 (pt b)) (iblk m c 2 (pt b)) (iblk m c 3 (pt b)) (iblk m c 4 (pt b))
    (iblk m c 5 (pt b)) (iblk m c 6 (pt b)) (iblk m c 7 (pt b)) (ix3 0 j ⟨n.val, by omega⟩) = _
  unfold out0_9 comp
  rw [View.canon_unit_zero hz3, CompBlock.pay1_apply, View.ld_unit_zero hz2, View.ld_unit_zero hz3]
  simp only [CompBlock.pay4_apply, blk7, w2Of_apply]
  simp only [mul_comm (ite _ _ _)]
  refine (group_sum (fun k => gelu (kh (iblk m c 1 (pt b)) (View.ld (iblk m c 3 (pt b)) r0_1) (View.ld (iblk m c 3 (pt b)) r0_2) (View.ld (iblk m c 5 (pt b)) r0_3)
      (View.ld (iblk m c 5 (pt b)) r0_4) n k)) (fun k => m ((c : Thread nD τ).loc main_arg6) (ix3 0 k ⟨j.val % 64, by omega⟩)) ⟨j.val / 64, by omega⟩).trans ?_
  refine Finset.sum_congr rfl fun k _ => congrArg (· * _) (congrArg gelu ?_)
  exact hid_blk _ _ _ _ _ _ b (fun r q => blk1 m c b r q) (fun h k => blk3 m c (pt b) h k) (fun k j => blk5 m c (pt b) k j) n _ k

/-- A grid point's block of an array whose batches are the blocks. -/
theorem block8 (B : Fin 16 → Vec Ideal S1x256x128 .bf16) (G : Vec Ideal S16x256x128 .bf16) (hG : ∀ b r j, B b (ix3 0 r j) = G (ix3 b r j)) (b : Fin 16) :
    (cfg0.win 8).cut (grid0.coords (pt b)) (B b) = (win0_8.blk (pt b)).view.read (Elt Ideal) G := by
  obtain ⟨-, -, -, -, -, -, -, -, ⟨h0, h1, h2⟩, -⟩ := idx_facts (pt b)
  funext y
  have y0 : (y 0).val < 1 := (y 0).isLt
  have ey : (y : S1x256x128.Idx) = ix3 0 (y 1) (y 2) := funext fun a => by
    match a with
    | ⟨0, _⟩ => exact Fin.ext (by show (y 0).val = 0; omega)
    | ⟨1, _⟩ => rfl
    | ⟨2, _⟩ => rfl
  refine Eq.trans (congrArg (B b) ey) ((hG b (y 1) (y 2)).trans (congrArg G (funext fun a => Fin.ext ?_)))
  match a with
  | ⟨0, _⟩ => show b.val = win0_8.index (pt b) 0 * 1 + 1 * (y 0).val; rw [h0]; show b.val = b.val * 1 + 1 * (y 0).val; omega
  | ⟨1, _⟩ => show (y 1).val = win0_8.index (pt b) 1 * 256 + 1 * (y 1).val; omega
  | ⟨2, _⟩ => show (y 2).val = win0_8.index (pt b) 2 * 128 + 1 * (y 2).val; omega

/-- A grid point writes back its block of the array. -/
theorem flushed8_eq (c : Dev nD) (t : Fin cfg0.N) :
    (dats m 0 c).flushed 8 t = (win0_8.blk t).view.read (Elt Ideal) (G8 m c) := by
  obtain ⟨b, rfl⟩ : ∃ b, t = pt b := ⟨⟨t.val, lt_of_lt_of_eq t.isLt N_0⟩, rfl⟩
  rw [Cert.CompressIdeal.Value.flushed8]
  exact block8 (fun b => out0_8 (iblk m c 0 (pt b)) (iblk m c 1 (pt b)) (iblk m c 2 (pt b)) (iblk m c 3 (pt b)) (iblk m c 4 (pt b)) (iblk m c 5 (pt b)) (iblk m c 6 (pt b)) (iblk m c 7 (pt b))) (G8 m c) (fun _ _ _ => rfl) b

/-- Every index of the array is in its batch's block. -/
theorem cover8 (i : S16x256x128.Idx) :
    ∃ t : Fin cfg0.N, (cfg0.win 8).flush t = true ∧ i ∈ ((cfg0.win 8).blk t).view.set := by
  have l0 : (i 0 : Nat) < 16 := (i 0).isLt
  have l1 : (i 1 : Nat) < 256 := (i 1).isLt
  have l2 : (i 2 : Nat) < 128 := (i 2).isLt
  refine ⟨pt (i 0), flush0_8 _, ?_⟩
  obtain ⟨-, -, -, -, -, -, -, -, ⟨h0, h1, h2⟩, -⟩ := idx_facts (pt (i 0))
  have hp : (pt (i 0)).val = (i 0 : Nat) := rfl
  show i ∈ ((View.whole main_v53_0).slice (win0_8.rect (pt (i 0)))).set
  rw [View.set_slice_whole, Rect.mem_set_unit]
  intro a
  match a with
  | ⟨0, _⟩ => show win0_8.index (pt (i 0)) 0 * 1 ≤ (i 0 : Nat) ∧ (i 0 : Nat) < win0_8.index (pt (i 0)) 0 * 1 + 1; omega
  | ⟨1, _⟩ => show win0_8.index (pt (i 0)) 1 * 256 ≤ (i 1 : Nat) ∧ (i 1 : Nat) < win0_8.index (pt (i 0)) 1 * 256 + 256; omega
  | ⟨2, _⟩ => show win0_8.index (pt (i 0)) 2 * 128 ≤ (i 2 : Nat) ∧ (i 2 : Nat) < win0_8.index (pt (i 0)) 2 * 128 + 128; omega

/-- So the result array ends holding its grid points' blocks. -/
theorem final8 (c : Dev nD) : (dats m 0 c).arrAt 8 cfg0.N = G8 m c :=
  (dats m 0 c).arrAt_eq_of_cover 8 (G8 m c) (fun t _ => flushed8_eq m c t) cover8

/-- A grid point's block of an array whose batches are the blocks. -/
theorem block9 (B : Fin 16 → Vec Ideal S1x128x256 .bf16) (G : Vec Ideal S16x128x256 .bf16) (hG : ∀ b r j, B b (ix3 0 r j) = G (ix3 b r j)) (b : Fin 16) :
    (cfg0.win 9).cut (grid0.coords (pt b)) (B b) = (win0_9.blk (pt b)).view.read (Elt Ideal) G := by
  obtain ⟨-, -, -, -, -, -, -, -, -, ⟨h0, h1, h2⟩⟩ := idx_facts (pt b)
  funext y
  have y0 : (y 0).val < 1 := (y 0).isLt
  have ey : (y : S1x128x256.Idx) = ix3 0 (y 1) (y 2) := funext fun a => by
    match a with
    | ⟨0, _⟩ => exact Fin.ext (by show (y 0).val = 0; omega)
    | ⟨1, _⟩ => rfl
    | ⟨2, _⟩ => rfl
  refine Eq.trans (congrArg (B b) ey) ((hG b (y 1) (y 2)).trans (congrArg G (funext fun a => Fin.ext ?_)))
  match a with
  | ⟨0, _⟩ => show b.val = win0_9.index (pt b) 0 * 1 + 1 * (y 0).val; rw [h0]; show b.val = b.val * 1 + 1 * (y 0).val; omega
  | ⟨1, _⟩ => show (y 1).val = win0_9.index (pt b) 1 * 128 + 1 * (y 1).val; omega
  | ⟨2, _⟩ => show (y 2).val = win0_9.index (pt b) 2 * 256 + 1 * (y 2).val; omega

/-- A grid point writes back its block of the array. -/
theorem flushed9_eq (c : Dev nD) (t : Fin cfg0.N) :
    (dats m 0 c).flushed 9 t = (win0_9.blk t).view.read (Elt Ideal) (G9 m c) := by
  obtain ⟨b, rfl⟩ : ∃ b, t = pt b := ⟨⟨t.val, lt_of_lt_of_eq t.isLt N_0⟩, rfl⟩
  rw [Cert.CompressIdeal.Value.flushed9]
  exact block9 (fun b => out0_9 (iblk m c 0 (pt b)) (iblk m c 1 (pt b)) (iblk m c 2 (pt b)) (iblk m c 3 (pt b)) (iblk m c 4 (pt b)) (iblk m c 5 (pt b)) (iblk m c 6 (pt b)) (iblk m c 7 (pt b))) (G9 m c) (fun _ _ _ => rfl) b

/-- Every index of the array is in its batch's block. -/
theorem cover9 (i : S16x128x256.Idx) :
    ∃ t : Fin cfg0.N, (cfg0.win 9).flush t = true ∧ i ∈ ((cfg0.win 9).blk t).view.set := by
  have l0 : (i 0 : Nat) < 16 := (i 0).isLt
  have l1 : (i 1 : Nat) < 128 := (i 1).isLt
  have l2 : (i 2 : Nat) < 256 := (i 2).isLt
  refine ⟨pt (i 0), flush0_9 _, ?_⟩
  obtain ⟨-, -, -, -, -, -, -, -, -, h0, h1, h2⟩ := idx_facts (pt (i 0))
  have hp : (pt (i 0)).val = (i 0 : Nat) := rfl
  show i ∈ ((View.whole main_v53_1).slice (win0_9.rect (pt (i 0)))).set
  rw [View.set_slice_whole, Rect.mem_set_unit]
  intro a
  match a with
  | ⟨0, _⟩ => show win0_9.index (pt (i 0)) 0 * 1 ≤ (i 0 : Nat) ∧ (i 0 : Nat) < win0_9.index (pt (i 0)) 0 * 1 + 1; omega
  | ⟨1, _⟩ => show win0_9.index (pt (i 0)) 1 * 128 ≤ (i 1 : Nat) ∧ (i 1 : Nat) < win0_9.index (pt (i 0)) 1 * 128 + 128; omega
  | ⟨2, _⟩ => show win0_9.index (pt (i 0)) 2 * 256 ≤ (i 2 : Nat) ∧ (i 2 : Nat) < win0_9.index (pt (i 0)) 2 * 256 + 256; omega

/-- So the result array ends holding its grid points' blocks. -/
theorem final9 (c : Dev nD) : (dats m 0 c).arrAt 9 cfg0.N = G9 m c :=
  (dats m 0 c).arrAt_eq_of_cover 9 (G9 m c) (fun t _ => flushed9_eq m c t) cover9

end Cert.Proof.CompArray

end
-- ==== Proof.CompClaims.lean ====
/- The claims about the compression call: its frames, and its value against the reference over the extended reals. -/
module

public import proofs.«01_k».proof.Defs
public import proofs.«01_k».proof.Proof.CompArray
public import proofs.«01_k».proof.Proof.Gen.Compress.Frame
public import proofs.«01_k».proof.Proof.Gen.CompressRefIdeal.Run
public import proofs.«01_k».proof.Proof.Gen.On_there
public import Idealize.ShloMosaic.Lib.Quiescent

@[expose] public section

noncomputable section

namespace Cert.Proof.CompClaims

open Idealize.ShloMosaic Idealize.ShloMosaic.TcCoe Idealize.SL.Sem

theorem frame : Cert.quiescent_Compress := fun m ρ _ => Cert.Compress.Gen.frame m ρ
theorem frame_ideal : Cert.quiescent_CompressIdeal := fun m ρ _ => Cert.CompressIdeal.Gen.frame m ρ

/-- The reference runs on the host and declares no semaphore. -/
theorem frame_ref : Cert.quiescent_CompressRefIdeal := fun m ρ _ =>
  (θ_run Cert.CompressRefIdeal.defs _ _).mono (fun r h => ⟨fun c => (h c).2.2,
      Idealize.ShloMosaic.sem_eq_zero_of_no_sems (by decide) r.2⟩)
    (Cert.CompressRefIdeal.Value.run (F := Ideal) m ρ)

theorem preserves : Cert.preserves_Compress_CompressIdeal := trivial

/-- The mask says that a block is there. -/
theorem there_of (x : Nat) (hx : x < 256) (h : IntOp.cmpi .slt (BitVec.ofNat 32 x) 255#32 = 1#1) : x < 255 := by
  rw [show (255#32 : BitVec 32) = BitVec.ofNat 32 255 from rfl, WordCmp.cmpi_slt_ofNat (by omega) (by norm_num)] at h
  by_contra hn
  rw [decide_eq_false hn] at h
  exact absurd h (by decide)

/-- Both runs end with the reference's stages of arguments that agree, on the blocks that are there. -/
theorem algebraic : Cert.algebraic_CompressIdeal_CompressRefIdeal_on_there := by
  intro m ρ m' ρ' _ hagree
  refine ⟨fun c => Cert.Proof.CompArray.G8 m c, fun c => Cert.Proof.CompArray.G9 m c, ?_, ?_⟩
  · exact (θ_run Cert.CompressIdeal.defs _ _).mono (fun _ h c => ⟨fun i _ => congrFun ((h c).1.trans (Cert.Proof.CompArray.final8 m c)) i,
        fun i _ => congrFun ((h c).2.1.trans (Cert.Proof.CompArray.final9 m c)) i, (h c).2.2⟩)
      (Cert.CompressIdeal.Value.run_blocks (F := Ideal) m ρ)
  · refine (θ_run Cert.CompressRefIdeal.defs _ _).mono (fun _ h c => ⟨fun i hi => (congrFun (h c).1 i).trans ?_,
        fun i hi => (congrFun (h c).2.1 i).trans ?_, (h c).2.2⟩)
      (Cert.CompressRefIdeal.Value.run (F := Ideal) m' ρ')
    · rw [Cert.CompressRefIdeal.Read.val_main_v84_eq]
      obtain ⟨e0, e1, e2, e3, e4, e5, e6, e7⟩ := hagree c
      rw [e0, e2, e3, e4]
      have hn : (i 1).val < 255 := there_of _ (i 1).isLt hi
      have ei : i = ix3 (i 0) ⟨(⟨(i 1).val, hn⟩ : Fin 255).val, (i 1).isLt⟩ (i 2) := funext fun a => by
        match a with
        | ⟨0, _⟩ => rfl
        | ⟨1, _⟩ => rfl
        | ⟨2, _⟩ => rfl
      rw [ei]
      exact (Cert.Proof.CompArray.G8_apply m c (i 0) ⟨(i 1).val, hn⟩ (i 2)).symm
    · rw [Cert.CompressRefIdeal.Read.val_main_v88_eq]
      obtain ⟨e0, e1, e2, e3, e4, e5, e6, e7⟩ := hagree c
      rw [e1, e5, e6, e7]
      have hn : (i 2).val < 255 := there_of _ (i 2).isLt hi
      have ei : i = ix3 (i 0) (i 1) ⟨(⟨(i 2).val, hn⟩ : Fin 255).val, (i 2).isLt⟩ := funext fun a => by
        match a with
        | ⟨0, _⟩ => rfl
        | ⟨1, _⟩ => rfl
        | ⟨2, _⟩ => rfl
      rw [ei]
      exact (Cert.Proof.CompArray.G9_apply m c (i 0) ⟨(i 2).val, hn⟩ (i 1)).symm

end Cert.Proof.CompClaims

end
-- ==== Proof.AttnSteps.lean ====
/- The attention's loop over pairs of a key step and a group of query tiles: which pair a trip works on, and what it
   needs and leaves, no contents named. -/
module

public import proofs.«01_k».proof.Proof.AttnLoops

@[expose] public section

set_option maxRecDepth 16384

noncomputable section

namespace Cert.Proof.AttnSteps

open Cert.Attn Cert.Attn.Gen Cert.Proof.AttnLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pair after a pair: the next group of query tiles, or the first group of the next key step. -/
@[reducible] def nxt (p : BitVec 32 × BitVec 32) : BitVec 32 × BitVec 32 :=
  (Scalar.select (Scalar.cmpi .eq (Scalar.addi p.2 1#32) 8#32) (Scalar.addi p.1 1#32) p.1,
   Scalar.select (Scalar.cmpi .eq (Scalar.addi p.2 1#32) 8#32) (Scalar.muli 1#32 (Scalar.addi p.1 1#32)) (Scalar.addi p.2 1#32))

/-- The pairs in the order of the trips. -/
def item : ℕ → BitVec 32 × BitVec 32
  | 0 => (0#32, 0#32)
  | n + 1 => nxt (item n)

theorem item_checks : ∀ k : Fin 34, k0_chk1 (item k.val).1 ∧ k0_chk2 (item k.val).2 ∧
    k0_chk3 (item (k.val + 1)).1 (item (k.val + 1)).2 := by decide +kernel

theorem last_checks : k0_chk4 (item 34).1 ∧ k0_chk5 (item 34).2 ∧ k0_chk6 (item 35).1 ∧ k0_chk7 (item 35).2 := by
  decide +kernel

set_option warn.classDefReducibility false in
@[sl_loop] def loopInv_k0_t5 (𝒱 : Variants) (c : Dev nD) (bd : Option 𝒱.V) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole) (v7270 : BitVec 32) (v7274 : BitVec 32) (v7293 : FVec F S1x512 .f32) (v7304 : FVec F S1x512 .f32) (v7315 : FVec F S1x512 .f32) (v7326 : FVec F S1x512 .f32) (v7370 : FVec F S512x256 .bf16) (v7381 : FVec F S1x512 .f32) (v7392 : FVec F S1x512 .f32) (v7403 : FVec F S1x512 .f32) (init : BitVec 32 × BitVec 32 × BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v7270 v7274 v7293 v7304 v7315 v7326 v7370 v7381 v7392 v7403 init where
  inv := fun k acc => iprop(Bufs (F := F) c arg2 arg3 arg4 arg5 arg6 arg7 arg8 arg9 arg10 arg12 arg13 arg14 arg15 arg16 arg17 arg18 arg19 arg20 arg21 arg22 X2 X3 X4 X5 X6 X7 X8 X9 X10 ∗ ∃ x0 x1 x2 x3 x4 x5 x6 x7, ⌜acc = ((item k).1, (item k).2, (item (k + 1)).1, (item (k + 1)).2, x0, x1, x2, x3, x4, x5, x6, x7)⌝)
  step k acc := by
    iintro ⟨⟨H2, H3, H4, H5, H6, H7, H8, H9, H10, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, %x0, %x1, %x2, %x3, %x4, %x5, %x6, %x7, %hacc⟩
    subst hacc
    have hk : k.val < 34 := k.isLt
    obtain ⟨hc1, hc2, hc3⟩ := item_checks ⟨k.val, hk⟩
    dsimp only at hc1 hc2 hc3
    unfold k0_t5_body
    sl_exec_parts
    sl_step
    sl_close

end Cert.Proof.AttnSteps

end
-- ==== Proof.AttnIdealLoops.lean ====
/- The attention's loops over its query tiles: what a trip needs and leaves, no contents named. -/
module

public import proofs.«01_k».proof.Proof.Gen.AttnIdeal.Loops
public import Idealize.ShloMosaic.Lib.Tactic
public import Idealize.ShloMosaic.Lib.WordCmp

@[expose] public section

set_option maxRecDepth 16384

noncomputable section

namespace Cert.Proof.AttnIdealLoops

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers of the call: its inputs at their contents, its scratch at any. -/
abbrev Bufs (c : Dev nD) (arg2 : Memref sig .tc .vmem S1x4096x256 .bf16) (arg3 : Memref sig .tc .vmem S1x256x128 .bf16) (arg4 : Memref sig .tc .vmem S1x64x256 .bf16) (arg5 : Memref sig .tc .vmem S1x4096x128 .bf16) (arg6 : Memref sig .tc .vmem S1x4096x128 .bf16) (arg7 : Memref sig .tc .vmem S1x32x64x128 .bf16) (arg8 : Memref sig .tc .vmem S1x32x64x128 .bf16) (arg9 : Memref sig .tc .vmem S1x32x16x128 .f32) (arg10 : Memref sig .tc .vmem S1x4096x256 .bf16) (arg12 : Memref sig .tc .vmem S4x128x512 .f32) (arg13 : Memref sig .tc .vmem S4096x128 .bf16) (arg14 : Memref sig .tc .vmem S32x256x512 .bf16) (arg15 : Memref sig .tc .vmem S32x1x512 .f32) (arg16 : Memref sig .tc .vmem S32x80x512 .f32) (arg17 : Memref sig .tc .vmem S32x64x512 .f32) (arg18 : Memref sig .tc .vmem S4x512x512 .f32) (arg19 : Memref sig .tc .vmem S4x512x512 .bf16) (arg20 : Memref sig .tc .vmem S1024x512 .f32) (arg21 : Memref sig .tc .vmem S1024x512 .bf16) (arg22 : Memref sig .tc .vmem S2x1x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f))

set_option warn.classDefReducibility false in
@[sl_loop] def loopInv_k0_t1 (𝒱 : Variants) (c : Dev nD) (bd : Option 𝒱.V) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole) (arg1 : BitVec 32) (v2 : IVec S1x512 32) (v9 : FVec F S256x128 .bf16) (v13 : FVec F S80x256 .bf16) (v35 : FVec F S64x256 .bf16) (v38 : IVec S128x512 32) (v43 : IVec S256x512 32) (v44 : IVec S64x128 32) (v235 : FVec F S128x512 .bf16) (v331 : FVec F S1x512 .f32) (v343 : FVec F S128x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2 v9 v13 v35 v38 v43 v44 v235 v331 v343 where
  inv := fun _ _ => Bufs (F := F) c arg2 arg3 arg4 arg5 arg6 arg7 arg8 arg9 arg10 arg12 arg13 arg14 arg15 arg16 arg17 arg18 arg19 arg20 arg21 arg22 X2 X3 X4 X5 X6 X7 X8 X9 X10
  step k acc := by
    iintro ⟨H2, H3, H4, H5, H6, H7, H8, H9, H10, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩
    unfold k0_t1_body
    sl_exec_parts
    sl_step
    sl_close

set_option warn.classDefReducibility false in
@[sl_loop] def loopInv_k0_t2 (𝒱 : Variants) (c : Dev nD) (bd : Option 𝒱.V) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole) (arg1 : BitVec 32) (v2 : IVec S1x512 32) (v9 : FVec F S256x128 .bf16) (v13 : FVec F S80x256 .bf16) (v35 : FVec F S64x256 .bf16) (v38 : IVec S128x512 32) (v43 : IVec S256x512 32) (v44 : IVec S64x128 32) (v235 : FVec F S128x512 .bf16) (v331 : FVec F S1x512 .f32) (v343 : FVec F S128x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2 v9 v13 v35 v38 v43 v44 v235 v331 v343 where
  inv := fun _ _ => Bufs (F := F) c arg2 arg3 arg4 arg5 arg6 arg7 arg8 arg9 arg10 arg12 arg13 arg14 arg15 arg16 arg17 arg18 arg19 arg20 arg21 arg22 X2 X3 X4 X5 X6 X7 X8 X9 X10
  step k acc := by
    iintro ⟨H2, H3, H4, H5, H6, H7, H8, H9, H10, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩
    unfold k0_t2_body
    sl_exec_parts
    sl_step
    sl_close

set_option warn.classDefReducibility false in
@[sl_loop] def loopInv_k0_t3 (𝒱 : Variants) (c : Dev nD) (bd : Option 𝒱.V) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole) (arg1 : BitVec 32) (v2 : IVec S1x512 32) (v9 : FVec F S256x128 .bf16) (v13 : FVec F S80x256 .bf16) (v35 : FVec F S64x256 .bf16) (v38 : IVec S128x512 32) (v43 : IVec S256x512 32) (v44 : IVec S64x128 32) (c0_i32_234 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2 v9 v13 v35 v38 v43 v44 c0_i32_234 where
  inv := fun _ _ => Bufs (F := F) c arg2 arg3 arg4 arg5 arg6 arg7 arg8 arg9 arg10 arg12 arg13 arg14 arg15 arg16 arg17 arg18 arg19 arg20 arg21 arg22 X2 X3 X4 X5 X6 X7 X8 X9 X10
  step k acc := by
    iintro ⟨H2, H3, H4, H5, H6, H7, H8, H9, H10, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩
    unfold k0_t3_body
    sl_exec_parts
    sl_step
    sl_close

set_option warn.classDefReducibility false in
@[sl_loop] def loopInv_k0_t4 (𝒱 : Variants) (c : Dev nD) (bd : Option 𝒱.V) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole) (arg1 : BitVec 32) (v2 : IVec S1x512 32) (v9 : FVec F S256x128 .bf16) (v13 : FVec F S80x256 .bf16) (v35 : FVec F S64x256 .bf16) (v38 : IVec S128x512 32) (v43 : IVec S256x512 32) (v44 : IVec S64x128 32) (c0_i32_234 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2 v9 v13 v35 v38 v43 v44 c0_i32_234 where
  inv := fun _ _ => Bufs (F := F) c arg2 arg3 arg4 arg5 arg6 arg7 arg8 arg9 arg10 arg12 arg13 arg14 arg15 arg16 arg17 arg18 arg19 arg20 arg21 arg22 X2 X3 X4 X5 X6 X7 X8 X9 X10
  step k acc := by
    iintro ⟨H2, H3, H4, H5, H6, H7, H8, H9, H10, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩
    unfold k0_t4_body
    sl_exec_parts
    sl_step
    sl_close

end Cert.Proof.AttnIdealLoops

end
-- ==== Proof.AttnIdealSteps.lean ====
/- The attention's loop over pairs of a key step and a group of query tiles: which pair a trip works on, and what it
   needs and leaves, no contents named. -/
module

public import proofs.«01_k».proof.Proof.AttnIdealLoops

@[expose] public section

set_option maxRecDepth 16384

noncomputable section

namespace Cert.Proof.AttnIdealSteps

open Cert.AttnIdeal Cert.AttnIdeal.Gen Cert.Proof.AttnIdealLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pair after a pair: the next group of query tiles, or the first group of the next key step. -/
@[reducible] def nxt (p : BitVec 32 × BitVec 32) : BitVec 32 × BitVec 32 :=
  (Scalar.select (Scalar.cmpi .eq (Scalar.addi p.2 1#32) 8#32) (Scalar.addi p.1 1#32) p.1,
   Scalar.select (Scalar.cmpi .eq (Scalar.addi p.2 1#32) 8#32) (Scalar.muli 1#32 (Scalar.addi p.1 1#32)) (Scalar.addi p.2 1#32))

/-- The pairs in the order of the trips. -/
def item : ℕ → BitVec 32 × BitVec 32
  | 0 => (0#32, 0#32)
  | n + 1 => nxt (item n)

theorem item_checks : ∀ k : Fin 34, k0_chk1 (item k.val).1 ∧ k0_chk2 (item k.val).2 ∧
    k0_chk3 (item (k.val + 1)).1 (item (k.val + 1)).2 := by decide +kernel

theorem last_checks : k0_chk4 (item 34).1 ∧ k0_chk5 (item 34).2 ∧ k0_chk6 (item 35).1 ∧ k0_chk7 (item 35).2 := by
  decide +kernel

set_option warn.classDefReducibility false in
@[sl_loop] def loopInv_k0_t5 (𝒱 : Variants) (c : Dev nD) (bd : Option 𝒱.V) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole) (v7270 : BitVec 32) (v7274 : BitVec 32) (v7293 : FVec F S1x512 .f32) (v7304 : FVec F S1x512 .f32) (v7315 : FVec F S1x512 .f32) (v7326 : FVec F S1x512 .f32) (v7370 : FVec F S512x256 .bf16) (v7381 : FVec F S1x512 .f32) (v7392 : FVec F S1x512 .f32) (v7403 : FVec F S1x512 .f32) (init : BitVec 32 × BitVec 32 × BitVec 32 × BitVec 32 × FVec F S1x512 .f32 × FVec F S1x512 .f32 × FVec F S1x512 .f32 × FVec F S1x512 .f32 × FVec F S1x512 .f32 × FVec F S1x512 .f32 × FVec F S1x512 .f32 × FVec F S1x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    LoopInvTy_k0_t5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v7270 v7274 v7293 v7304 v7315 v7326 v7370 v7381 v7392 v7403 init where
  inv := fun k acc => iprop(Bufs (F := F) c arg2 arg3 arg4 arg5 arg6 arg7 arg8 arg9 arg10 arg12 arg13 arg14 arg15 arg16 arg17 arg18 arg19 arg20 arg21 arg22 X2 X3 X4 X5 X6 X7 X8 X9 X10 ∗ ∃ x0 x1 x2 x3 x4 x5 x6 x7, ⌜acc = ((item k).1, (item k).2, (item (k + 1)).1, (item (k + 1)).2, x0, x1, x2, x3, x4, x5, x6, x7)⌝)
  step k acc := by
    iintro ⟨⟨H2, H3, H4, H5, H6, H7, H8, H9, H10, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, %x0, %x1, %x2, %x3, %x4, %x5, %x6, %x7, %hacc⟩
    subst hacc
    have hk : k.val < 34 := k.isLt
    obtain ⟨hc1, hc2, hc3⟩ := item_checks ⟨k.val, hk⟩
    dsimp only at hc1 hc2 hc3
    unfold k0_t5_body
    sl_exec_parts
    sl_step
    sl_close

end Cert.Proof.AttnIdealSteps

end
-- ==== Proof.AttnIdealBody.lean ====
/- The attention call's body: run on its staging buffers and its scratch, it ends with the inputs as they were. -/
module

public import proofs.«01_k».proof.Proof.Gen.AttnIdeal.Frame
public import proofs.«01_k».proof.Proof.AttnIdealSteps

@[expose] public section

set_option maxRecDepth 16384

noncomputable section

namespace Cert.Proof.AttnIdealBody

open Cert.AttnIdeal Cert.AttnIdeal.Gen
open Cert.Proof.AttnIdealSteps Cert.Proof.AttnIdealLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 0 in
/-- The body on its inputs at any contents, its output and its scratch at any: it returns all of them, the inputs
    unchanged. The offsets it reads from the list of items are the ones `item_checks` and `last_checks` bound. -/
theorem sound_kernel (c : Dev nD) (E : Set ℕ) (i : grid0.Coords) (arg2 : Memref sig .tc .vmem S1x4096x256 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x32x64x128 .bf16) (harg7 : arg7.IsWhole) (arg8 : Memref sig .tc .vmem S1x32x64x128 .bf16) (harg8 : arg8.IsWhole) (arg9 : Memref sig .tc .vmem S1x32x16x128 .f32) (harg9 : arg9.IsWhole) (arg10 : Memref sig .tc .vmem S1x4096x256 .bf16) (harg10 : arg10.IsWhole) (arg11 : Memref sig .tc .vmem S1x4096x256 .bf16) (harg11 : arg11.IsWhole) (arg12 : Memref sig .tc .vmem S4x128x512 .f32) (harg12 : arg12.IsWhole) (arg13 : Memref sig .tc .vmem S4096x128 .bf16) (harg13 : arg13.IsWhole) (arg14 : Memref sig .tc .vmem S32x256x512 .bf16) (harg14 : arg14.IsWhole) (arg15 : Memref sig .tc .vmem S32x1x512 .f32) (harg15 : arg15.IsWhole) (arg16 : Memref sig .tc .vmem S32x80x512 .f32) (harg16 : arg16.IsWhole) (arg17 : Memref sig .tc .vmem S32x64x512 .f32) (harg17 : arg17.IsWhole) (arg18 : Memref sig .tc .vmem S4x512x512 .f32) (harg18 : arg18.IsWhole) (arg19 : Memref sig .tc .vmem S4x512x512 .bf16) (harg19 : arg19.IsWhole) (arg20 : Memref sig .tc .vmem S1024x512 .f32) (harg20 : arg20.IsWhole) (arg21 : Memref sig .tc .vmem S1024x512 .bf16) (harg21 : arg21.IsWhole) (arg22 : Memref sig .tc .vmem S2x1x512 .f32) (harg22 : arg22.IsWhole)
    (x2 : Vec F S1x4096x256 .bf16) (x3 : Vec F S1x256x128 .bf16) (x4 : Vec F S1x64x256 .bf16) (x5 : Vec F S1x4096x128 .bf16) (x6 : Vec F S1x4096x128 .bf16) (x7 : Vec F S1x32x64x128 .bf16) (x8 : Vec F S1x32x64x128 .bf16) (x9 : Vec F S1x32x16x128 .f32) (x10 : Vec F S1x4096x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have hl := last_checks
  obtain ⟨hl4, hl5, hl6, hl7⟩ := hl
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf2 hf3 hf4 hf5 hf6 hf7 hf8 hf9 hf10
  simp only [cc0_attn_eq_skeleton]; unfold cc0_attn_skel
  sl_exec_parts
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · sl_close
  isplitl [H12]
  · sl_close
  isplitl [H13]
  · sl_close
  isplitl [H14]
  · sl_close
  isplitl [H15]
  · sl_close
  isplitl [H16]
  · sl_close
  isplitl [H17]
  · sl_close
  isplitl [H18]
  · sl_close
  isplitl [H19]
  · sl_close
  isplitl [H20]
  · sl_close
  isplitl [H21]
  · sl_close
  sl_close

end Cert.Proof.AttnIdealBody

end
-- ==== Proof.AttnIdealRun.lean ====
/- The attention call runs at every point of its grid: it ends, nothing faults, its arguments end as they were. -/
module

public import proofs.«01_k».proof.Proof.AttnIdealBody
public import Idealize.ShloMosaic.Lib.Pipeline.Cells

@[expose] public section

set_option maxRecDepth 16384

noncomputable section

namespace Cert.Proof.AttnIdealRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the output's. -/
def fgt (w : Fin cfg0.W) : Bool := w == 9

/-- The data of the call: each input's buffer at its block, the output's at contents not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed ⟨9, by decide⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The scratch and the generator register, the scratch as buffers owned at some contents. -/
theorem phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d)) ∗ (∃ r, prngReg c r)) := by
  unfold Pipeline.ΦA; rw [scopedRest0_eq]; simp only [owns_whole]; try rfl

/-- What the body finds at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, phi_eq]
  iintro ⟨⟨⟨S0, S1, S2, S3, S4, S5, S6, S7, S8, S9, S10⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (AttnIdealBody.sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iintro ⟨H0, H1, H2, H3, H4, H5, H6, H7, H8, H9, S0, S1, S2, S3, S4, S5, S6, S7, S8, S9, S10⟩
  isplitl [S0 S1 S2 S3 S4 S5 S6 S7 S8 S9 S10 HP]
  · isplitr [HP]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

/-- An input's array ends as the region found it. -/
theorem held (c : Dev nD) (w : Fin cfg0.W) (hin : (cfg0.win w).isOut = false) (hw : fgt w = false) {G}
    (h : ((dats m 0 c).toRForget fgt).ArrAt w cfg0.N G) : G = V m c (Pipeline.arrRef spec0 w) :=
  (((dats m 0 c).toRForget_arrAt_iff hw cfg0.N G).1 h).trans (((dats m 0 c).arrAt_in w hin _).trans (A_eq m c w))

set_option backward.isDefEq.respectTransparency.types false in
set_option maxHeartbeats 800000 in
/-- The run: every argument array at its launch contents, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)
    (hQ' := fun r h => ⟨fun c => by
      have h := h.1
      exact ⟨(held m c 0 rfl rfl ((h c).1 0)).trans (V_main_arg0 m c),
      (held m c 1 rfl rfl ((h c).1 1)).trans (V_main_arg1 m c),
      (held m c 2 rfl rfl ((h c).1 2)).trans (V_main_arg2 m c),
      (held m c 4 rfl rfl ((h c).1 4)).trans (V_main_arg3 m c),
      (held m c 6 rfl rfl ((h c).1 6)).trans (V_main_arg4 m c),
      (held m c 7 rfl rfl ((h c).1 7)).trans (V_main_arg5 m c),
      (held m c 8 rfl rfl ((h c).1 8)).trans (V_main_arg6 m c)⟩, h.2⟩)

end Cert.Proof.AttnIdealRun

end
-- ==== Proof.AttnClaims.lean ====
/- The claims about the attention call: its frame, its idealization's, and that they are the same program. -/
module

public import proofs.«01_k».proof.Defs
public import proofs.«01_k».proof.Proof.AttnRun
public import proofs.«01_k».proof.Proof.AttnIdealRun

@[expose] public section

noncomputable section

namespace Cert.Proof.AttnClaims

open Idealize.ShloMosaic

theorem frame : Cert.quiescent_Attn := fun m ρ _ => AttnRun.frame m ρ
theorem frame_ideal : Cert.quiescent_AttnIdeal := fun m ρ _ => AttnIdealRun.frame m ρ
theorem preserves : Cert.preserves_Attn_AttnIdeal := trivial

end Cert.Proof.AttnClaims

end
-- ==== Proof.lean ====
/- The proof of the claims, call by call. -/
module

public import proofs.«01_k».proof.Defs
public import proofs.«01_k».proof.Proof.Gen.Proj
public import proofs.«01_k».proof.Proof.Gen.ProjIdeal
public import proofs.«01_k».proof.Proof.Gen.ProjRefIdeal
public import proofs.«01_k».proof.Proof.Gen.Out
public import proofs.«01_k».proof.Proof.Gen.OutIdeal
public import proofs.«01_k».proof.Proof.Gen.OutRefIdeal
public import proofs.«01_k».proof.Proof.Gen.Compress
public import proofs.«01_k».proof.Proof.Gen.CompressIdeal
public import proofs.«01_k».proof.Proof.Gen.CompressRefIdeal
public import proofs.«01_k».proof.Proof.Gen.Attn
public import proofs.«01_k».proof.Proof.Gen.AttnIdeal
public import proofs.«01_k».proof.Proof.Gen.On_there
public import proofs.«01_k».proof.Proof.OutClaims
public import proofs.«01_k».proof.Proof.ProjClaims
public import proofs.«01_k».proof.Proof.CompClaims
public import proofs.«01_k».proof.Proof.AttnClaims

@[expose] public section

noncomputable section

namespace Cert.Proof

theorem claim : Cert.Claim :=
  ⟨Cert.Proj.Gen.facts, Cert.ProjIdeal.Gen.facts, Cert.ProjRefIdeal.Gen.facts,
   Cert.Out.Gen.facts, Cert.OutIdeal.Gen.facts, Cert.OutRefIdeal.Gen.facts,
   Cert.Compress.Gen.facts, Cert.CompressIdeal.Gen.facts, Cert.CompressRefIdeal.Gen.facts,
   Cert.Attn.Gen.facts, Cert.AttnIdeal.Gen.facts, Cert.On_there.Gen.facts,
   ProjClaims.frame, ProjClaims.frame_ideal, ProjClaims.frame_ref,
   OutClaims.frame, OutClaims.frame_ideal, OutClaims.frame_ref,
   CompClaims.frame, CompClaims.frame_ideal, CompClaims.frame_ref,
   AttnClaims.frame, AttnClaims.frame_ideal,
   ProjClaims.preserves, ProjClaims.algebraic, OutClaims.preserves, OutClaims.algebraic,
   CompClaims.preserves, CompClaims.algebraic, AttnClaims.preserves⟩

end Cert.Proof

end
